-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCRefIdeal (m : (ℓ : Loc Cert.InCRefIdeal.nD Cert.InCRefIdeal.τ Cert.InCRefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_AttnPrompt (m : (ℓ : Loc Cert.AttnPrompt.nD Cert.AttnPrompt.τ Cert.AttnPrompt.sig) → Buf (Elt Bits) ℓ) : Prop :=
  True

def Pre_AttnPromptIdeal (m : (ℓ : Loc Cert.AttnPromptIdeal.nD Cert.AttnPromptIdeal.τ Cert.AttnPromptIdeal.sig) → Buf (Elt Ideal) ℓ) : Prop :=
  True

def Pre_AttnPromptIdeal_prompt_finite [hPre_prompt_finite : Cert.Pre_prompt_finite.Facts] (m : (ℓ : Loc Cert.AttnPromptIdeal.nD Cert.AttnPromptIdeal.τ Cert.AttnPromptIdeal.sig) → Buf (Elt Ideal) ℓ) : Prop :=
  ∀ c : Dev Cert.AttnPromptIdeal.nD,
    (Cert.Pre_prompt_finite.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3))).1 = (fun _ => 1#1)
    ∧ (Cert.Pre_prompt_finite.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3))).2.1 = (fun _ => 1#1)
    ∧ (Cert.Pre_prompt_finite.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3))).2.2 = (fun _ => 1#1)

def Pre_AttnPromptRefIdeal (m : (ℓ : Loc Cert.AttnPromptRefIdeal.nD Cert.AttnPromptRefIdeal.τ Cert.AttnPromptRefIdeal.sig) → Buf (Elt Ideal) ℓ) : Prop :=
  True

def Pre_AttnPromptRefIdeal_prompt_finite [hPre_prompt_finite : Cert.Pre_prompt_finite.Facts] (m : (ℓ : Loc Cert.AttnPromptRefIdeal.nD Cert.AttnPromptRefIdeal.τ Cert.AttnPromptRefIdeal.sig) → Buf (Elt Ideal) ℓ) : Prop :=
  ∀ c : Dev Cert.AttnPromptRefIdeal.nD,
    (Cert.Pre_prompt_finite.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3))).1 = (fun _ => 1#1)
    ∧ (Cert.Pre_prompt_finite.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3))).2.1 = (fun _ => 1#1)
    ∧ (Cert.Pre_prompt_finite.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3))).2.2 = (fun _ => 1#1)

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleRefIdeal (m : (ℓ : Loc Cert.AttnSampleRefIdeal.nD Cert.AttnSampleRefIdeal.τ Cert.AttnSampleRefIdeal.sig) → Buf (Elt Ideal) ℓ) : Prop :=
  True

def Pre_Lower (m : (ℓ : Loc Cert.Lower.nD Cert.Lower.τ Cert.Lower.sig) → Buf (Elt Bits) ℓ) : Prop :=
  True

def Pre_LowerIdeal (m : (ℓ : Loc Cert.LowerIdeal.nD Cert.LowerIdeal.τ Cert.LowerIdeal.sig) → Buf (Elt Ideal) ℓ) : Prop :=
  True

def Pre_LowerRefIdeal (m : (ℓ : Loc Cert.LowerRefIdeal.nD Cert.LowerRefIdeal.τ Cert.LowerRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ r.2.sem = fun _ => 0)

def quiescent_InCRefIdeal [hInCRefIdeal : Cert.InCRefIdeal.Facts] : Prop :=
  ∀ (m : (ℓ : Loc Cert.InCRefIdeal.nD Cert.InCRefIdeal.τ Cert.InCRefIdeal.sig) → Buf (Elt Ideal) ℓ) (g : Dev Cert.InCRefIdeal.nD → PrngReg), Pre_InCRefIdeal m →
    θ_run (Cert.InCRefIdeal.defs (F := Ideal)) (onTc (τ := Cert.InCRefIdeal.τ) (Cert.InCRefIdeal.main (F := Ideal))) ⟨m, fun _ => 0, g⟩ (fun r => (∀ c : Dev Cert.InCRefIdeal.nD,
      r.2.mem ((c.tc : Thread Cert.InCRefIdeal.nD Cert.InCRefIdeal.τ).loc Cert.InCRefIdeal.main_arg0) = m ((c.tc : Thread Cert.InCRefIdeal.nD Cert.InCRefIdeal.τ).loc Cert.InCRefIdeal.main_arg0)
      ∧ r.2.mem ((c.tc : Thread Cert.InCRefIdeal.nD Cert.InCRefIdeal.τ).loc Cert.InCRefIdeal.main_arg1) = m ((c.tc : Thread Cert.InCRefIdeal.nD Cert.InCRefIdeal.τ).loc Cert.InCRefIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_AttnPrompt [hAttnPrompt : Cert.AttnPrompt.Facts] : Prop :=
  ∀ (m : (ℓ : Loc Cert.AttnPrompt.nD Cert.AttnPrompt.τ Cert.AttnPrompt.sig) → Buf (Elt Bits) ℓ) (g : Dev Cert.AttnPrompt.nD → PrngReg), Pre_AttnPrompt m →
    θ_run (Cert.AttnPrompt.defs (F := Bits)) (onTc (τ := Cert.AttnPrompt.τ) (Cert.AttnPrompt.main (F := Bits))) ⟨m, fun _ => 0, g⟩ (fun r => (∀ c : Dev Cert.AttnPrompt.nD,
      r.2.mem ((c.tc : Thread Cert.AttnPrompt.nD Cert.AttnPrompt.τ).loc Cert.AttnPrompt.main_arg0) = m ((c.tc : Thread Cert.AttnPrompt.nD Cert.AttnPrompt.τ).loc Cert.AttnPrompt.main_arg0)
      ∧ r.2.mem ((c.tc : Thread Cert.AttnPrompt.nD Cert.AttnPrompt.τ).loc Cert.AttnPrompt.main_arg1) = m ((c.tc : Thread Cert.AttnPrompt.nD Cert.AttnPrompt.τ).loc Cert.AttnPrompt.main_arg1)
      ∧ r.2.mem ((c.tc : Thread Cert.AttnPrompt.nD Cert.AttnPrompt.τ).loc Cert.AttnPrompt.main_arg2) = m ((c.tc : Thread Cert.AttnPrompt.nD Cert.AttnPrompt.τ).loc Cert.AttnPrompt.main_arg2)
      ∧ r.2.mem ((c.tc : Thread Cert.AttnPrompt.nD Cert.AttnPrompt.τ).loc Cert.AttnPrompt.main_arg3) = m ((c.tc : Thread Cert.AttnPrompt.nD Cert.AttnPrompt.τ).loc Cert.AttnPrompt.main_arg3))
      ∧ r.2.sem = fun _ => 0)

def quiescent_AttnPromptIdeal [hAttnPromptIdeal : Cert.AttnPromptIdeal.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3))
      ∧ r.2.sem = fun _ => 0)

def quiescent_AttnPromptIdeal_pre_prompt_finite [hAttnPromptIdeal : Cert.AttnPromptIdeal.Facts] [hPre_prompt_finite : Cert.Pre_prompt_finite.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal_prompt_finite m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3))
      ∧ r.2.sem = fun _ => 0)

def quiescent_AttnPromptRefIdeal [hAttnPromptRefIdeal : Cert.AttnPromptRefIdeal.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3))
      ∧ r.2.sem = fun _ => 0)

def quiescent_AttnPromptRefIdeal_pre_prompt_finite [hAttnPromptRefIdeal : Cert.AttnPromptRefIdeal.Facts] [hPre_prompt_finite : Cert.Pre_prompt_finite.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal_prompt_finite m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4)
      ∧ r.2.mem ((c.tc : Thread Cert.AttnSample.nD Cert.AttnSample.τ).loc Cert.AttnSample.main_arg5) = m ((c.tc : Thread Cert.AttnSample.nD Cert.AttnSample.τ).loc Cert.AttnSample.main_arg5))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5))
      ∧ r.2.sem = fun _ => 0)

def quiescent_Lower [hLower : Cert.Lower.Facts] : Prop :=
  ∀ (m : (ℓ : Loc Cert.Lower.nD Cert.Lower.τ Cert.Lower.sig) → Buf (Elt Bits) ℓ) (g : Dev Cert.Lower.nD → PrngReg), Pre_Lower m →
    θ_run (Cert.Lower.defs (F := Bits)) (onTc (τ := Cert.Lower.τ) (Cert.Lower.main (F := Bits))) ⟨m, fun _ => 0, g⟩ (fun r => (∀ c : Dev Cert.Lower.nD,
      r.2.mem ((c.tc : Thread Cert.Lower.nD Cert.Lower.τ).loc Cert.Lower.main_arg0) = m ((c.tc : Thread Cert.Lower.nD Cert.Lower.τ).loc Cert.Lower.main_arg0))
      ∧ r.2.sem = fun _ => 0)

def quiescent_LowerIdeal [hLowerIdeal : Cert.LowerIdeal.Facts] : Prop :=
  ∀ (m : (ℓ : Loc Cert.LowerIdeal.nD Cert.LowerIdeal.τ Cert.LowerIdeal.sig) → Buf (Elt Ideal) ℓ) (g : Dev Cert.LowerIdeal.nD → PrngReg), Pre_LowerIdeal m →
    θ_run (Cert.LowerIdeal.defs (F := Ideal)) (onTc (τ := Cert.LowerIdeal.τ) (Cert.LowerIdeal.main (F := Ideal))) ⟨m, fun _ => 0, g⟩ (fun r => (∀ c : Dev Cert.LowerIdeal.nD,
      r.2.mem ((c.tc : Thread Cert.LowerIdeal.nD Cert.LowerIdeal.τ).loc Cert.LowerIdeal.main_arg0) = m ((c.tc : Thread Cert.LowerIdeal.nD Cert.LowerIdeal.τ).loc Cert.LowerIdeal.main_arg0))
      ∧ r.2.sem = fun _ => 0)

def quiescent_LowerRefIdeal [hLowerRefIdeal : Cert.LowerRefIdeal.Facts] : Prop :=
  ∀ (m : (ℓ : Loc Cert.LowerRefIdeal.nD Cert.LowerRefIdeal.τ Cert.LowerRefIdeal.sig) → Buf (Elt Ideal) ℓ) (g : Dev Cert.LowerRefIdeal.nD → PrngReg), Pre_LowerRefIdeal m →
    θ_run (Cert.LowerRefIdeal.defs (F := Ideal)) (onTc (τ := Cert.LowerRefIdeal.τ) (Cert.LowerRefIdeal.main (F := Ideal))) ⟨m, fun _ => 0, g⟩ (fun r => (∀ c : Dev Cert.LowerRefIdeal.nD,
      r.2.mem ((c.tc : Thread Cert.LowerRefIdeal.nD Cert.LowerRefIdeal.τ).loc Cert.LowerRefIdeal.main_arg0) = m ((c.tc : Thread Cert.LowerRefIdeal.nD Cert.LowerRefIdeal.τ).loc Cert.LowerRefIdeal.main_arg0))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)) →
    ∃ (v0 : (c : Dev Cert.SguIdeal.nD) → Buf (Elt Ideal) ((c.tc : Thread Cert.SguIdeal.nD Cert.SguIdeal.τ).loc Cert.SguIdeal.main_v17_0)) (v1 : (c : Dev Cert.SguIdeal.nD) → Buf (Elt Ideal) ((c.tc : Thread Cert.SguIdeal.nD Cert.SguIdeal.τ).loc Cert.SguIdeal.main_v17_1)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v17_0) = v0 c
          ∧ r.2.mem ((c.tc : Thread Cert.SguIdeal.nD Cert.SguIdeal.τ).loc Cert.SguIdeal.main_v17_1) = v1 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v69) = v0 c
          ∧ r.2.mem ((c.tc : Thread Cert.SguRefIdeal.nD Cert.SguRefIdeal.τ).loc Cert.SguRefIdeal.main_v67) = v1 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v2) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v3) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_InC_InCIdeal : Prop :=
  True

def algebraic_InCIdeal_InCRefIdeal [hInCIdeal : Cert.InCIdeal.Facts] [hInCRefIdeal : Cert.InCRefIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCRefIdeal.nD Cert.InCRefIdeal.τ Cert.InCRefIdeal.sig) → Buf (Elt Ideal) ℓ) (g' : Dev Cert.InCRefIdeal.nD → PrngReg), Pre_InCIdeal m →
    (∀ c : Dev Cert.InCIdeal.nD,
      m' ((c.tc : Thread Cert.InCRefIdeal.nD Cert.InCRefIdeal.τ).loc Cert.InCRefIdeal.main_arg0) = m ((c.tc : Thread Cert.InCIdeal.nD Cert.InCIdeal.τ).loc Cert.InCIdeal.main_arg0)
      ∧ m' ((c.tc : Thread Cert.InCRefIdeal.nD Cert.InCRefIdeal.τ).loc Cert.InCRefIdeal.main_arg1) = m ((c.tc : Thread Cert.InCIdeal.nD Cert.InCIdeal.τ).loc Cert.InCIdeal.main_arg1)) →
    ∃ (v0 : (c : Dev Cert.InCIdeal.nD) → Buf (Elt Ideal) ((c.tc : Thread Cert.InCIdeal.nD Cert.InCIdeal.τ).loc Cert.InCIdeal.main_v0)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v0) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ θ_run (Cert.InCRefIdeal.defs (F := Ideal)) (onTc (τ := Cert.InCRefIdeal.τ) (Cert.InCRefIdeal.main (F := Ideal))) ⟨m', fun _ => 0, g'⟩ (fun r => ∀ c : Dev Cert.InCRefIdeal.nD,
          r.2.mem ((c.tc : Thread Cert.InCRefIdeal.nD Cert.InCRefIdeal.τ).loc Cert.InCRefIdeal.main_v4) = v0 c
          ∧ r.2.mem ((c.tc : Thread Cert.InCRefIdeal.nD Cert.InCRefIdeal.τ).loc Cert.InCRefIdeal.main_arg0) = m' ((c.tc : Thread Cert.InCRefIdeal.nD Cert.InCRefIdeal.τ).loc Cert.InCRefIdeal.main_arg0)
          ∧ r.2.mem ((c.tc : Thread Cert.InCRefIdeal.nD Cert.InCRefIdeal.τ).loc Cert.InCRefIdeal.main_arg1) = m' ((c.tc : Thread Cert.InCRefIdeal.nD Cert.InCRefIdeal.τ).loc Cert.InCRefIdeal.main_arg1))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)) →
    ∃ (v0 : (c : Dev Cert.InGIdeal.nD) → Buf (Elt Ideal) ((c.tc : Thread Cert.InGIdeal.nD Cert.InGIdeal.τ).loc Cert.InGIdeal.main_v0)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v0) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v5) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_AttnPrompt_AttnPromptIdeal : Prop :=
  True

def algebraic_AttnPromptIdeal_AttnPromptRefIdeal_pre_prompt_finite [hAttnPromptIdeal : Cert.AttnPromptIdeal.Facts] [hAttnPromptRefIdeal : Cert.AttnPromptRefIdeal.Facts] [hPre_prompt_finite : Cert.Pre_prompt_finite.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg)
    (m' : (ℓ : Loc Cert.AttnPromptRefIdeal.nD Cert.AttnPromptRefIdeal.τ Cert.AttnPromptRefIdeal.sig) → Buf (Elt Ideal) ℓ) (g' : Dev Cert.AttnPromptRefIdeal.nD → PrngReg), Pre_AttnPromptIdeal_prompt_finite m →
    (∀ c : Dev Cert.AttnPromptIdeal.nD,
      m' ((c.tc : Thread Cert.AttnPromptRefIdeal.nD Cert.AttnPromptRefIdeal.τ).loc Cert.AttnPromptRefIdeal.main_arg0) = m ((c.tc : Thread Cert.AttnPromptIdeal.nD Cert.AttnPromptIdeal.τ).loc Cert.AttnPromptIdeal.main_arg0)
      ∧ m' ((c.tc : Thread Cert.AttnPromptRefIdeal.nD Cert.AttnPromptRefIdeal.τ).loc Cert.AttnPromptRefIdeal.main_arg1) = m ((c.tc : Thread Cert.AttnPromptIdeal.nD Cert.AttnPromptIdeal.τ).loc Cert.AttnPromptIdeal.main_arg1)
      ∧ m' ((c.tc : Thread Cert.AttnPromptRefIdeal.nD Cert.AttnPromptRefIdeal.τ).loc Cert.AttnPromptRefIdeal.main_arg2) = m ((c.tc : Thread Cert.AttnPromptIdeal.nD Cert.AttnPromptIdeal.τ).loc Cert.AttnPromptIdeal.main_arg2)
      ∧ m' ((c.tc : Thread Cert.AttnPromptRefIdeal.nD Cert.AttnPromptRefIdeal.τ).loc Cert.AttnPromptRefIdeal.main_arg3) = m ((c.tc : Thread Cert.AttnPromptIdeal.nD Cert.AttnPromptIdeal.τ).loc Cert.AttnPromptIdeal.main_arg3)) →
    ∃ (v0 : (c : Dev Cert.AttnPromptIdeal.nD) → Buf (Elt Ideal) ((c.tc : Thread Cert.AttnPromptIdeal.nD Cert.AttnPromptIdeal.τ).loc Cert.AttnPromptIdeal.main_v41_0)) (v1 : (c : Dev Cert.AttnPromptIdeal.nD) → Buf (Elt Ideal) ((c.tc : Thread Cert.AttnPromptIdeal.nD Cert.AttnPromptIdeal.τ).loc Cert.AttnPromptIdeal.main_v41_1)) (v2 : (c : Dev Cert.AttnPromptIdeal.nD) → Buf (Elt Ideal) ((c.tc : Thread Cert.AttnPromptIdeal.nD Cert.AttnPromptIdeal.τ).loc Cert.AttnPromptIdeal.main_v41_2)),
      θ_run (Cert.AttnPromptIdeal.defs (F := Ideal)) (onTc (τ := Cert.AttnPromptIdeal.τ) (Cert.AttnPromptIdeal.main (F := Ideal))) ⟨m, fun _ => 0, g⟩ (fun r => ∀ c : Dev Cert.AttnPromptIdeal.nD,
          r.2.mem ((c.tc : Thread Cert.AttnPromptIdeal.nD Cert.AttnPromptIdeal.τ).loc Cert.AttnPromptIdeal.main_v41_0) = v0 c
          ∧ r.2.mem ((c.tc : Thread Cert.AttnPromptIdeal.nD Cert.AttnPromptIdeal.τ).loc Cert.AttnPromptIdeal.main_v41_1) = v1 c
          ∧ r.2.mem ((c.tc : Thread Cert.AttnPromptIdeal.nD Cert.AttnPromptIdeal.τ).loc Cert.AttnPromptIdeal.main_v41_2) = v2 c
          ∧ r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
          ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
          ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
          ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3))
      ∧ θ_run (Cert.AttnPromptRefIdeal.defs (F := Ideal)) (onTc (τ := Cert.AttnPromptRefIdeal.τ) (Cert.AttnPromptRefIdeal.main (F := Ideal))) ⟨m', fun _ => 0, g'⟩ (fun r => ∀ c : Dev Cert.AttnPromptRefIdeal.nD,
          r.2.mem ((c.tc : Thread Cert.AttnPromptRefIdeal.nD Cert.AttnPromptRefIdeal.τ).loc Cert.AttnPromptRefIdeal.main_v170) = v0 c
          ∧ r.2.mem ((c.tc : Thread Cert.AttnPromptRefIdeal.nD Cert.AttnPromptRefIdeal.τ).loc Cert.AttnPromptRefIdeal.main_v167) = v1 c
          ∧ r.2.mem ((c.tc : Thread Cert.AttnPromptRefIdeal.nD Cert.AttnPromptRefIdeal.τ).loc Cert.AttnPromptRefIdeal.main_v169) = v2 c
          ∧ r.2.mem ((c.tc : Thread Cert.AttnPromptRefIdeal.nD Cert.AttnPromptRefIdeal.τ).loc Cert.AttnPromptRefIdeal.main_arg0) = m' ((c.tc : Thread Cert.AttnPromptRefIdeal.nD Cert.AttnPromptRefIdeal.τ).loc Cert.AttnPromptRefIdeal.main_arg0)
          ∧ r.2.mem ((c.tc : Thread Cert.AttnPromptRefIdeal.nD Cert.AttnPromptRefIdeal.τ).loc Cert.AttnPromptRefIdeal.main_arg1) = m' ((c.tc : Thread Cert.AttnPromptRefIdeal.nD Cert.AttnPromptRefIdeal.τ).loc Cert.AttnPromptRefIdeal.main_arg1)
          ∧ r.2.mem ((c.tc : Thread Cert.AttnPromptRefIdeal.nD Cert.AttnPromptRefIdeal.τ).loc Cert.AttnPromptRefIdeal.main_arg2) = m' ((c.tc : Thread Cert.AttnPromptRefIdeal.nD Cert.AttnPromptRefIdeal.τ).loc Cert.AttnPromptRefIdeal.main_arg2)
          ∧ r.2.mem ((c.tc : Thread Cert.AttnPromptRefIdeal.nD Cert.AttnPromptRefIdeal.τ).loc Cert.AttnPromptRefIdeal.main_arg3) = m' ((c.tc : Thread Cert.AttnPromptRefIdeal.nD Cert.AttnPromptRefIdeal.τ).loc Cert.AttnPromptRefIdeal.main_arg3))

def preserves_AttnSample_AttnSampleIdeal : Prop :=
  True

def algebraic_AttnSampleIdeal_AttnSampleRefIdeal [hAttnSampleIdeal : Cert.AttnSampleIdeal.Facts] [hAttnSampleRefIdeal : Cert.AttnSampleRefIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)
      ∧ m' ((c.tc : Thread Cert.AttnSampleRefIdeal.nD Cert.AttnSampleRefIdeal.τ).loc Cert.AttnSampleRefIdeal.main_arg3) = m ((c.tc : Thread Cert.AttnSampleIdeal.nD Cert.AttnSampleIdeal.τ).loc Cert.AttnSampleIdeal.main_arg3)
      ∧ m' ((c.tc : Thread Cert.AttnSampleRefIdeal.nD Cert.AttnSampleRefIdeal.τ).loc Cert.AttnSampleRefIdeal.main_arg4) = m ((c.tc : Thread Cert.AttnSampleIdeal.nD Cert.AttnSampleIdeal.τ).loc Cert.AttnSampleIdeal.main_arg4)
      ∧ m' ((c.tc : Thread Cert.AttnSampleRefIdeal.nD Cert.AttnSampleRefIdeal.τ).loc Cert.AttnSampleRefIdeal.main_arg5) = m ((c.tc : Thread Cert.AttnSampleIdeal.nD Cert.AttnSampleIdeal.τ).loc Cert.AttnSampleIdeal.main_arg5)) →
    ∃ (v0 : (c : Dev Cert.AttnSampleIdeal.nD) → Buf (Elt Ideal) ((c.tc : Thread Cert.AttnSampleIdeal.nD Cert.AttnSampleIdeal.τ).loc Cert.AttnSampleIdeal.main_v45_1)) (v1 : (c : Dev Cert.AttnSampleIdeal.nD) → Buf (Elt Ideal) ((c.tc : Thread Cert.AttnSampleIdeal.nD Cert.AttnSampleIdeal.τ).loc Cert.AttnSampleIdeal.main_v45_2)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v45_1) = v0 c
          ∧ r.2.mem ((c.tc : Thread Cert.AttnSampleIdeal.nD Cert.AttnSampleIdeal.τ).loc Cert.AttnSampleIdeal.main_v45_2) = v1 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
          ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
          ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v55) = v0 c
          ∧ r.2.mem ((c.tc : Thread Cert.AttnSampleRefIdeal.nD Cert.AttnSampleRefIdeal.τ).loc Cert.AttnSampleRefIdeal.main_v57) = v1 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2)
          ∧ r.2.mem ((c.tc : Thread Cert.AttnSampleRefIdeal.nD Cert.AttnSampleRefIdeal.τ).loc Cert.AttnSampleRefIdeal.main_arg3) = m' ((c.tc : Thread Cert.AttnSampleRefIdeal.nD Cert.AttnSampleRefIdeal.τ).loc Cert.AttnSampleRefIdeal.main_arg3)
          ∧ r.2.mem ((c.tc : Thread Cert.AttnSampleRefIdeal.nD Cert.AttnSampleRefIdeal.τ).loc Cert.AttnSampleRefIdeal.main_arg4) = m' ((c.tc : Thread Cert.AttnSampleRefIdeal.nD Cert.AttnSampleRefIdeal.τ).loc Cert.AttnSampleRefIdeal.main_arg4)
          ∧ r.2.mem ((c.tc : Thread Cert.AttnSampleRefIdeal.nD Cert.AttnSampleRefIdeal.τ).loc Cert.AttnSampleRefIdeal.main_arg5) = m' ((c.tc : Thread Cert.AttnSampleRefIdeal.nD Cert.AttnSampleRefIdeal.τ).loc Cert.AttnSampleRefIdeal.main_arg5))

def preserves_Lower_LowerIdeal : Prop :=
  True

def algebraic_LowerIdeal_LowerRefIdeal [hLowerIdeal : Cert.LowerIdeal.Facts] [hLowerRefIdeal : Cert.LowerRefIdeal.Facts] : Prop :=
  ∀ (m : (ℓ : Loc Cert.LowerIdeal.nD Cert.LowerIdeal.τ Cert.LowerIdeal.sig) → Buf (Elt Ideal) ℓ) (g : Dev Cert.LowerIdeal.nD → PrngReg)
    (m' : (ℓ : Loc Cert.LowerRefIdeal.nD Cert.LowerRefIdeal.τ Cert.LowerRefIdeal.sig) → Buf (Elt Ideal) ℓ) (g' : Dev Cert.LowerRefIdeal.nD → PrngReg), Pre_LowerIdeal m →
    (∀ c : Dev Cert.LowerIdeal.nD,
      m' ((c.tc : Thread Cert.LowerRefIdeal.nD Cert.LowerRefIdeal.τ).loc Cert.LowerRefIdeal.main_arg0) = m ((c.tc : Thread Cert.LowerIdeal.nD Cert.LowerIdeal.τ).loc Cert.LowerIdeal.main_arg0)) →
    ∃ (v0 : (c : Dev Cert.LowerIdeal.nD) → Buf (Elt Ideal) ((c.tc : Thread Cert.LowerIdeal.nD Cert.LowerIdeal.τ).loc Cert.LowerIdeal.main_v0_0)) (v1 : (c : Dev Cert.LowerIdeal.nD) → Buf (Elt Ideal) ((c.tc : Thread Cert.LowerIdeal.nD Cert.LowerIdeal.τ).loc Cert.LowerIdeal.main_v0_1)),
      θ_run (Cert.LowerIdeal.defs (F := Ideal)) (onTc (τ := Cert.LowerIdeal.τ) (Cert.LowerIdeal.main (F := Ideal))) ⟨m, fun _ => 0, g⟩ (fun r => ∀ c : Dev Cert.LowerIdeal.nD,
          r.2.mem ((c.tc : Thread Cert.LowerIdeal.nD Cert.LowerIdeal.τ).loc Cert.LowerIdeal.main_v0_0) = v0 c
          ∧ r.2.mem ((c.tc : Thread Cert.LowerIdeal.nD Cert.LowerIdeal.τ).loc Cert.LowerIdeal.main_v0_1) = v1 c
          ∧ r.2.mem ((c.tc : Thread Cert.LowerIdeal.nD Cert.LowerIdeal.τ).loc Cert.LowerIdeal.main_arg0) = m ((c.tc : Thread Cert.LowerIdeal.nD Cert.LowerIdeal.τ).loc Cert.LowerIdeal.main_arg0))
      ∧ θ_run (Cert.LowerRefIdeal.defs (F := Ideal)) (onTc (τ := Cert.LowerRefIdeal.τ) (Cert.LowerRefIdeal.main (F := Ideal))) ⟨m', fun _ => 0, g'⟩ (fun r => ∀ c : Dev Cert.LowerRefIdeal.nD,
          r.2.mem ((c.tc : Thread Cert.LowerRefIdeal.nD Cert.LowerRefIdeal.τ).loc Cert.LowerRefIdeal.main_v15) = v0 c
          ∧ r.2.mem ((c.tc : Thread Cert.LowerRefIdeal.nD Cert.LowerRefIdeal.τ).loc Cert.LowerRefIdeal.main_v17) = v1 c
          ∧ r.2.mem ((c.tc : Thread Cert.LowerRefIdeal.nD Cert.LowerRefIdeal.τ).loc Cert.LowerRefIdeal.main_arg0) = m' ((c.tc : Thread Cert.LowerRefIdeal.nD Cert.LowerRefIdeal.τ).loc Cert.LowerRefIdeal.main_arg0))

def Claim : Prop :=
  ∃ (hSgu : Cert.Sgu.Facts) (hSguIdeal : Cert.SguIdeal.Facts) (hSguRefIdeal : Cert.SguRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hInC : Cert.InC.Facts) (hInCIdeal : Cert.InCIdeal.Facts) (hInCRefIdeal : Cert.InCRefIdeal.Facts) (hInG : Cert.InG.Facts) (hInGIdeal : Cert.InGIdeal.Facts) (hInGRefIdeal : Cert.InGRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hNorm : Cert.Norm.Facts) (hNormIdeal : Cert.NormIdeal.Facts) (hNormRefIdeal : Cert.NormRefIdeal.Facts) (hAttnPrompt : Cert.AttnPrompt.Facts) (hAttnPromptIdeal : Cert.AttnPromptIdeal.Facts) (hAttnPromptRefIdeal : Cert.AttnPromptRefIdeal.Facts) (hAttnSample : Cert.AttnSample.Facts) (hAttnSampleIdeal : Cert.AttnSampleIdeal.Facts) (hAttnSampleRefIdeal : Cert.AttnSampleRefIdeal.Facts) (hLower : Cert.Lower.Facts) (hLowerIdeal : Cert.LowerIdeal.Facts) (hLowerRefIdeal : Cert.LowerRefIdeal.Facts) (hPre_prompt_finite : Cert.Pre_prompt_finite.Facts),
    quiescent_Sgu (hSgu := hSgu)
    ∧ quiescent_SguIdeal (hSguIdeal := hSguIdeal)
    ∧ quiescent_SguRefIdeal (hSguRefIdeal := hSguRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_InC (hInC := hInC)
    ∧ quiescent_InCIdeal (hInCIdeal := hInCIdeal)
    ∧ quiescent_InCRefIdeal (hInCRefIdeal := hInCRefIdeal)
    ∧ quiescent_InG (hInG := hInG)
    ∧ quiescent_InGIdeal (hInGIdeal := hInGIdeal)
    ∧ quiescent_InGRefIdeal (hInGRefIdeal := hInGRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Norm (hNorm := hNorm)
    ∧ quiescent_NormIdeal (hNormIdeal := hNormIdeal)
    ∧ quiescent_NormRefIdeal (hNormRefIdeal := hNormRefIdeal)
    ∧ quiescent_AttnPrompt (hAttnPrompt := hAttnPrompt)
    ∧ quiescent_AttnPromptIdeal (hAttnPromptIdeal := hAttnPromptIdeal)
    ∧ quiescent_AttnPromptIdeal_pre_prompt_finite (hAttnPromptIdeal := hAttnPromptIdeal) (hPre_prompt_finite := hPre_prompt_finite)
    ∧ quiescent_AttnPromptRefIdeal (hAttnPromptRefIdeal := hAttnPromptRefIdeal)
    ∧ quiescent_AttnPromptRefIdeal_pre_prompt_finite (hAttnPromptRefIdeal := hAttnPromptRefIdeal) (hPre_prompt_finite := hPre_prompt_finite)
    ∧ quiescent_AttnSample (hAttnSample := hAttnSample)
    ∧ quiescent_AttnSampleIdeal (hAttnSampleIdeal := hAttnSampleIdeal)
    ∧ quiescent_AttnSampleRefIdeal (hAttnSampleRefIdeal := hAttnSampleRefIdeal)
    ∧ quiescent_Lower (hLower := hLower)
    ∧ quiescent_LowerIdeal (hLowerIdeal := hLowerIdeal)
    ∧ quiescent_LowerRefIdeal (hLowerRefIdeal := hLowerRefIdeal)
    ∧ preserves_Sgu_SguIdeal
    ∧ algebraic_SguIdeal_SguRefIdeal (hSguIdeal := hSguIdeal) (hSguRefIdeal := hSguRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_InC_InCIdeal
    ∧ algebraic_InCIdeal_InCRefIdeal (hInCIdeal := hInCIdeal) (hInCRefIdeal := hInCRefIdeal)
    ∧ preserves_InG_InGIdeal
    ∧ algebraic_InGIdeal_InGRefIdeal (hInGIdeal := hInGIdeal) (hInGRefIdeal := hInGRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Norm_NormIdeal
    ∧ algebraic_NormIdeal_NormRefIdeal (hNormIdeal := hNormIdeal) (hNormRefIdeal := hNormRefIdeal)
    ∧ preserves_AttnPrompt_AttnPromptIdeal
    ∧ algebraic_AttnPromptIdeal_AttnPromptRefIdeal_pre_prompt_finite (hAttnPromptIdeal := hAttnPromptIdeal) (hAttnPromptRefIdeal := hAttnPromptRefIdeal) (hPre_prompt_finite := hPre_prompt_finite)
    ∧ preserves_AttnSample_AttnSampleIdeal
    ∧ algebraic_AttnSampleIdeal_AttnSampleRefIdeal (hAttnSampleIdeal := hAttnSampleIdeal) (hAttnSampleRefIdeal := hAttnSampleRefIdeal)
    ∧ preserves_Lower_LowerIdeal
    ∧ algebraic_LowerIdeal_LowerRefIdeal (hLowerIdeal := hLowerIdeal) (hLowerRefIdeal := hLowerRefIdeal)
-- ==== Pre_prompt_finite.lean ====
abbrev S8320x1536 : Shape := ⟨2, ![8320, 1536]⟩
abbrev S64 : Shape := ⟨1, ![64]⟩
abbrev S16 : Shape := ⟨1, ![16]⟩
abbrev S_ : Shape := ⟨0, ![]⟩

class Facts : Prop where
  bcast_S_S64 : S_.BroadcastsInDim S64 (![] : Fin 0 → Fin S64.rank)
  bcast_S_S16 : S_.BroadcastsInDim S16 (![] : Fin 0 → Fin S16.rank)

variable [Facts]

def fn {F : FTy → Type} [FloatOps F] (main_arg0 : FVec F S8320x1536 .f32) (main_arg1 : FVec F S64 .f32) (main_arg2 : FVec F S64 .f32) (main_arg3 : FVec F S16 .f32) : IVec S64 1 × IVec S64 1 × IVec S16 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg2
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_cst_1 : FVec F S_ .f32 := constant S_ .f32 0x7F800000#32
  let main_v6 : FVec F S16 .f32 := broadcastInDim S16 ![] bcast_S_S16 main_cst_1
  let main_v7 : IVec S16 1 := cmpf .olt main_arg3 main_v6
  (main_v2, main_v5, main_v7)
-- ==== Sgu.lean ====
abbrev S8320x2048 : Shape := ⟨2, ![8320, 2048]⟩
abbrev S8x128x128 : Shape := ⟨3, ![8, 128, 128]⟩
abbrev S8x128 : Shape := ⟨2, ![8, 128]⟩
abbrev S128 : Shape := ⟨1, ![128]⟩
abbrev S1x128 : Shape := ⟨2, ![1, 128]⟩
abbrev S8x4x4 : Shape := ⟨3, ![8, 4, 4]⟩
abbrev S1x8x1x4x1x4 : Shape := ⟨6, ![1, 8, 1, 4, 1, 4]⟩
abbrev S1x8x32x4x32x4 : Shape := ⟨6, ![1, 8, 32, 4, 32, 4]⟩
abbrev S8x4 : Shape := ⟨2, ![8, 4]⟩
abbrev S1x8x1x4 : Shape := ⟨4, ![1, 8, 1, 4]⟩
abbrev S1x8x32x4 : Shape := ⟨4, ![1, 8, 32, 4]⟩
abbrev S1x8x128x128 : Shape := ⟨4, ![1, 8, 128, 128]⟩
abbrev S2x8x128x128 : Shape := ⟨4, ![2, 8, 128, 128]⟩
abbrev S128x8 : Shape := ⟨2, ![128, 8]⟩
abbrev S1x128x8 : Shape := ⟨3, ![1, 128, 8]⟩
abbrev S2x128x8 : Shape := ⟨3, ![2, 128, 8]⟩
abbrev S8320x1024 : Shape := ⟨2, ![8320, 1024]⟩
abbrev S128x1024 : Shape := ⟨2, ![128, 1024]⟩
abbrev S128x128 : Shape := ⟨2, ![128, 128]⟩
abbrev S128x1 : Shape := ⟨2, ![128, 1]⟩
abbrev S1x1x128x128 : Shape := ⟨4, ![1, 1, 128, 128]⟩

abbrev nBuf : Space → Nat
  | .hbm => 23
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S8x128x128, .f32⟩
  | .hbm, ⟨2, _⟩ => ⟨S8x128, .f32⟩
  | .hbm, ⟨3, _⟩ => ⟨S128, .f32⟩
  | .hbm, ⟨4, _⟩ => ⟨S1x128, .f32⟩
  | .hbm, ⟨5, _⟩ => ⟨S8x4x4, .f32⟩
  | .hbm, ⟨6, _⟩ => ⟨S1x8x1x4x1x4, .f32⟩
  | .hbm, ⟨7, _⟩ => ⟨S1x8x32x4x32x4, .f32⟩
  | .hbm, ⟨8, _⟩ => ⟨S8x128x128, .f32⟩
  | .hbm, ⟨9, _⟩ => ⟨S8x4, .f32⟩
  | .hbm, ⟨10, _⟩ => ⟨S1x8x1x4, .f32⟩
  | .hbm, ⟨11, _⟩ => ⟨S1x8x32x4, .f32⟩
  | .hbm, ⟨12, _⟩ => ⟨S8x128, .f32⟩
  | .hbm, ⟨13, _⟩ => ⟨S1x8x128x128, .f32⟩
  | .hbm, ⟨14, _⟩ => ⟨S1x8x128x128, .f32⟩
  | .hbm, ⟨15, _⟩ => ⟨S2x8x128x128, .f32⟩
  | .hbm, ⟨16, _⟩ => ⟨S128x8, .f32⟩
  | .hbm, ⟨17, _⟩ => ⟨S128x8, .f32⟩
  | .hbm, ⟨18, _⟩ => ⟨S1x128x8, .f32⟩
  | .hbm, ⟨19, _⟩ => ⟨S1x128x8, .f32⟩
  | .hbm, ⟨20, _⟩ => ⟨S2x128x8, .f32⟩
  | .hbm, ⟨21, _⟩ => ⟨S8320x1024, .bf16⟩
  | .hbm, ⟨22, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x8x128x128, .f32⟩
  | .local _ .vmem, ⟨5, _⟩ => ⟨S1x8x128x128, .f32⟩
  | .local _ .vmem, ⟨6, _⟩ => ⟨S1x128x8, .f32⟩
  | .local _ .vmem, ⟨7, _⟩ => ⟨S1x128x8, .f32⟩
  | .local _ .vmem, ⟨8, _⟩ => ⟨S1x128, .f32⟩
  | .local _ .vmem, ⟨9, _⟩ => ⟨S128x1024, .bf16⟩
  | .local _ .vmem, ⟨10, _⟩ => ⟨S128x1024, .bf16⟩
  | .local _ .vmem, ⟨11, _⟩ => ⟨S128x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .eq arg0 c64_i32
  let v88 : BitVec 32 := Scalar.extui v0
  let c0_i32_29 : BitVec 32 := 0#32
  let v89 : BitVec 1 := Scalar.cmpi .ne v88 c0_i32_29
  v89

def k0_cond2 (i : grid0.Coords) : BitVec 1 :=
  let arg0 : BitVec 32 := BitVec.ofNat 32 (i 0).val
  let c64_i32 : BitVec 32 := 64#32
  let v0 : BitVec 1 := Scalar.cmpi .eq arg0 c64_i32
  let v117 : BitVec 32 := Scalar.extui v0
  let c0_i32_43 : BitVec 32 := 0#32
  let v118 : BitVec 1 := Scalar.cmpi .ne v117 c0_i32_43
  v118

def k0_cond3 (i : grid0.Coords) : BitVec 1 :=
  let arg0 : BitVec 32 := BitVec.ofNat 32 (i 0).val
  let c64_i32 : BitVec 32 := 64#32
  let v0 : BitVec 1 := Scalar.cmpi .eq arg0 c64_i32
  let v146 : BitVec 32 := Scalar.extui v0
  let c0_i32_57 : BitVec 32 := 0#32
  let v147 : BitVec 1 := Scalar.cmpi .ne v146 c0_i32_57
  v147

def k0_cond4 (i : grid0.Coords) : BitVec 1 :=
  let arg0 : BitVec 32 := BitVec.ofNat 32 (i 0).val
  let c64_i32 : BitVec 32 := 64#32
  let v0 : BitVec 1 := Scalar.cmpi .eq arg0 c64_i32
  let v175 : BitVec 32 := Scalar.extui v0
  let c0_i32_71 : BitVec 32 := 0#32
  let v176 : BitVec 1 := Scalar.cmpi .ne v175 c0_i32_71
  v176

def k0_cond5 (i : grid0.Coords) : BitVec 1 :=
  let arg0 : BitVec 32 := BitVec.ofNat 32 (i 0).val
  let c64_i32 : BitVec 32 := 64#32
  let v0 : BitVec 1 := Scalar.cmpi .eq arg0 c64_i32
  let v204 : BitVec 32 := Scalar.extui v0
  let c0_i32_85 : BitVec 32 := 0#32
  let v205 : BitVec 1 := Scalar.cmpi .ne v204 c0_i32_85
  v205

def k0_cond6 (i : grid0.Coords) : BitVec 1 :=
  let arg0 : BitVec 32 := BitVec.ofNat 32 (i 0).val
  let c64_i32 : BitVec 32 := 64#32
  let v0 : BitVec 1 := Scalar.cmpi .eq arg0 c64_i32
  let v233 : BitVec 32 := Scalar.extui v0
  let c0_i32_99 : BitVec 32 := 0#32
  let v234 : BitVec 1 := Scalar.cmpi .ne v233 c0_i32_99
  v234

def k0_cond7 (i : grid0.Coords) : BitVec 1 :=
  let arg0 : BitVec 32 := BitVec.ofNat 32 (i 0).val
  let c64_i32 : BitVec 32 := 64#32
  let v0 : BitVec 1 := Scalar.cmpi .eq arg0 c64_i32
  let v262 : BitVec 32 := Scalar.extui v0
  let c0_i32_113 : BitVec 32 := 0#32
  let v263 : BitVec 1 := Scalar.cmpi .ne v262 c0_i32_113
  v263

def k0_cond8 (i : grid0.Coords) : BitVec 1 :=
  let arg0 : BitVec 32 := BitVec.ofNat 32 (i 0).val
  let c64_i32 : BitVec 32 := 64#32
  let v0 : BitVec 1 := Scalar.cmpi .eq arg0 c64_i32
  let v291 : BitVec 32 := Scalar.extui v0
  let c0_i32_127 : BitVec 32 := 0#32
  let v292 : BitVec 1 := Scalar.cmpi .ne v291 c0_i32_127
  v292

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SguRefIdeal.lean ====
abbrev S8320x2048 : Shape := ⟨2, ![8320, 2048]⟩
abbrev S8x128x128 : Shape := ⟨3, ![8, 128, 128]⟩
abbrev S8x128 : Shape := ⟨2, ![8, 128]⟩
abbrev S128 : Shape := ⟨1, ![128]⟩
abbrev S8192x2048 : Shape := ⟨2, ![8192, 2048]⟩
abbrev S8192x1024 : Shape := ⟨2, ![8192, 1024]⟩
abbrev S4x2048x8x128 : Shape := ⟨4, ![4, 2048, 8, 128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S128x2048 : Shape := ⟨2, ![128, 2048]⟩
abbrev S128x1024 : Shape := ⟨2, ![128, 1024]⟩
abbrev S32x4x8x128 : Shape := ⟨4, ![32, 4, 8, 128]⟩
abbrev S32x4x8 : Shape := ⟨3, ![32, 4, 8]⟩
abbrev S32x4x8x1 : Shape := ⟨4, ![32, 4, 8, 1]⟩
abbrev S32x1x4x8x128 : Shape := ⟨5, ![32, 1, 4, 8, 128]⟩
abbrev S4x4 : Shape := ⟨2, ![4, 4]⟩
abbrev S1x4x4 : Shape := ⟨3, ![1, 4, 4]⟩
abbrev S8x4x4 : Shape := ⟨3, ![8, 4, 4]⟩
abbrev S8x32x1x128x4 : Shape := ⟨5, ![8, 32, 1, 128, 4]⟩
abbrev S8x4 : Shape := ⟨2, ![8, 4]⟩
abbrev S4x8 : Shape := ⟨2, ![4, 8]⟩
abbrev S1x1x4x8x1 : Shape := ⟨5, ![1, 1, 4, 8, 1]⟩
abbrev S8320x1024 : Shape := ⟨2, ![8320, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8x128x128, .f32⟩
  | .hbm, ⟨2, _⟩ => ⟨S8x128, .f32⟩
  | .hbm, ⟨3, _⟩ => ⟨S128, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S4x2048x8x128, .f32⟩
  | .hbm, ⟨8, _⟩ => ⟨S4x2048x8x128, .f32⟩
  | .hbm, ⟨9, _⟩ => ⟨S_, .f32⟩
  | .hbm, ⟨10, _⟩ => ⟨S4x2048x8, .f32⟩
  | .hbm, ⟨11, _⟩ => ⟨S4x2048x8x1, .f32⟩
  | .hbm, ⟨12, _⟩ => ⟨S_, .f32⟩
  | .hbm, ⟨13, _⟩ => ⟨S4x2048x8x1, .f32⟩
  | .hbm, ⟨14, _⟩ => ⟨S4x2048x8x1, .f32⟩
  | .hbm, ⟨15, _⟩ => ⟨S_, .f32⟩
  | .hbm, ⟨16, _⟩ => ⟨S4x2048x8x1, .f32⟩
  | .hbm, ⟨17, _⟩ => ⟨S4x2048x8x1, .f32⟩
  | .hbm, ⟨18, _⟩ => ⟨S4x2048x8x1, .f32⟩
  | .hbm, ⟨19, _⟩ => ⟨S4x2048x8x128, .f32⟩
  | .hbm, ⟨20, _⟩ => ⟨S4x2048x8x128, .f32⟩
  | .hbm, ⟨21, _⟩ => ⟨S1x1x1x128, .f32⟩
  | .hbm, ⟨22, _⟩ => ⟨S4x2048x8x128, .f32⟩
  | .hbm, ⟨23, _⟩ => ⟨S4x2048x8x128, .f32⟩
  | .hbm, ⟨24, _⟩ => ⟨S4x2048x8x128, .f32⟩
  | .hbm, ⟨25, _⟩ => ⟨S4x16x128x8x128, .f32⟩
  | .hbm, ⟨26, _⟩ => ⟨S_, .i1⟩
  | .hbm, ⟨27, _⟩ => ⟨S128x128, .i1⟩
  | .hbm, ⟨28, _⟩ => ⟨S128x128, .i32⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S_, .i1⟩
  | .hbm, ⟨35, _⟩ => ⟨S128x128, .i1⟩
  | .hbm, ⟨36, _⟩ => ⟨S128x128, .i1⟩
  | .hbm, ⟨37, _⟩ => ⟨S1x128x128, .i1⟩
  | .hbm, ⟨38, _⟩ => ⟨S_, .f32⟩
  | .hbm, ⟨39, _⟩ => ⟨S_, .f32⟩
  | .hbm, ⟨40, _⟩ => ⟨S8x128x128, .i1⟩
  | .hbm, ⟨41, _⟩ => ⟨S8x128x128, .f32⟩
  | .hbm, ⟨42, _⟩ => ⟨S8x128x128, .f32⟩
  | .hbm, ⟨43, _⟩ => ⟨S8x4x16x128x128, .f32⟩
  | .hbm, ⟨44, _⟩ => ⟨S4x16x128x8x128, .f32⟩
  | .hbm, ⟨45, _⟩ => ⟨S128x8, .f32⟩
  | .hbm, ⟨46, _⟩ => ⟨S1x1x128x8x1, .f32⟩
  | .hbm, ⟨47, _⟩ => ⟨S4x16x128x8x128, .f32⟩
  | .hbm, ⟨48, _⟩ => ⟨S4x16x128x8x128, .f32⟩
  | .hbm, ⟨49, _⟩ => ⟨S4x2048x8x128, .f32⟩
  | .hbm, ⟨50, _⟩ => ⟨S4x2048x8x128, .f32⟩
  | .hbm, ⟨51, _⟩ => ⟨S8192x1024, .f32⟩
  | .hbm, ⟨52, _⟩ => ⟨S8192x1024, .f32⟩
  | .hbm, ⟨53, _⟩ => ⟨S128x2048, .f32⟩
  | .hbm, ⟨54, _⟩ => ⟨S128x1024, .f32⟩
  | .hbm, ⟨55, _⟩ => ⟨S128x1024, .f32⟩
  | .hbm, ⟨56, _⟩ => ⟨S32x4x8x128, .f32⟩
  | .hbm, ⟨57, _⟩ => ⟨S32x4x8x128, .f32⟩
  | .hbm, ⟨58, _⟩ => ⟨S_, .f32⟩
  | .hbm, ⟨59, _⟩ => ⟨S32x4x8, .f32⟩
  | .hbm, ⟨60, _⟩ => ⟨S32x4x8x1, .f32⟩
  | .hbm, ⟨61, _⟩ => ⟨S_, .f32⟩
  | .hbm, ⟨62, _⟩ => ⟨S32x4x8x1, .f32⟩
  | .hbm, ⟨63, _⟩ => ⟨S32x4x8x1, .f32⟩
  | .hbm, ⟨64, _⟩ => ⟨S_, .f32⟩
  | .hbm, ⟨65, _⟩ => ⟨S32x4x8x1, .f32⟩
  | .hbm, ⟨66, _⟩ => ⟨S32x4x8x1, .f32⟩
  | .hbm, ⟨67, _⟩ => ⟨S32x4x8x1, .f32⟩
  | .hbm, ⟨68, _⟩ => ⟨S32x4x8x128, .f32⟩
  | .hbm, ⟨69, _⟩ => ⟨S32x4x8x128, .f32⟩
  | .hbm, ⟨70, _⟩ => ⟨S1x1x1x128, .f32⟩
  | .hbm, ⟨71, _⟩ => ⟨S32x4x8x128, .f32⟩
  | .hbm, ⟨72, _⟩ => ⟨S32x4x8x128, .f32⟩
  | .hbm, ⟨73, _⟩ => ⟨S32x4x8x128, .f32⟩
  | .hbm, ⟨74, _⟩ => ⟨S32x1x4x8x128, .f32⟩
  | .hbm, ⟨75, _⟩ => ⟨S_, .i1⟩
  | .hbm, ⟨76, _⟩ => ⟨S4x4, .i1⟩
  | .hbm, ⟨77, _⟩ => ⟨S4x4, .i32⟩
  | .hbm, ⟨78, _⟩ => ⟨S_, .i32⟩
  | .hbm, ⟨79, _⟩ => ⟨S4x4, .i32⟩
  | .hbm, ⟨80, _⟩ => ⟨S4x4, .i32⟩
  | .hbm, ⟨81, _⟩ => ⟨S4x4, .i32⟩
  | .hbm, ⟨82, _⟩ => ⟨S4x4, .i1⟩
  | .hbm, ⟨83, _⟩ => ⟨S_, .i1⟩
  | .hbm, ⟨84, _⟩ => ⟨S4x4, .i1⟩
  | .hbm, ⟨85, _⟩ => ⟨S4x4, .i1⟩
  | .hbm, ⟨86, _⟩ => ⟨S1x4x4, .i1⟩
  | .hbm, ⟨87, _⟩ => ⟨S8x4x4, .f32⟩
  | .hbm, ⟨88, _⟩ => ⟨S_, .f32⟩
  | .hbm, ⟨89, _⟩ => ⟨S_, .f32⟩
  | .hbm, ⟨90, _⟩ => ⟨S8x4x4, .i1⟩
  | .hbm, ⟨91, _⟩ => ⟨S8x4x4, .f32⟩
  | .hbm, ⟨92, _⟩ => ⟨S8x4x4, .f32⟩
  | .hbm, ⟨93, _⟩ => ⟨S8x32x1x128x4, .f32⟩
  | .hbm, ⟨94, _⟩ => ⟨S32x1x4x8x128, .f32⟩
  | .hbm, ⟨95, _⟩ => ⟨S8x4, .f32⟩
  | .hbm, ⟨96, _⟩ => ⟨S4x8, .f32⟩
  | .hbm, ⟨97, _⟩ => ⟨S1x1x4x8x1, .f32⟩
  | .hbm, ⟨98, _⟩ => ⟨S32x1x4x8x128, .f32⟩
  | .hbm, ⟨99, _⟩ => ⟨S32x1x4x8x128, .f32⟩
  | .hbm, ⟨100, _⟩ => ⟨S32x4x8x128, .f32⟩
  | .hbm, ⟨101, _⟩ => ⟨S32x4x8x128, .f32⟩
  | .hbm, ⟨102, _⟩ => ⟨S128x1024, .f32⟩
  | .hbm, ⟨103, _⟩ => ⟨S128x1024, .f32⟩
  | .hbm, ⟨104, _⟩ => ⟨S8320x1024, .f32⟩
  | .hbm, ⟨105, _⟩ => ⟨S8320x1024, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_v52 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_0 : Ref sig .tc := ⟨.hbm, 83, rfl⟩
abbrev main_call2_v5 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]
-- ==== InA.lean ====
abbrev S8320x2048 : Shape := ⟨2, ![8320, 2048]⟩
abbrev S2048x13824 : Shape := ⟨2, ![2048, 13824]⟩
abbrev S8320x1536 : Shape := ⟨2, ![8320, 1536]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x13824, .f32⟩
  | .hbm, ⟨2, _⟩ => ⟨S8320x1536, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InARefIdeal.lean ====
abbrev S8320x2048 : Shape := ⟨2, ![8320, 2048]⟩
abbrev S2048x13824 : Shape := ⟨2, ![2048, 13824]⟩
abbrev S8320x13824 : Shape := ⟨2, ![8320, 13824]⟩
abbrev S8320x1536 : Shape := ⟨2, ![8320, 1536]⟩
abbrev S8320x4096 : Shape := ⟨2, ![8320, 4096]⟩
abbrev S8320x6144 : Shape := ⟨2, ![8320, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x13824, .f32⟩
  | .hbm, ⟨2, _⟩ => ⟨S8320x2048, .f32⟩
  | .hbm, ⟨3, _⟩ => ⟨S8320x13824, .f32⟩
  | .hbm, ⟨4, _⟩ => ⟨S8320x1536, .f32⟩
  | .hbm, ⟨5, _⟩ => ⟨S8320x4096, .f32⟩
  | .hbm, ⟨6, _⟩ => ⟨S8320x2048, .f32⟩
  | .hbm, ⟨7, _⟩ => ⟨S8320x6144, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InB.lean ====
abbrev S8320x2048 : Shape := ⟨2, ![8320, 2048]⟩
abbrev S2048x13824 : Shape := ⟨2, ![2048, 13824]⟩
abbrev S8320x4096 : Shape := ⟨2, ![8320, 4096]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x13824, .f32⟩
  | .hbm, ⟨2, _⟩ => ⟨S8320x4096, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBRefIdeal.lean ====
abbrev S8320x2048 : Shape := ⟨2, ![8320, 2048]⟩
abbrev S2048x13824 : Shape := ⟨2, ![2048, 13824]⟩
abbrev S8320x13824 : Shape := ⟨2, ![8320, 13824]⟩
abbrev S8320x1536 : Shape := ⟨2, ![8320, 1536]⟩
abbrev S8320x4096 : Shape := ⟨2, ![8320, 4096]⟩
abbrev S8320x6144 : Shape := ⟨2, ![8320, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x13824, .f32⟩
  | .hbm, ⟨2, _⟩ => ⟨S8320x2048, .f32⟩
  | .hbm, ⟨3, _⟩ => ⟨S8320x13824, .f32⟩
  | .hbm, ⟨4, _⟩ => ⟨S8320x1536, .f32⟩
  | .hbm, ⟨5, _⟩ => ⟨S8320x4096, .f32⟩
  | .hbm, ⟨6, _⟩ => ⟨S8320x2048, .f32⟩
  | .hbm, ⟨7, _⟩ => ⟨S8320x6144, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InC.lean ====
abbrev S8320x2048 : Shape := ⟨2, ![8320, 2048]⟩
abbrev S2048x13824 : Shape := ⟨2, ![2048, 13824]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x13824, .f32⟩
  | .hbm, ⟨2, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InCRefIdeal.lean ====
abbrev S8320x2048 : Shape := ⟨2, ![8320, 2048]⟩
abbrev S2048x13824 : Shape := ⟨2, ![2048, 13824]⟩
abbrev S8320x13824 : Shape := ⟨2, ![8320, 13824]⟩
abbrev S8320x1536 : Shape := ⟨2, ![8320, 1536]⟩
abbrev S8320x4096 : Shape := ⟨2, ![8320, 4096]⟩
abbrev S8320x6144 : Shape := ⟨2, ![8320, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x13824, .f32⟩
  | .hbm, ⟨2, _⟩ => ⟨S8320x2048, .f32⟩
  | .hbm, ⟨3, _⟩ => ⟨S8320x13824, .f32⟩
  | .hbm, ⟨4, _⟩ => ⟨S8320x1536, .f32⟩
  | .hbm, ⟨5, _⟩ => ⟨S8320x4096, .f32⟩
  | .hbm, ⟨6, _⟩ => ⟨S8320x2048, .f32⟩
  | .hbm, ⟨7, _⟩ => ⟨S8320x6144, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InG.lean ====
abbrev S8320x2048 : Shape := ⟨2, ![8320, 2048]⟩
abbrev S2048x13824 : Shape := ⟨2, ![2048, 13824]⟩
abbrev S8320x6144 : Shape := ⟨2, ![8320, 6144]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x13824, .f32⟩
  | .hbm, ⟨2, _⟩ => ⟨S8320x6144, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi arg1 c15_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGRefIdeal.lean ====
abbrev S8320x2048 : Shape := ⟨2, ![8320, 2048]⟩
abbrev S2048x13824 : Shape := ⟨2, ![2048, 13824]⟩
abbrev S8320x13824 : Shape := ⟨2, ![8320, 13824]⟩
abbrev S8320x1536 : Shape := ⟨2, ![8320, 1536]⟩
abbrev S8320x4096 : Shape := ⟨2, ![8320, 4096]⟩
abbrev S8320x6144 : Shape := ⟨2, ![8320, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x13824, .f32⟩
  | .hbm, ⟨2, _⟩ => ⟨S8320x2048, .f32⟩
  | .hbm, ⟨3, _⟩ => ⟨S8320x13824, .f32⟩
  | .hbm, ⟨4, _⟩ => ⟨S8320x1536, .f32⟩
  | .hbm, ⟨5, _⟩ => ⟨S8320x4096, .f32⟩
  | .hbm, ⟨6, _⟩ => ⟨S8320x2048, .f32⟩
  | .hbm, ⟨7, _⟩ => ⟨S8320x6144, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Merge.lean ====
abbrev S8320x1024 : Shape := ⟨2, ![8320, 1024]⟩
abbrev S8320x6144 : Shape := ⟨2, ![8320, 6144]⟩
abbrev S1024x2048 : Shape := ⟨2, ![1024, 2048]⟩
abbrev S8320x2048 : Shape := ⟨2, ![8320, 2048]⟩
abbrev S1040x1024 : Shape := ⟨2, ![1040, 1024]⟩
abbrev S1024x512 : Shape := ⟨2, ![1024, 512]⟩
abbrev S1040x512 : Shape := ⟨2, ![1040, 512]⟩

abbrev nBuf : Space → Nat
  | .hbm => 8
  | .vmem => 20
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x6144, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S8320x2048, .bf16⟩
  | .local _ .vmem, ⟨0, _⟩ => ⟨S1040x1024, .bf16⟩
  | .local _ .vmem, ⟨1, _⟩ => ⟨S1040x1024, .bf16⟩
  | .local _ .vmem, ⟨2, _⟩ => ⟨S1040x1024, .bf16⟩
  | .local _ .vmem, ⟨3, _⟩ => ⟨S1040x1024, .bf16⟩
  | .local _ .vmem, ⟨4, _⟩ => ⟨S1040x1024, .bf16⟩
  | .local _ .vmem, ⟨5, _⟩ => ⟨S1040x1024, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1040x512, .f32⟩
  | .local _ .vmem, ⟨13, _⟩ => ⟨S1040x512, .f32⟩
  | .local _ .vmem, ⟨14, _⟩ => ⟨S1040x512, .f32⟩
  | .local _ .vmem, ⟨15, _⟩ => ⟨S1040x512, .f32⟩
  | .local _ .vmem, ⟨16, _⟩ => ⟨S1040x512, .f32⟩
  | .local _ .vmem, ⟨17, _⟩ => ⟨S1040x512, .f32⟩
  | .local _ .vmem, ⟨18, _⟩ => ⟨S1040x512, .bf16⟩
  | .local _ .vmem, ⟨19, _⟩ => ⟨S1040x512, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1040x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1040x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1040x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1040x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1040x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8320x1024 : Shape := ⟨2, ![8320, 1024]⟩
abbrev S8320x6144 : Shape := ⟨2, ![8320, 6144]⟩
abbrev S1024x2048 : Shape := ⟨2, ![1024, 2048]⟩
abbrev S_ : Shape := ⟨0, ![]⟩
abbrev S8320x2048 : Shape := ⟨2, ![8320, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x6144, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S8320x6144, .f32⟩
  | .hbm, ⟨8, _⟩ => ⟨S8320x6144, .f32⟩
  | .hbm, ⟨9, _⟩ => ⟨S_, .f32⟩
  | .hbm, ⟨10, _⟩ => ⟨S8320x6144, .f32⟩
  | .hbm, ⟨11, _⟩ => ⟨S8320x6144, .f32⟩
  | .hbm, ⟨12, _⟩ => ⟨S_, .f32⟩
  | .hbm, ⟨13, _⟩ => ⟨S8320x6144, .f32⟩
  | .hbm, ⟨14, _⟩ => ⟨S8320x6144, .f32⟩
  | .hbm, ⟨15, _⟩ => ⟨S8320x2048, .f32⟩
  | .hbm, ⟨16, _⟩ => ⟨S8320x2048, .f32⟩
  | .hbm, ⟨17, _⟩ => ⟨S8320x2048, .f32⟩
  | .hbm, ⟨18, _⟩ => ⟨S8320x1024, .f32⟩
  | .hbm, ⟨19, _⟩ => ⟨S8320x2048, .f32⟩
  | .hbm, ⟨20, _⟩ => ⟨S8320x2048, .f32⟩
  | .hbm, ⟨21, _⟩ => ⟨S8320x1024, .f32⟩
  | .hbm, ⟨22, _⟩ => ⟨S8320x2048, .f32⟩
  | .hbm, ⟨23, _⟩ => ⟨S8320x2048, .f32⟩
  | .hbm, ⟨24, _⟩ => ⟨S8320x2048, .f32⟩
  | .hbm, ⟨25, _⟩ => ⟨S8320x1024, .f32⟩
  | .hbm, ⟨26, _⟩ => ⟨S8320x2048, .f32⟩
  | .hbm, ⟨27, _⟩ => ⟨S8320x2048, .f32⟩
  | .hbm, ⟨28, _⟩ => ⟨S8320x2048, .f32⟩
  | .hbm, ⟨29, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Out.lean ====
abbrev S8320x2048 : Shape := ⟨2, ![8320, 2048]⟩
abbrev S2048x2048 : Shape := ⟨2, ![2048, 2048]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 4
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8320x2048 : Shape := ⟨2, ![8320, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S8320x2048, .f32⟩
  | .hbm, ⟨4, _⟩ => ⟨S8320x2048, .f32⟩
  | .hbm, ⟨5, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Down.lean ====
abbrev S8320x5632 : Shape := ⟨2, ![8320, 5632]⟩
abbrev S5632x2048 : Shape := ⟨2, ![5632, 2048]⟩
abbrev S8320x2048 : Shape := ⟨2, ![8320, 2048]⟩
abbrev S1040x5632 : Shape := ⟨2, ![1040, 5632]⟩
abbrev S5632x256 : Shape := ⟨2, ![5632, 256]⟩
abbrev S1040x256 : Shape := ⟨2, ![1040, 256]⟩

abbrev nBuf : Space → Nat
  | .hbm => 4
  | .vmem => 8
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .f32⟩
  | .hbm, ⟨2, _⟩ => ⟨S8320x2048, .f32⟩
  | .hbm, ⟨3, _⟩ => ⟨S8320x2048, .f32⟩
  | .local _ .vmem, ⟨0, _⟩ => ⟨S1040x5632, .bf16⟩
  | .local _ .vmem, ⟨1, _⟩ => ⟨S1040x5632, .bf16⟩
  | .local _ .vmem, ⟨2, _⟩ => ⟨S5632x256, .f32⟩
  | .local _ .vmem, ⟨3, _⟩ => ⟨S5632x256, .f32⟩
  | .local _ .vmem, ⟨4, _⟩ => ⟨S1040x256, .f32⟩
  | .local _ .vmem, ⟨5, _⟩ => ⟨S1040x256, .f32⟩
  | .local _ .vmem, ⟨6, _⟩ => ⟨S1040x256, .f32⟩
  | .local _ .vmem, ⟨7, _⟩ => ⟨S1040x256, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8320x5632 : Shape := ⟨2, ![8320, 5632]⟩
abbrev S5632x2048 : Shape := ⟨2, ![5632, 2048]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .f32⟩
  | .hbm, ⟨2, _⟩ => ⟨S8320x2048, .f32⟩
  | .hbm, ⟨3, _⟩ => ⟨S8320x5632, .f32⟩
  | .hbm, ⟨4, _⟩ => ⟨S8320x2048, .f32⟩
  | .hbm, ⟨5, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Up.lean ====
abbrev S8320x2048 : Shape := ⟨2, ![8320, 2048]⟩
abbrev S2048x11264 : Shape := ⟨2, ![2048, 11264]⟩
abbrev S8320x5632 : Shape := ⟨2, ![8320, 5632]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .f32⟩
  | .hbm, ⟨2, _⟩ => ⟨S8320x5632, .bf16⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1040x512, .bf16⟩
  | .local _ .vmem, ⟨7, _⟩ => ⟨S1040x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1040x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8320x2048 : Shape := ⟨2, ![8320, 2048]⟩
abbrev S2048x11264 : Shape := ⟨2, ![2048, 11264]⟩
abbrev S8320x11264 : Shape := ⟨2, ![8320, 11264]⟩
abbrev S8320x5632 : Shape := ⟨2, ![8320, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .f32⟩
  | .hbm, ⟨2, _⟩ => ⟨S8320x2048, .f32⟩
  | .hbm, ⟨3, _⟩ => ⟨S8320x11264, .f32⟩
  | .hbm, ⟨4, _⟩ => ⟨S8320x5632, .f32⟩
  | .hbm, ⟨5, _⟩ => ⟨S8320x5632, .f32⟩
  | .hbm, ⟨6, _⟩ => ⟨S8320x5632, .f32⟩
  | .hbm, ⟨7, _⟩ => ⟨S8320x5632, .f32⟩
  | .hbm, ⟨8, _⟩ => ⟨S_, .f32⟩
  | .hbm, ⟨9, _⟩ => ⟨S8320x5632, .f32⟩
  | .hbm, ⟨10, _⟩ => ⟨S8320x5632, .f32⟩
  | .hbm, ⟨11, _⟩ => ⟨S_, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S8320x5632, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Norm.lean ====
abbrev S8320x2048 : Shape := ⟨2, ![8320, 2048]⟩
abbrev S2048 : Shape := ⟨1, ![2048]⟩
abbrev S1x2048 : Shape := ⟨2, ![1, 2048]⟩
abbrev S1040x2048 : Shape := ⟨2, ![1040, 2048]⟩
abbrev S1040 : Shape := ⟨1, ![1040]⟩
abbrev S1040x1 : Shape := ⟨2, ![1040, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .bf16⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S1040x2048, .bf16⟩
  | .local _ .vmem, ⟨4, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1040x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | .hbm, ⟨18, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AttnPrompt.lean ====
abbrev S8320x1536 : Shape := ⟨2, ![8320, 1536]⟩
abbrev S64 : Shape := ⟨1, ![64]⟩
abbrev S16 : Shape := ⟨1, ![16]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S2048 : Shape := ⟨1, ![2048]⟩
abbrev S_ : Shape := ⟨0, ![]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8192x1024 : Shape := ⟨2, ![8192, 1024]⟩
abbrev S4x128x256 : Shape := ⟨3, ![4, 128, 256]⟩
abbrev S128x1024 : Shape := ⟨2, ![128, 1024]⟩
abbrev S128x512 : Shape := ⟨2, ![128, 512]⟩
abbrev S128x128 : Shape := ⟨2, ![128, 128]⟩
abbrev S1x128x256 : Shape := ⟨3, ![1, 128, 256]⟩
abbrev S256x256 : Shape := ⟨2, ![256, 256]⟩
abbrev S128x256 : Shape := ⟨2, ![128, 256]⟩
abbrev S128x64 : Shape := ⟨2, ![128, 64]⟩
abbrev S128 : Shape := ⟨1, ![128]⟩
abbrev S128x1 : Shape := ⟨2, ![128, 1]⟩
abbrev S256x64 : Shape := ⟨2, ![256, 64]⟩
abbrev S1 : Shape := ⟨1, ![1]⟩

abbrev nBuf : Space → Nat
  | .hbm => 54
  | .vmem => 20
  | .smem => 1
  | _ => 0

abbrev bufTy : (tb : Table) → Fin (tcTables nBuf tb) → BufTy
  | .hbm, ⟨0, _⟩ => ⟨S8320x1536, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S1x64, .f32⟩
  | .hbm, ⟨5, _⟩ => ⟨S16x64, .f32⟩
  | .hbm, ⟨6, _⟩ => ⟨S1024, .f32⟩
  | .hbm, ⟨7, _⟩ => ⟨S1x1024, .f32⟩
  | .hbm, ⟨8, _⟩ => ⟨S1x64, .f32⟩
  | .hbm, ⟨9, _⟩ => ⟨S4x64, .f32⟩
  | .hbm, ⟨10, _⟩ => ⟨S256, .f32⟩
  | .hbm, ⟨11, _⟩ => ⟨S1x256, .f32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S2048x1, .f32⟩
  | .hbm, ⟨26, _⟩ => ⟨S1x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S_, .f32⟩
  | .hbm, ⟨33, _⟩ => ⟨S2048x8, .f32⟩
  | .hbm, ⟨34, _⟩ => ⟨S_, .f32⟩
  | .hbm, ⟨35, _⟩ => ⟨S2048x48, .f32⟩
  | .hbm, ⟨36, _⟩ => ⟨S_, .f32⟩
  | .hbm, ⟨37, _⟩ => ⟨S2048x48, .f32⟩
  | .hbm, ⟨38, _⟩ => ⟨S2048x64, .f32⟩
  | .hbm, ⟨39, _⟩ => ⟨S2048x8, .f32⟩
  | .hbm, ⟨40, _⟩ => ⟨S2048x64, .f32⟩
  | .hbm, ⟨41, _⟩ => ⟨S2048x64, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S1x2048x1x64, .f32⟩
  | .hbm, ⟨46, _⟩ => ⟨S1x2048x2x64, .f32⟩
  | .hbm, ⟨47, _⟩ => ⟨S2048x128, .f32⟩
  | .hbm, ⟨48, _⟩ => ⟨S1x2048x1x64, .f32⟩
  | .hbm, ⟨49, _⟩ => ⟨S1x2048x2x64, .f32⟩
  | .hbm, ⟨50, _⟩ => ⟨S2048x128, .f32⟩
  | .hbm, ⟨51, _⟩ => ⟨S8192x1024, .bf16⟩
  | .hbm, ⟨52, _⟩ => ⟨S4x128x256, .f32⟩
  | .hbm, ⟨53, _⟩ => ⟨S4x128x256, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x1024, .f32⟩
  | .local _ .vmem, ⟨11, _⟩ => ⟨S1x256, .f32⟩
  | .local _ .vmem, ⟨12, _⟩ => ⟨S128x1024, .bf16⟩
  | .local _ .vmem, ⟨13, _⟩ => ⟨S128x1024, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S256x256, .f32⟩
  | .local _ .vmem, ⟨19, _⟩ => ⟨S256x256, .f32⟩
  | .local _ .smem, ⟨0, _⟩ => ⟨S16, .f32⟩
  | _, _ => ⟨S8320x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev main_v41_2 : Ref sig .tc := ⟨.hbm, 53, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v741 : BitVec 1 := Scalar.cmpi .eq arg1 c15_i32
  let v742 : BitVec 32 := Scalar.extui v741
  let c0_i32_216 : BitVec 32 := 0#32
  let v743 : BitVec 1 := Scalar.cmpi .ne v742 c0_i32_216
  v743

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== AttnPromptRefIdeal.lean ====
abbrev S8320x1536 : Shape := ⟨2, ![8320, 1536]⟩
abbrev S64 : Shape := ⟨1, ![64]⟩
abbrev S16 : Shape := ⟨1, ![16]⟩
abbrev S_ : Shape := ⟨0, ![]⟩
abbrev S4x128x4x64 : Shape := ⟨4, ![4, 128, 4, 64]⟩
abbrev S8192x1536 : Shape := ⟨2, ![8192, 1536]⟩
abbrev S4x2048x1536 : Shape := ⟨3, ![4, 2048, 1536]⟩
abbrev S4x2048x1024 : Shape := ⟨3, ![4, 2048, 1024]⟩
abbrev S4x2048x256 : Shape := ⟨3, ![4, 2048, 256]⟩
abbrev S4x2048x16x64 : Shape := ⟨4, ![4, 2048, 16, 64]⟩
abbrev S4x2048x16 : Shape := ⟨3, ![4, 2048, 16]⟩
abbrev S4x2048x16x1 : Shape := ⟨4, ![4, 2048, 16, 1]⟩
abbrev S1x1x1x64 : Shape := ⟨4, ![1, 1, 1, 64]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S4x2048x16x8 : Shape := ⟨4, ![4, 2048, 16, 8]⟩
abbrev S4x2048x16x48 : Shape := ⟨4, ![4, 2048, 16, 48]⟩
abbrev S4x2048x4x64 : Shape := ⟨4, ![4, 2048, 4, 64]⟩
abbrev S4x2048x4 : Shape := ⟨3, ![4, 2048, 4]⟩
abbrev S4x2048x4x1 : Shape := ⟨4, ![4, 2048, 4, 1]⟩
abbrev S4x2048x4x8 : Shape := ⟨4, ![4, 2048, 4, 8]⟩
abbrev S4x2048x4x48 : Shape := ⟨4, ![4, 2048, 4, 48]⟩
abbrev S4x2176x4x64 : Shape := ⟨4, ![4, 2176, 4, 64]⟩
abbrev S4x16x128x4x4x64 : Shape := ⟨6, ![4, 16, 128, 4, 4, 64]⟩
abbrev S256 : Shape := ⟨1, ![256]⟩
abbrev S16x1 : Shape := ⟨2, ![16, 1]⟩
abbrev S1x256 : Shape := ⟨2, ![1, 256]⟩
abbrev S16x256 : Shape := ⟨2, ![16, 256]⟩
abbrev S16x256x1 : Shape := ⟨3, ![16, 256, 1]⟩
abbrev S1 : Shape := ⟨1, ![1]⟩
abbrev S1x1x1 : Shape := ⟨3, ![1, 1, 1]⟩
abbrev S4x16x256x4x64 : Shape := ⟨5, ![4, 16, 256, 4, 64]⟩
abbrev S4x16x4x256x128x4 : Shape := ⟨6, ![4, 16, 4, 256, 128, 4]⟩
abbrev S4x16x4x4x128x256 : Shape := ⟨6, ![4, 16, 4, 4, 128, 256]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x4x4x1x1 : Shape := ⟨6, ![1, 1, 4, 4, 1, 1]⟩
abbrev S4x16x4x4x128 : Shape := ⟨5, ![4, 16, 4, 4, 128]⟩
abbrev S4x16x4x4x128x1 : Shape := ⟨6, ![4, 16, 4, 4, 128, 1]⟩
abbrev S4x16x4x64x4x128 : Shape := ⟨6, ![4, 16, 4, 64, 4, 128]⟩
abbrev S4x128x256 : Shape := ⟨3, ![4, 128, 256]⟩
abbrev S8192x1024 : Shape := ⟨2, ![8192, 1024]⟩

abbrev nBuf : Space → Nat
  | .hbm => 249
  | .vmem => 0
  | .smem => 0
  | _ => 0

abbrev hbmTy0_0 (i : Nat) : BufTy := match i % 128 with
  | 0 => ⟨S8320x1536, .f32⟩
  | 1 => ⟨S64, .f32⟩
  | 2 => ⟨S64, .f32⟩
  | 3 => ⟨S16, .f32⟩
  | 4 => ⟨S_, .f32⟩
  | 5 => ⟨S4x128x4x64, .f32⟩
  | 6 => ⟨S8192x1536, .f32⟩
  | 7 => ⟨S4x2048x1536, .f32⟩
  | 8 => ⟨S4x2048x1024, .f32⟩
  | 9 => ⟨S4x2048x256, .f32⟩
  | 10 => ⟨S4x2048x256, .f32⟩
  | 11 => ⟨S4x2048x16x64, .f32⟩
  | 12 => ⟨S4x2048x16x64, .f32⟩
  | 13 => ⟨S_, .f32⟩
  | 14 => ⟨S4x2048x16, .f32⟩
  | 15 => ⟨S4x2048x16x1, .f32⟩
  | 16 => ⟨S_, .f32⟩
  | 17 => ⟨S4x2048x16x1, .f32⟩
  | 18 => ⟨S4x2048x16x1, .f32⟩
  | 19 => ⟨S_, .f32⟩
  | 20 => ⟨S4x2048x16x1, .f32⟩
  | 21 => ⟨S4x2048x16x1, .f32⟩
  | 22 => ⟨S4x2048x16x1, .f32⟩
  | 23 => ⟨S4x2048x16x64, .f32⟩
  | 24 => ⟨S4x2048x16x64, .f32⟩
  | 25 => ⟨S1x1x1x64, .f32⟩
  | 26 => ⟨S4x2048x16x64, .f32⟩
  | 27 => ⟨S4x2048x16x64, .f32⟩
  | 28 => ⟨S2048, .i32⟩
  | 29 => ⟨S_, .i32⟩
  | 30 => ⟨S2048, .i32⟩
  | 31 => ⟨S2048, .i32⟩
  | 32 => ⟨S2048, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S2048x1, .f32⟩
  | 42 => ⟨S1x8, .f32⟩
  | 43 => ⟨S2048x8, .f32⟩
  | 44 => ⟨S2048x8, .f32⟩
  | 45 => ⟨S2048x8, .f32⟩
  | 46 => ⟨S2048x8, .f32⟩
  | 47 => ⟨S1x2048x1x8, .f32⟩
  | 48 => ⟨S2048x8, .f32⟩
  | 49 => ⟨S1x2048x1x8, .f32⟩
  | 50 => ⟨S4x2048x16x8, .f32⟩
  | 51 => ⟨S4x2048x16x8, .f32⟩
  | 52 => ⟨S4x2048x16x8, .f32⟩
  | 53 => ⟨S4x2048x16x8, .f32⟩
  | 54 => ⟨S4x2048x16x8, .f32⟩
  | 55 => ⟨S4x2048x16x8, .f32⟩
  | 56 => ⟨S4x2048x16x8, .f32⟩
  | 57 => ⟨S4x2048x16x8, .f32⟩
  | 58 => ⟨S4x2048x16x8, .f32⟩
  | 59 => ⟨S4x2048x16x8, .f32⟩
  | 60 => ⟨S4x2048x16x8, .f32⟩
  | 61 => ⟨S4x2048x16x8, .f32⟩
  | 62 => ⟨S4x2048x16x48, .f32⟩
  | 63 => ⟨S4x2048x16x64, .f32⟩
  | 64 => ⟨S4x2048x4x64, .f32⟩
  | 65 => ⟨S4x2048x4x64, .f32⟩
  | 66 => ⟨S_, .f32⟩
  | 67 => ⟨S4x2048x4, .f32⟩
  | 68 => ⟨S4x2048x4x1, .f32⟩
  | 69 => ⟨S_, .f32⟩
  | 70 => ⟨S4x2048x4x1, .f32⟩
  | 71 => ⟨S4x2048x4x1, .f32⟩
  | 72 => ⟨S_, .f32⟩
  | 73 => ⟨S4x2048x4x1, .f32⟩
  | 74 => ⟨S4x2048x4x1, .f32⟩
  | 75 => ⟨S4x2048x4x1, .f32⟩
  | 76 => ⟨S4x2048x4x64, .f32⟩
  | 77 => ⟨S4x2048x4x64, .f32⟩
  | 78 => ⟨S1x1x1x64, .f32⟩
  | 79 => ⟨S4x2048x4x64, .f32⟩
  | 80 => ⟨S4x2048x4x64, .f32⟩
  | 81 => ⟨S2048, .i32⟩
  | 82 => ⟨S_, .i32⟩
  | 83 => ⟨S2048, .i32⟩
  | 84 => ⟨S2048, .i32⟩
  | 85 => ⟨S2048, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S2048x1, .f32⟩
  | 95 => ⟨S1x8, .f32⟩
  | 96 => ⟨S2048x8, .f32⟩
  | 97 => ⟨S2048x8, .f32⟩
  | 98 => ⟨S2048x8, .f32⟩
  | 99 => ⟨S2048x8, .f32⟩
  | 100 => ⟨S1x2048x1x8, .f32⟩
  | 101 => ⟨S2048x8, .f32⟩
  | 102 => ⟨S1x2048x1x8, .f32⟩
  | 103 => ⟨S4x2048x4x8, .f32⟩
  | 104 => ⟨S4x2048x4x8, .f32⟩
  | 105 => ⟨S4x2048x4x8, .f32⟩
  | 106 => ⟨S4x2048x4x8, .f32⟩
  | 107 => ⟨S4x2048x4x8, .f32⟩
  | 108 => ⟨S4x2048x4x8, .f32⟩
  | 109 => ⟨S4x2048x4x8, .f32⟩
  | 110 => ⟨S4x2048x4x8, .f32⟩
  | 111 => ⟨S4x2048x4x8, .f32⟩
  | 112 => ⟨S4x2048x4x8, .f32⟩
  | 113 => ⟨S4x2048x4x8, .f32⟩
  | 114 => ⟨S4x2048x4x8, .f32⟩
  | 115 => ⟨S4x2048x4x48, .f32⟩
  | 116 => ⟨S4x2048x4x64, .f32⟩
  | 117 => ⟨S4x2176x4x64, .f32⟩
  | 118 => ⟨S4x2048x4x64, .f32⟩
  | 119 => ⟨S4x2176x4x64, .f32⟩
  | 120 => ⟨S_, .i32⟩
  | 121 => ⟨S_, .f32⟩
  | 122 => ⟨S4x2048x16x64, .f32⟩
  | 123 => ⟨S_, .i32⟩
  | 124 => ⟨S_, .f32⟩
  | 125 => ⟨S4x2176x4x64, .f32⟩
  | 126 => ⟨S_, .i32⟩
  | 127 => ⟨S_, .f32⟩
  | _ => ⟨S8320x1536, .f32⟩

abbrev hbmTy0_1 (i : Nat) : BufTy := match i % 128 with
  | 0 => ⟨S4x2176x4x64, .f32⟩
  | 1 => ⟨S4x16x128x4x4x64, .f32⟩
  | 2 => ⟨S16, .i32⟩
  | 3 => ⟨S256, .i32⟩
  | 4 => ⟨S16x1, .i32⟩
  | 5 => ⟨S_, .i32⟩
  | 6 => ⟨S16x1, .i32⟩
  | 7 => ⟨S16x1, .i32⟩
  | 8 => ⟨S1x256, .i32⟩
  | 9 => ⟨S16x256, .i32⟩
  | 10 => ⟨S16x256, .i32⟩
  | 11 => ⟨S16x256, .i32⟩
  | 12 => ⟨S_, .i32⟩
  | 13 => ⟨S16x256, .i32⟩
  | 14 => ⟨S16x256, .i1⟩
  | 15 => ⟨S_, .i32⟩
  | 16 => ⟨S16x256, .i32⟩
  | 17 => ⟨S16x256, .i32⟩
  | 18 => ⟨S16x256, .i32⟩
  | 19 => ⟨S16x256x1, .i32⟩
  | 20 => ⟨S1, .i32⟩
  | 21 => ⟨S_, .i32⟩
  | 22 => ⟨S16x256x1, .i32⟩
  | 23 => ⟨S16x256x1, .i1⟩
  | 24 => ⟨S1x1x1, .i32⟩
  | 25 => ⟨S16x256x1, .i32⟩
  | 26 => ⟨S16x256x1, .i1⟩
  | 27 => ⟨S16x256x1, .i1⟩
  | 28 => ⟨S_, .i1⟩
  | 29 => ⟨S16x256, .i1⟩
  | 30 => ⟨S4x16x256x4x64, .f32⟩
  | 31 => ⟨S4x16x256x4x64, .i1⟩
  | 32 => ⟨S_, .f32⟩
  | 33 => ⟨S4x16x256x4x64, .f32⟩
  | 34 => ⟨S4x16x256x4x64, .f32⟩
  | 35 => ⟨S_, .i32⟩
  | 36 => ⟨S16x256, .i32⟩
  | 37 => ⟨S16x256, .i1⟩
  | 38 => ⟨S_, .i32⟩
  | 39 => ⟨S16x256, .i32⟩
  | 40 => ⟨S16x256, .i32⟩
  | 41 => ⟨S16x256, .i32⟩
  | 42 => ⟨S16x256x1, .i32⟩
  | 43 => ⟨S1, .i32⟩
  | 44 => ⟨S_, .i32⟩
  | 45 => ⟨S16x256x1, .i32⟩
  | 46 => ⟨S16x256x1, .i1⟩
  | 47 => ⟨S1x1x1, .i32⟩
  | 48 => ⟨S16x256x1, .i32⟩
  | 49 => ⟨S16x256x1, .i1⟩
  | 50 => ⟨S16x256x1, .i1⟩
  | 51 => ⟨S_, .i1⟩
  | 52 => ⟨S16x256, .i1⟩
  | 53 => ⟨S4x16x256x4x64, .f32⟩
  | 54 => ⟨S4x16x256x4x64, .i1⟩
  | 55 => ⟨S_, .f32⟩
  | 56 => ⟨S4x16x256x4x64, .f32⟩
  | 57 => ⟨S4x16x256x4x64, .f32⟩
  | 58 => ⟨S4x16x4x256x128x4, .f32⟩
  | 59 => ⟨S4x16x4x4x128x256, .f32⟩
  | 60 => ⟨S_, .f32⟩
  | 61 => ⟨S4x16x4x4x128x256, .f32⟩
  | 62 => ⟨S4x16x4x4x128x256, .f32⟩
  | 63 => ⟨S128, .i32⟩
  | 64 => ⟨S128x1, .i32⟩
  | 65 => ⟨S_, .i32⟩
  | 66 => ⟨S16x256, .i32⟩
  | 67 => ⟨S16x256, .i32⟩
  | 68 => ⟨S1x256, .i32⟩
  | 69 => ⟨S128x256, .i32⟩
  | 70 => ⟨S128x256, .i32⟩
  | 71 => ⟨S128x256, .i1⟩
  | 72 => ⟨S1x256, .i32⟩
  | 73 => ⟨S_, .i32⟩
  | 74 => ⟨S128x1, .i32⟩
  | 75 => ⟨S128x1, .i32⟩
  | 76 => ⟨S128x256, .i32⟩
  | 77 => ⟨S128x256, .i32⟩
  | 78 => ⟨S128x256, .i1⟩
  | 79 => ⟨S128x256, .i1⟩
  | 80 => ⟨S1x128x256, .i1⟩
  | 81 => ⟨S16x1x256, .i32⟩
  | 82 => ⟨S_, .i32⟩
  | 83 => ⟨S16x1x256, .i32⟩
  | 84 => ⟨S16x1x256, .i1⟩
  | 85 => ⟨S16x128x256, .i1⟩
  | 86 => ⟨S16x128x256, .i1⟩
  | 87 => ⟨S16x128x256, .i1⟩
  | 88 => ⟨S1x16x1x1x128x256, .i1⟩
  | 89 => ⟨S_, .f32⟩
  | 90 => ⟨S_, .f32⟩
  | 91 => ⟨S4x16x4x4x128x256, .i1⟩
  | 92 => ⟨S4x16x4x4x128x256, .f32⟩
  | 93 => ⟨S4x16x4x4x128x256, .f32⟩
  | 94 => ⟨S1x1x4x4x1x1, .f32⟩
  | 95 => ⟨S_, .f32⟩
  | 96 => ⟨S4x16x4x4x128, .f32⟩
  | 97 => ⟨S4x16x4x4x128x1, .f32⟩
  | 98 => ⟨S4x16x4x4x128x1, .f32⟩
  | 99 => ⟨S4x16x4x4x128x1, .f32⟩
  | 100 => ⟨S4x16x4x4x128x256, .f32⟩
  | 101 => ⟨S4x16x4x4x128x256, .f32⟩
  | 102 => ⟨S4x16x4x4x128x256, .f32⟩
  | 103 => ⟨S_, .f32⟩
  | 104 => ⟨S4x16x4x4x128, .f32⟩
  | 105 => ⟨S4x16x4x4x128x1, .f32⟩
  | 106 => ⟨S4x16x4x4x128x1, .f32⟩
  | 107 => ⟨S4x16x4x4x128x1, .f32⟩
  | 108 => ⟨S4x16x4x4x128x1, .f32⟩
  | 109 => ⟨S4x16x4x4x128x1, .f32⟩
  | 110 => ⟨S4x16x4x4x128x256, .f32⟩
  | 111 => ⟨S4x16x4x4x128x256, .f32⟩
  | 112 => ⟨S4x16x4x64x4x128, .f32⟩
  | 113 => ⟨S4x16x128x4x4x64, .f32⟩
  | 114 => ⟨S4x2048x1024, .f32⟩
  | 115 => ⟨S4x2048x1024, .bf16⟩
  | 116 => ⟨S4x128x4x64, .f32⟩
  | 117 => ⟨S4x128x256, .f32⟩
  | 118 => ⟨S4x128x4x64, .f32⟩
  | 119 => ⟨S4x128x256, .f32⟩
  | 120 => ⟨S8192x1024, .bf16⟩
  | _ => ⟨S8320x1536, .f32⟩

abbrev hbmTy (i : Nat) : BufTy := match i / 128 with
  | 0 => hbmTy0_0 i
  | 1 => hbmTy0_1 i
  | _ => ⟨S8320x1536, .f32⟩

abbrev bufTy : (tb : Table) → Fin (tcTables nBuf tb) → BufTy
  | .hbm, ⟨i, _⟩ => hbmTy i
  | _, _ => ⟨S8320x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c_8 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_9 : Ref sig .tc := ⟨.hbm, 88, rfl⟩
abbrev main_v73 : Ref sig .tc := ⟨.hbm, 89, rfl⟩
abbrev main_v74 : Ref sig .tc := ⟨.hbm, 90, rfl⟩
abbrev main_cst_10 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_c_11 : Ref sig .tc := ⟨.hbm, 120, rfl⟩
abbrev main_call0_v0 : Ref sig .tc := ⟨.hbm, 121, rfl⟩
abbrev main_v103 : Ref sig .tc := ⟨.hbm, 122, rfl⟩
abbrev main_c_12 : Ref sig .tc := ⟨.hbm, 123, rfl⟩
abbrev main_call1_v0 : Ref sig .tc := ⟨.hbm, 124, rfl⟩
abbrev main_v104 : Ref sig .tc := ⟨.hbm, 125, rfl⟩
abbrev main_c_13 : Ref sig .tc := ⟨.hbm, 126, rfl⟩
abbrev main_call2_v0 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_c_14 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_call3_c : Ref sig .tc := ⟨.hbm, 140, rfl⟩
abbrev main_call3_v0 : Ref sig .tc := ⟨.hbm, 141, rfl⟩
abbrev main_call3_v1 : Ref sig .tc := ⟨.hbm, 142, rfl⟩
abbrev main_call3_c_0 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_call3_v5 : Ref sig .tc := ⟨.hbm, 147, rfl⟩
abbrev main_call3_c_1 : Ref sig .tc := ⟨.hbm, 148, rfl⟩
abbrev main_call3_c_2 : Ref sig .tc := ⟨.hbm, 149, rfl⟩
abbrev main_call3_v6 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_call3_v11 : Ref sig .tc := ⟨.hbm, 155, rfl⟩
abbrev main_call3_c_3 : Ref sig .tc := ⟨.hbm, 156, rfl⟩
abbrev main_call3_v12 : Ref sig .tc := ⟨.hbm, 157, rfl⟩
abbrev main_call3_v13 : Ref sig .tc := ⟨.hbm, 158, rfl⟩
abbrev main_call3_v14 : Ref sig .tc := ⟨.hbm, 159, rfl⟩
abbrev main_call3_cst : Ref sig .tc := ⟨.hbm, 160, rfl⟩
abbrev main_call3_v15 : Ref sig .tc := ⟨.hbm, 161, rfl⟩
abbrev main_v116 : Ref sig .tc := ⟨.hbm, 162, rfl⟩
abbrev main_call4_c : Ref sig .tc := ⟨.hbm, 163, rfl⟩
abbrev main_call4_v0 : Ref sig .tc := ⟨.hbm, 164, rfl⟩
abbrev main_call4_v1 : Ref sig .tc := ⟨.hbm, 165, rfl⟩
abbrev main_call4_c_0 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_call4_v5 : Ref sig .tc := ⟨.hbm, 170, rfl⟩
abbrev main_call4_c_1 : Ref sig .tc := ⟨.hbm, 171, rfl⟩
abbrev main_call4_c_2 : Ref sig .tc := ⟨.hbm, 172, rfl⟩
abbrev main_call4_v6 : Ref sig .tc := ⟨.hbm, 173, rfl⟩
abbrev main_call4_v7 : Ref sig .tc := ⟨.hbm, 174, rfl⟩
abbrev main_call4_v8 : Ref sig .tc := ⟨.hbm, 175, rfl⟩
abbrev main_call4_v9 : Ref sig .tc := ⟨.hbm, 176, rfl⟩
abbrev main_call4_v10 : Ref sig .tc := ⟨.hbm, 177, rfl⟩
abbrev main_call4_v11 : Ref sig .tc := ⟨.hbm, 178, rfl⟩
abbrev main_call4_c_3 : Ref sig .tc := ⟨.hbm, 179, rfl⟩
abbrev main_call4_v12 : Ref sig .tc := ⟨.hbm, 180, rfl⟩
abbrev main_call4_v13 : Ref sig .tc := ⟨.hbm, 181, rfl⟩
abbrev main_call4_v14 : Ref sig .tc := ⟨.hbm, 182, rfl⟩
abbrev main_call4_cst : Ref sig .tc := ⟨.hbm, 183, rfl⟩
abbrev main_call4_v15 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_15 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_c_16 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_c_17 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_c_18 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_cst_19 : Ref sig .tc := ⟨.hbm, 217, rfl⟩
abbrev main_call5_v0 : Ref sig .tc := ⟨.hbm, 218, rfl⟩
abbrev main_call5_v1 : Ref sig .tc := ⟨.hbm, 219, rfl⟩
abbrev main_call5_v2 : Ref sig .tc := ⟨.hbm, 220, rfl⟩
abbrev main_v145 : Ref sig .tc := ⟨.hbm, 221, rfl⟩
abbrev main_v146 : Ref sig .tc := ⟨.hbm, 222, rfl⟩
abbrev main_cst_20 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_21 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩

abbrev nD : Nat := 1
abbrev τ : Topo := Topo.v7x

variable {F : FTy → Type} [FloatOps F]
-- ==== AttnSample.lean ====
abbrev S128x1536 : Shape := ⟨2, ![128, 1536]⟩
abbrev S32x128x4x64 : Shape := ⟨4, ![32, 128, 4, 64]⟩
abbrev S64 : Shape := ⟨1, ![64]⟩
abbrev S16 : Shape := ⟨1, ![16]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S_ : Shape := ⟨0, ![]⟩
abbrev S8 : Shape := ⟨1, ![8]⟩
abbrev S16x1 : Shape := ⟨2, ![16, 1]⟩
abbrev S1x8 : Shape := ⟨2, ![1, 8]⟩
abbrev S16x8 : Shape := ⟨2, ![16, 8]⟩
abbrev S16x48 : Shape := ⟨2, ![16, 48]⟩
abbrev S1x16x1x64 : Shape := ⟨4, ![1, 16, 1, 64]⟩
abbrev S1x16x2x64 : Shape := ⟨4, ![1, 16, 2, 64]⟩
abbrev S16x128 : Shape := ⟨2, ![16, 128]⟩
abbrev S32x4x1536 : Shape := ⟨3, ![32, 4, 1536]⟩
abbrev S32x16x1536 : Shape := ⟨3, ![32, 16, 1536]⟩
abbrev S32x128x256 : Shape := ⟨3, ![32, 128, 256]⟩
abbrev S32x16x1024 : Shape := ⟨3, ![32, 16, 1024]⟩
abbrev S1x16x1536 : Shape := ⟨3, ![1, 16, 1536]⟩
abbrev S1x128x256 : Shape := ⟨3, ![1, 128, 256]⟩
abbrev S1x16x1024 : Shape := ⟨3, ![1, 16, 1024]⟩
abbrev S256x256 : Shape := ⟨2, ![256, 256]⟩
abbrev S16x1536 : Shape := ⟨2, ![16, 1536]⟩
abbrev S16x1024 : Shape := ⟨2, ![16, 1024]⟩
abbrev S16x256 : Shape := ⟨2, ![16, 256]⟩
abbrev S128x256 : Shape := ⟨2, ![128, 256]⟩
abbrev S112x256 : Shape := ⟨2, ![112, 256]⟩
abbrev S256x64 : Shape := ⟨2, ![256, 64]⟩
abbrev S1 : Shape := ⟨1, ![1]⟩
abbrev S1x16x64 : Shape := ⟨3, ![1, 16, 64]⟩

abbrev nBuf : Space → Nat
  | .hbm => 62
  | .vmem => 19
  | .smem => 1
  | _ => 0

abbrev bufTy : (tb : Table) → Fin (tcTables nBuf tb) → BufTy
  | .hbm, ⟨0, _⟩ => ⟨S128x1536, .f32⟩
  | .hbm, ⟨1, _⟩ => ⟨S32x128x4x64, .f32⟩
  | .hbm, ⟨2, _⟩ => ⟨S32x128x4x64, .f32⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S1x1024, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S16x1, .f32⟩
  | .hbm, ⟨28, _⟩ => ⟨S1x8, .f32⟩
  | .hbm, ⟨29, _⟩ => ⟨S16x8, .f32⟩
  | .hbm, ⟨30, _⟩ => ⟨S16x8, .f32⟩
  | .hbm, ⟨31, _⟩ => ⟨S16x8, .f32⟩
  | .hbm, ⟨32, _⟩ => ⟨S16x8, .f32⟩
  | .hbm, ⟨33, _⟩ => ⟨S16x8, .f32⟩
  | .hbm, ⟨34, _⟩ => ⟨S_, .f32⟩
  | .hbm, ⟨35, _⟩ => ⟨S16x8, .f32⟩
  | .hbm, ⟨36, _⟩ => ⟨S_, .f32⟩
  | .hbm, ⟨37, _⟩ => ⟨S16x48, .f32⟩
  | .hbm, ⟨38, _⟩ => ⟨S_, .f32⟩
  | .hbm, ⟨39, _⟩ => ⟨S16x48, .f32⟩
  | .hbm, ⟨40, _⟩ => ⟨S16x64, .f32⟩
  | .hbm, ⟨41, _⟩ => ⟨S16x8, .f32⟩
  | .hbm, ⟨42, _⟩ => ⟨S16x64, .f32⟩
  | .hbm, ⟨43, _⟩ => ⟨S16x64, .f32⟩
  | .hbm, ⟨44, _⟩ => ⟨S1x16x1x64, .f32⟩
  | .hbm, ⟨45, _⟩ => ⟨S1x16x2x64, .f32⟩
  | .hbm, ⟨46, _⟩ => ⟨S16x128, .f32⟩
  | .hbm, ⟨47, _⟩ => ⟨S1x16x1x64, .f32⟩
  | .hbm, ⟨48, _⟩ => ⟨S1x16x2x64, .f32⟩
  | .hbm, ⟨49, _⟩ => ⟨S16x128, .f32⟩
  | .hbm, ⟨50, _⟩ => ⟨S1x16x1x64, .f32⟩
  | .hbm, ⟨51, _⟩ => ⟨S1x16x2x64, .f32⟩
  | .hbm, ⟨52, _⟩ => ⟨S16x128, .f32⟩
  | .hbm, ⟨53, _⟩ => ⟨S32x4x1536, .f32⟩
  | .hbm, ⟨54, _⟩ => ⟨S_, .i32⟩
  | .hbm, ⟨55, _⟩ => ⟨S_, .f32⟩
  | .hbm, ⟨56, _⟩ => ⟨S32x16x1536, .f32⟩
  | .hbm, ⟨57, _⟩ => ⟨S32x128x256, .f32⟩
  | .hbm, ⟨58, _⟩ => ⟨S32x128x256, .f32⟩
  | .hbm, ⟨59, _⟩ => ⟨S32x16x1024, .bf16⟩
  | .hbm, ⟨60, _⟩ => ⟨S32x128x256, .f32⟩
  | .hbm, ⟨61, _⟩ => ⟨S32x128x256, .f32⟩
  | .local _ .vmem, ⟨0, _⟩ => ⟨S1x16x1536, .f32⟩
  | .local _ .vmem, ⟨1, _⟩ => ⟨S1x16x1536, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S1x1024, .f32⟩
  | .local _ .vmem, ⟨10, _⟩ => ⟨S1x256, .f32⟩
  | .local _ .vmem, ⟨11, _⟩ => ⟨S1x16x1024, .bf16⟩
  | .local _ .vmem, ⟨12, _⟩ => ⟨S1x16x1024, .bf16⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S256x256, .f32⟩
  | .local _ .vmem, ⟨18, _⟩ => ⟨S256x256, .f32⟩
  | .local _ .smem, ⟨0, _⟩ => ⟨S16, .f32⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_call0_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45_0 : Ref sig .tc := ⟨.hbm, 59, rfl⟩
abbrev main_v45_1 : Ref sig .tc := ⟨.hbm, 60, rfl⟩
abbrev main_v45_2 : Ref sig .tc := ⟨.hbm, 61, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnSampleRefIdeal.lean ====
abbrev S128x1536 : Shape := ⟨2, ![128, 1536]⟩
abbrev S32x128x4x64 : Shape := ⟨4, ![32, 128, 4, 64]⟩
abbrev S64 : Shape := ⟨1, ![64]⟩
abbrev S16 : Shape := ⟨1, ![16]⟩
abbrev S32x4x1536 : Shape := ⟨3, ![32, 4, 1536]⟩
abbrev S32x4x1024 : Shape := ⟨3, ![32, 4, 1024]⟩
abbrev S32x4x256 : Shape := ⟨3, ![32, 4, 256]⟩
abbrev S32x4x4x64 : Shape := ⟨4, ![32, 4, 4, 64]⟩
abbrev S_ : Shape := ⟨0, ![]⟩
abbrev S32x4x4 : Shape := ⟨3, ![32, 4, 4]⟩
abbrev S32x4x4x1 : Shape := ⟨4, ![32, 4, 4, 1]⟩
abbrev S1x1x1x64 : Shape := ⟨4, ![1, 1, 1, 64]⟩
abbrev S4 : Shape := ⟨1, ![4]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S1x4x1x8 : Shape := ⟨4, ![1, 4, 1, 8]⟩
abbrev S32x4x4x8 : Shape := ⟨4, ![32, 4, 4, 8]⟩
abbrev S32x4x4x48 : Shape := ⟨4, ![32, 4, 4, 48]⟩
abbrev S32x132x4x64 : Shape := ⟨4, ![32, 132, 4, 64]⟩
abbrev S32x128x256 : Shape := ⟨3, ![32, 128, 256]⟩

abbrev nBuf : Space → Nat
  | .hbm => 70
  | .vmem => 0
  | .smem => 0
  | _ => 0

abbrev bufTy : (tb : Table) → Fin (tcTables nBuf tb) → BufTy
  | .hbm, ⟨0, _⟩ => ⟨S128x1536, .f32⟩
  | .hbm, ⟨1, _⟩ => ⟨S32x128x4x64, .f32⟩
  | .hbm, ⟨2, _⟩ => ⟨S32x128x4x64, .f32⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S32x4x1536, .f32⟩
  | .hbm, ⟨7, _⟩ => ⟨S32x4x1024, .f32⟩
  | .hbm, ⟨8, _⟩ => ⟨S32x4x256, .f32⟩
  | .hbm, ⟨9, _⟩ => ⟨S32x4x256, .f32⟩
  | .hbm, ⟨10, _⟩ => ⟨S32x4x4x64, .f32⟩
  | .hbm, ⟨11, _⟩ => ⟨S32x4x4x64, .f32⟩
  | .hbm, ⟨12, _⟩ => ⟨S32x4x4x64, .f32⟩
  | .hbm, ⟨13, _⟩ => ⟨S_, .f32⟩
  | .hbm, ⟨14, _⟩ => ⟨S32x4x4, .f32⟩
  | .hbm, ⟨15, _⟩ => ⟨S32x4x4x1, .f32⟩
  | .hbm, ⟨16, _⟩ => ⟨S_, .f32⟩
  | .hbm, ⟨17, _⟩ => ⟨S32x4x4x1, .f32⟩
  | .hbm, ⟨18, _⟩ => ⟨S32x4x4x1, .f32⟩
  | .hbm, ⟨19, _⟩ => ⟨S_, .f32⟩
  | .hbm, ⟨20, _⟩ => ⟨S32x4x4x1, .f32⟩
  | .hbm, ⟨21, _⟩ => ⟨S32x4x4x1, .f32⟩
  | .hbm, ⟨22, _⟩ => ⟨S32x4x4x1, .f32⟩
  | .hbm, ⟨23, _⟩ => ⟨S32x4x4x64, .f32⟩
  | .hbm, ⟨24, _⟩ => ⟨S32x4x4x64, .f32⟩
  | .hbm, ⟨25, _⟩ => ⟨S1x1x1x64, .f32⟩
  | .hbm, ⟨26, _⟩ => ⟨S32x4x4x64, .f32⟩
  | .hbm, ⟨27, _⟩ => ⟨S32x4x4x64, .f32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S4, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S4x1, .f32⟩
  | .hbm, ⟨42, _⟩ => ⟨S1x8, .f32⟩
  | .hbm, ⟨43, _⟩ => ⟨S4x8, .f32⟩
  | .hbm, ⟨44, _⟩ => ⟨S4x8, .f32⟩
  | .hbm, ⟨45, _⟩ => ⟨S4x8, .f32⟩
  | .hbm, ⟨46, _⟩ => ⟨S4x8, .f32⟩
  | .hbm, ⟨47, _⟩ => ⟨S1x4x1x8, .f32⟩
  | .hbm, ⟨48, _⟩ => ⟨S4x8, .f32⟩
  | .hbm, ⟨49, _⟩ => ⟨S1x4x1x8, .f32⟩
  | .hbm, ⟨50, _⟩ => ⟨S32x4x4x8, .f32⟩
  | .hbm, ⟨51, _⟩ => ⟨S32x4x4x8, .f32⟩
  | .hbm, ⟨52, _⟩ => ⟨S32x4x4x8, .f32⟩
  | .hbm, ⟨53, _⟩ => ⟨S32x4x4x8, .f32⟩
  | .hbm, ⟨54, _⟩ => ⟨S32x4x4x8, .f32⟩
  | .hbm, ⟨55, _⟩ => ⟨S32x4x4x8, .f32⟩
  | .hbm, ⟨56, _⟩ => ⟨S32x4x4x8, .f32⟩
  | .hbm, ⟨57, _⟩ => ⟨S32x4x4x8, .f32⟩
  | .hbm, ⟨58, _⟩ => ⟨S32x4x4x8, .f32⟩
  | .hbm, ⟨59, _⟩ => ⟨S32x4x4x8, .f32⟩
  | .hbm, ⟨60, _⟩ => ⟨S32x4x4x8, .f32⟩
  | .hbm, ⟨61, _⟩ => ⟨S32x4x4x8, .f32⟩
  | .hbm, ⟨62, _⟩ => ⟨S32x4x4x48, .f32⟩
  | .hbm, ⟨63, _⟩ => ⟨S32x4x4x64, .f32⟩
  | .hbm, ⟨64, _⟩ => ⟨S32x132x4x64, .f32⟩
  | .hbm, ⟨65, _⟩ => ⟨S32x132x4x64, .f32⟩
  | .hbm, ⟨66, _⟩ => ⟨S32x128x4x64, .f32⟩
  | .hbm, ⟨67, _⟩ => ⟨S32x128x256, .f32⟩
  | .hbm, ⟨68, _⟩ => ⟨S32x128x4x64, .f32⟩
  | .hbm, ⟨69, _⟩ => ⟨S32x128x256, .f32⟩
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Lower.lean ====
abbrev S4x1024 : Shape := ⟨2, ![4, 1024]⟩
abbrev S1024 : Shape := ⟨1, ![1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LowerRefIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S_, .f32⟩
  | .hbm, ⟨17, _⟩ => ⟨S4x1024, .f32⟩
  | .hbm, ⟨18, _⟩ => ⟨S1x1024, .f32⟩
  | .hbm, ⟨19, _⟩ => ⟨S4x1024, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Shared.lean ====
/-
  What the matrix products of the layer share: a matrix product read at one place, and how it is carried from the blocks
  of one grid point to the whole arrays.
-/
module

public import proofs.«01_k».proof.Proof.Gen.InGIdeal.Skeleton
public import proofs.«01_k».proof.Proof.Gen.InGRefIdeal.Read
public import Idealize.ShloMosaic.Lib.Pointwise
public import Idealize.ShloMosaic.Lib.Pipeline.Value

@[expose] public section

set_option maxRecDepth 16384

noncomputable section

namespace Cert.Shared

open Idealize.ShloMosaic
open scoped BigOperators

theorem hz : (![0, 0] : Fin 2 → Nat) = fun _ => 0 := funext fun a => by fin_cases a <;> rfl

/-- Contents of a matrix, over the extended reals. -/
abbrev Mat (M N : Nat) : Type := (⟨2, ![M, N]⟩ : Shape).Idx → EReal

/-- Row `r` of `a` times column `q` of `b`. -/
def rc {M K N : Nat} (a : Mat M K) (b : Mat K N) (r : Fin M) (q : Fin N) : EReal :=
  ∑ k : Fin K, a (ix2 r k) * b (ix2 k q)

/-- The product at a place depends on one row and one column only. -/
theorem rc_congr {M K N M' N' : Nat} {a : Mat M K} {b : Mat K N} {a' : Mat M' K} {b' : Mat K N'}
    {r : Fin M} {q : Fin N} {r' : Fin M'} {q' : Fin N'}
    (ha : ∀ k, a (ix2 r k) = a' (ix2 r' k)) (hb : ∀ k, b (ix2 k q) = b' (ix2 k q')) : rc a b r q = rc a' b' r' q' :=
  Finset.sum_congr rfl fun k _ => by rw [ha k, hb k]

/-- The logistic function as the bodies write it. -/
def sgm (x : EReal) : EReal := Ideal.div 1 (1 + Ideal.exp (-x))

/-- The body of the input projection at an index: the four calls have one body, and this is it. -/
theorem panel (x : Mat 1040 2048) (w : Mat 2048 512) (r : Fin 1040) (q : Fin 512) :
    Cert.InGIdeal.Gen.k0_pay1 (F := Ideal) x w (ix2 r q) = rc x w r q := by
  unfold rc
  pointwise [Cert.InGIdeal.Gen.k0_pay1]

section Columns
open Cert.InGRefIdeal.Read

variable (a : Mat 8320 2048) (w : Mat 2048 13824)

/-- The rows times all the columns of the input weights, at an index. -/
theorem whole_apply (r : Fin 8320) (q : Fin 13824) : val_main_v1 (F := Ideal) a w (ix2 r q) = rc a w r q := by
  unfold rc
  pointwise [val_main_v1, val_main_v0]

/-- The four results of the input projection at an index: columns of the whole product, from 0, 1536, 5632 and 7680 on. -/
theorem colsA_apply (r : Fin 8320) (q : Fin 1536) :
    val_main_v2 (F := Ideal) a w (ix2 r q) = rc a w r ⟨q.val, by omega⟩ := by
  rw [← whole_apply]
  pointwise [val_main_v2]
theorem colsB_apply (r : Fin 8320) (q : Fin 4096) :
    val_main_v3 (F := Ideal) a w (ix2 r q) = rc a w r ⟨1536 + q.val, by omega⟩ := by
  rw [← whole_apply]
  pointwise [val_main_v3]
theorem colsC_apply (r : Fin 8320) (q : Fin 2048) :
    val_main_v4 (F := Ideal) a w (ix2 r q) = rc a w r ⟨5632 + q.val, by omega⟩ := by
  rw [← whole_apply]
  pointwise [val_main_v4]
theorem colsG_apply (r : Fin 8320) (q : Fin 6144) :
    val_main_v5 (F := Ideal) a w (ix2 r q) = rc a w r ⟨7680 + q.val, by omega⟩ := by
  rw [← whole_apply]
  pointwise [val_main_v5]

end Columns

/-- A coordinate lies in the block its quotient names. -/
theorem div_block {i B e : Nat} (hB : 0 < B) (h : e = i / B) : e * B ≤ i ∧ i < e * B + B := by
  subst h
  exact ⟨Nat.div_mul_le_self i B, by have := Nat.lt_div_mul_add hB (a := i); omega⟩

end Cert.Shared

end
-- ==== Proof.SguBody.lean ====
/-
  The spatial gating's body: what one grid point leaves in its blocks, read at a place.
-/
module

public import proofs.«01_k».proof.Proof.Gen.SguIdeal.Value
public import proofs.«01_k».proof.Proof.Shared
public import Idealize.ShloMosaic.Lib.Pointwise
public import Idealize.ShloMosaic.Lib.Pipeline.ValueKit

@[expose] public section

set_option maxRecDepth 16384

noncomputable section

namespace Cert.SguIdeal.RefValue

open Cert.SguIdeal Cert.SguIdeal.Gen Cert.Shared Idealize.ShloMosaic Idealize.ShloMosaic.TcCoe Idealize.SL.Sem
open Idealize.ShloMosaic.Pipeline (Dat)
open scoped BigOperators

/-! ### The mask -/

/-- The body's mask: the rows and columns that may meet, `v` the bit that lifts the bound of the sequences. -/
def maskW (v : BitVec 1) : IVec S128x128 1 :=
  k0_pay7 (iota Kind.tc S128x128 32 [0] iota_S128x128_d0_w32) (iota Kind.tc S128x128 32 [1] iota_S128x128_d1_w32)
    v k0_pay3 k0_pay4 k0_pay5 k0_pay6

/-- Small numbers compare as words as they do as numbers. -/
theorem sle_word {a b : ℕ} (ha : a < 2 ^ 31) (hb : b < 2 ^ 31) :
    IntOp.cmpi CmpIPredicate.sle (BitVec.ofNat 32 a) (BitVec.ofNat 32 b) = BitVec.ofBool (decide (a ≤ b)) := by
  have e : ∀ n, n < 2 ^ 31 → (BitVec.ofNat 32 n).toInt = n := fun n hn => by
    rw [BitVec.toInt_eq_toNat_of_lt (by rw [BitVec.toNat_ofNat]; omega), BitVec.toNat_ofNat]; omega
  simp [IntOp.cmpi, BitVec.sle, e a ha, e b hb]

/-- Small numbers are equal as words where they are as numbers. -/
theorem eq_word {a b : ℕ} (ha : a < 2 ^ 31) (hb : b < 2 ^ 31) :
    IntOp.cmpi CmpIPredicate.eq (BitVec.ofNat 32 a) (BitVec.ofNat 32 b) = BitVec.ofBool (decide (a = b)) := by
  have e : (BitVec.ofNat 32 a = BitVec.ofNat 32 b) ↔ a = b :=
    ⟨fun h => by have := congrArg BitVec.toNat h; rw [BitVec.toNat_ofNat, BitVec.toNat_ofNat] at this; omega, fun h => by rw [h]⟩
  simp only [IntOp.cmpi, beq_eq_decide, e]

/-- The row's sequence, as the body finds it. -/
theorem row_word (p q : Fin 128) : k0_pay3 (ix2 p q) = BitVec.ofNat 32 (p.val / 4) := by
  have h : ∀ p : Fin 128, k0_pay3 (ix2 p 0) = BitVec.ofNat 32 (p.val / 4) := by decide +kernel
  refine Eq.trans ?_ (h p)
  pointwise [k0_pay3]

/-- The column's sequence, as the body finds it. -/
theorem col_word (p q : Fin 128) : Scalar.select
    (IntOp.andi (k0_pay5 (ix2 p q)) (IntOp.cmpi CmpIPredicate.ne (IntOp.remsi ArithUnit.vector (BitVec.ofNat 32 ↑q) (k0_pay6 (ix2 p q))) 0#32))
    (IntOp.subi (k0_pay4 (ix2 p q)) 1#32) (k0_pay4 (ix2 p q)) = BitVec.ofNat 32 (q.val / 4) := by
  have h : ∀ q : Fin 128, Scalar.select
    (IntOp.andi (k0_pay5 (ix2 0 q)) (IntOp.cmpi CmpIPredicate.ne (IntOp.remsi ArithUnit.vector (BitVec.ofNat 32 ↑q) (k0_pay6 (ix2 0 q))) 0#32))
    (IntOp.subi (k0_pay4 (ix2 0 q)) 1#32) (k0_pay4 (ix2 0 q)) = BitVec.ofNat 32 (q.val / 4) := by decide +kernel
  refine Eq.trans ?_ (h q)
  pointwise [k0_pay4, k0_pay5, k0_pay6]

theorem mask_apply (v : BitVec 1) (p q : Fin 128) : maskW v (ix2 p q)
    = BitVec.ofBool (decide (q.val ≤ p.val ∧ (v = 1#1 ∨ p.val / 4 = q.val / 4))) := by
  unfold maskW
  pointwise [k0_pay7]
  rw [row_word, col_word, sle_word (by omega) (by omega), eq_word (by omega) (by omega)]
  by_cases h : q.val ≤ p.val <;> by_cases h' : p.val / 4 = q.val / 4 <;> simp only [h, h'] <;> revert v <;> decide

/-- The bit of a grid point, by whether it is the last. -/
theorem bit_word : ∀ a : Fin 65, Scalar.xori (Scalar.cmpi CmpIPredicate.eq (BitVec.ofNat 32 ↑a) 64#32) 1#1 = BitVec.ofBool (decide (a.val ≠ 64)) := by
  decide +kernel

theorem cond_word : ∀ i : grid0.Coords, cond0_0 i ↔ (i 0).val = 64 := by
  intro i
  unfold cond0_0 k0_cond1
  revert i
  decide +kernel

/-! ### One group -/

/-- The normalised second half of a group at a row and a place, times the gain. -/
def gv (x : Mat 128 128) (a : Mat 1 128) (k d : Fin 128) : EReal :=
  x (ix2 k d) * Ideal.rsqrt (Ideal.div (∑ e : Fin 128, x (ix2 k e) * x (ix2 k e)) (Ideal.ofBits FTy.f32 1124073472#32)
    + Ideal.ofBits FTy.f32 897988541#32) * a (ix2 0 d)

/-- One group's result at a row and a place: the first half times the masked mix of the second, with the bias. -/
def core (M : IVec S128x128 1) (u x : Mat 128 128) (w : S1x1x128x128.Idx → EReal) (a : Mat 1 128) (b : Fin 128 → EReal)
    (p d : Fin 128) : EReal :=
  u (ix2 p d) * ((∑ k : Fin 128, Scalar.select (M (ix2 p k)) (w (ix4 0 0 p k) * gv x a k d) 0) + b p)

section Groups
variable (M : IVec S128x128 1) (u x : Mat 128 128) (w : S1x1x128x128.Idx → EReal) (a : Mat 1 128)
  (b : S1x128x8.Idx → EReal) (p d : Fin 128)

theorem group0 (v : BitVec 1) : k0_pay12 (F := Ideal) (k0_pay11 (iota Kind.tc S128x128 32 [0] iota_S128x128_d0_w32)
    (iota Kind.tc S128x128 32 [1] iota_S128x128_d1_w32) v k0_pay3 k0_pay4 k0_pay5 k0_pay6 a b x w) u (ix2 p d)
    = core (maskW v) u x w a (fun p => b (ix3 0 p 0)) p d := by
  unfold core gv maskW
  pointwise [k0_pay12, k0_pay11, k0_pay10, k0_pay7, k0_pay8, k0_pay9]
theorem group1 : k0_pay14 (F := Ideal) M (k0_pay8 a) (k0_pay9 b) x w u (ix2 p d)
    = core M u x w a (fun p => b (ix3 0 p 1)) p d := by
  unfold core gv
  pointwise [k0_pay14, k0_pay13, k0_pay8, k0_pay9]
theorem group2 : k0_pay16 (F := Ideal) M (k0_pay8 a) (k0_pay9 b) x w u (ix2 p d)
    = core M u x w a (fun p => b (ix3 0 p 2)) p d := by
  unfold core gv
  pointwise [k0_pay16, k0_pay15, k0_pay8, k0_pay9]
theorem group3 : k0_pay19 (F := Ideal) M (k0_pay8 a) (k0_pay9 b) (k0_pay17 x) w u (ix2 p d)
    = core M u x w a (fun p => b (ix3 0 p 3)) p d := by
  unfold core gv
  pointwise [k0_pay19, k0_pay18, k0_pay17, k0_pay8, k0_pay9]
theorem group4 : k0_pay23 (F := Ideal) (k0_pay9 b) (k0_pay21 M w) (k0_pay22 (k0_pay8 a) x) u (ix2 p d)
    = core M u x w a (fun p => b (ix3 0 p 4)) p d := by
  unfold core gv
  pointwise [k0_pay23, k0_pay22, k0_pay21, k0_pay20, k0_pay8, k0_pay9]
theorem group5 : k0_pay25 (F := Ideal) M (k0_pay8 a) (k0_pay9 b) x w u (ix2 p d)
    = core M u x w a (fun p => b (ix3 0 p 5)) p d := by
  unfold core gv
  pointwise [k0_pay25, k0_pay24, k0_pay8, k0_pay9]
theorem group6 : k0_pay27 (F := Ideal) M (k0_pay8 a) (k0_pay9 b) x w u (ix2 p d)
    = core M u x w a (fun p => b (ix3 0 p 6)) p d := by
  unfold core gv
  pointwise [k0_pay27, k0_pay26, k0_pay8, k0_pay9]
theorem group7 : k0_pay2 (F := Ideal) M (k0_pay8 a) (k0_pay9 b) x (k0_pay28 x) (FloatOps.ofBits FTy.f32 1124073472#32) w u (ix2 p d)
    = core M u x w a (fun p => b (ix3 0 p 7)) p d := by
  unfold core gv
  pointwise [k0_pay2, k0_pay1, k0_pay28, k0_pay8, k0_pay9]

theorem norm0 : k0_pay10 (F := Ideal) a x (ix2 p d) = gv x a p d := by
  unfold gv
  pointwise [k0_pay10, k0_pay8]
theorem norm1 : k0_pay13 (F := Ideal) (k0_pay8 a) x (ix2 p d) = gv x a p d := by
  unfold gv
  pointwise [k0_pay13, k0_pay8]
theorem norm2 : k0_pay15 (F := Ideal) (k0_pay8 a) x (ix2 p d) = gv x a p d := by
  unfold gv
  pointwise [k0_pay15, k0_pay8]
theorem norm3 : k0_pay18 (F := Ideal) (k0_pay8 a) (k0_pay17 x) (ix2 p d) = gv x a p d := by
  unfold gv
  pointwise [k0_pay18, k0_pay17, k0_pay8]
theorem norm4 : k0_pay20 (F := Ideal) (k0_pay8 a) x (ix2 p d) = gv x a p d := by
  unfold gv
  pointwise [k0_pay20, k0_pay8]
theorem norm5 : k0_pay24 (F := Ideal) (k0_pay8 a) x (ix2 p d) = gv x a p d := by
  unfold gv
  pointwise [k0_pay24, k0_pay8]
theorem norm6 : k0_pay26 (F := Ideal) (k0_pay8 a) x (ix2 p d) = gv x a p d := by
  unfold gv
  pointwise [k0_pay26, k0_pay8]
theorem norm7 : k0_pay1 (F := Ideal) (k0_pay8 a) x (k0_pay28 x) (FloatOps.ofBits FTy.f32 1124073472#32) (ix2 p d) = gv x a p d := by
  unfold gv
  pointwise [k0_pay1, k0_pay28, k0_pay8]
end Groups

/-- The columns of group `g`. -/
def col (u : Mat 128 1024) (g : Fin 8) : Mat 128 128 := fun j =>
  u (ix2 (j 0) ⟨128 * g.val + (j 1).val, by have : (j 1).val < 128 := (j 1).isLt; omega⟩)
/-- The weights of group `g`. -/
def wof (w : S1x8x128x128.Idx → EReal) (g : Fin 8) : S1x1x128x128.Idx → EReal := fun j => w (ix4 0 g (j 2) (j 3))

/-- All groups: what a grid point leaves in the result's block. -/
def T (M : IVec S128x128 1) (x0 x1 : Mat 128 1024) (x2 : S1x8x128x128.Idx → EReal) (x3 : S1x128x8.Idx → EReal)
    (x4 : Mat 1 128) (p : Fin 128) (g : Fin 8) (d : Fin 128) : EReal :=
  core M (col x0 g) (col x1 g) (wof x2 g) x4 (fun p => x3 (ix3 0 p g)) p d

/-- The slice of a block that group `g` reads. -/
theorem ld_col (x : Vec Ideal S128x1024 .f32) {o : ℕ} (g : Fin 8) (h : o = 128 * g.val) (inb) :
    View.ld x (Rect.unit (s := S128x1024) ![0, o] ![128, 128] inb) = col x g := by
  subst h
  funext (j : S128x128.Idx)
  idx_vars j
  refine congrArg x (Shape.idx_ext₂ ?_ ?_)
  · show 0 + 1 * j0.val = j0.val; omega
  · show 128 * g.val + 1 * j1.val = 128 * g.val + j1.val; omega

/-- The weights that group `g` reads. -/
theorem ld_wof (x : Vec Ideal S1x8x128x128 .f32) {o : ℕ} (g : Fin 8) (h : o = g.val) (inb) :
    View.ld x (Rect.unit (s := S1x8x128x128) ![0, o, 0, 0] ![1, 1, 128, 128] inb) = wof x g := by
  subst h
  funext (j : S1x1x128x128.Idx)
  idx_vars j
  refine congrArg x (funext fun a => Fin.ext ?_)
  fin_cases a
  · show 0 + 1 * j0.val = 0; omega
  · show g.val + 1 * j1.val = g.val; omega
  · show 0 + 1 * j2.val = j2.val; omega
  · show 0 + 1 * j3.val = j3.val; omega

/-- A place in the columns of group `n` belongs to group `n`. -/
theorem at_group {y : S128x1024.Idx} {x : S128x128.Idx} {p d : Fin 128} {g : Fin 8} (n : Fin 8)
    (h0 : (y 0).val = (x 0).val) (h1 : (y 1).val = 128 * n.val + (x 1).val)
    (hy0 : (y 0).val = p.val) (hy1 : (y 1).val = 128 * g.val + d.val) : g = n ∧ x = ix2 p d := by
  have : (x 1).val < 128 := (x 1).isLt
  exact ⟨Fin.ext (by omega), Shape.idx_ext₂ (by show (x 0).val = p.val; omega) (by show (x 1).val = d.val; omega)⟩

/-- The result at a point of the prompt. -/
theorem outA (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S1x8x128x128 .f32) (harg3 : arg3.IsWhole) (arg4 : Memref sig .tc .vmem S1x128x8 .f32) (harg4 : arg4.IsWhole) (arg5 : Memref sig .tc .vmem S1x128 .f32) (harg5 : arg5.IsWhole) (arg6 : Memref sig .tc .vmem S128x1024 .bf16) (harg6 : arg6.IsWhole) (arg7 : Memref sig .tc .vmem S128x1024 .f32) (harg7 : arg7.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 x1 x2 x3 x4) (y : S128x1024.Idx) (p : Fin 128) (g : Fin 8) (d : Fin 128)
    (hy0 : (y 0).val = p.val) (hy1 : (y 1).val = 128 * g.val + d.val) :
    out0_A_5 (F := Ideal) c i arg1 harg1 arg2 harg2 arg3 harg3 arg4 harg4 arg5 harg5 arg6 harg6 arg7 harg7
      hc0 hc1 hc2 hc3 hc4 hc5 hc6 hc7 x0 x1 x2 x3 x4 y = T (maskW 1#1) x0 x1 x2 x3 x4 p g d := by
  frame_out
  canon_tiles x h
  · obtain ⟨rfl, rfl⟩ := at_group 7 h0 (by omega) hy0 hy1
    rw [ld_col (o := 896) _ 7 rfl, ld_col (o := 896) _ 7 rfl, ld_wof (o := 7) _ 7 rfl, (bit_word (i 0)).trans (congrArg BitVec.ofBool (decide_eq_true (mt (cond_word i).2 hc0)))]
    exact group7 ..
  · obtain ⟨rfl, rfl⟩ := at_group 6 h0 (by omega) hy0 hy1
    rw [ld_col (o := 768) _ 6 rfl, ld_col (o := 768) _ 6 rfl, ld_wof (o := 6) _ 6 rfl, (bit_word (i 0)).trans (congrArg BitVec.ofBool (decide_eq_true (mt (cond_word i).2 hc0)))]
    exact group6 ..
  · obtain ⟨rfl, rfl⟩ := at_group 5 h0 (by omega) hy0 hy1
    rw [ld_col (o := 640) _ 5 rfl, ld_col (o := 640) _ 5 rfl, ld_wof (o := 5) _ 5 rfl, (bit_word (i 0)).trans (congrArg BitVec.ofBool (decide_eq_true (mt (cond_word i).2 hc0)))]
    exact group5 ..
  · obtain ⟨rfl, rfl⟩ := at_group 4 h0 (by omega) hy0 hy1
    rw [ld_col (o := 512) _ 4 rfl, ld_col (o := 512) _ 4 rfl, ld_wof (o := 4) _ 4 rfl, (bit_word (i 0)).trans (congrArg BitVec.ofBool (decide_eq_true (mt (cond_word i).2 hc0)))]
    exact group4 ..
  · obtain ⟨rfl, rfl⟩ := at_group 3 h0 (by omega) hy0 hy1
    rw [ld_col (o := 384) _ 3 rfl, ld_col (o := 384) _ 3 rfl, ld_wof (o := 3) _ 3 rfl, (bit_word (i 0)).trans (congrArg BitVec.ofBool (decide_eq_true (mt (cond_word i).2 hc0)))]
    exact group3 ..
  · obtain ⟨rfl, rfl⟩ := at_group 2 h0 (by omega) hy0 hy1
    rw [ld_col (o := 256) _ 2 rfl, ld_col (o := 256) _ 2 rfl, ld_wof (o := 2) _ 2 rfl, (bit_word (i 0)).trans (congrArg BitVec.ofBool (decide_eq_true (mt (cond_word i).2 hc0)))]
    exact group2 ..
  · obtain ⟨rfl, rfl⟩ := at_group 1 h0 (by omega) hy0 hy1
    rw [ld_col (o := 128) _ 1 rfl, ld_col (o := 128) _ 1 rfl, ld_wof (o := 1) _ 1 rfl, (bit_word (i 0)).trans (congrArg BitVec.ofBool (decide_eq_true (mt (cond_word i).2 hc0)))]
    exact group1 ..
  · obtain ⟨rfl, rfl⟩ := at_group 0 h0 (by omega) hy0 hy1
    rw [ld_col (o := 0) _ 0 rfl, ld_col (o := 0) _ 0 rfl, ld_wof (o := 0) _ 0 rfl, (bit_word (i 0)).trans (congrArg BitVec.ofBool (decide_eq_true (mt (cond_word i).2 hc0)))]
    exact group0 ..

/-- The result at the last point, of the samples. -/
theorem outB (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S1x8x128x128 .f32) (harg3 : arg3.IsWhole) (arg4 : Memref sig .tc .vmem S1x128x8 .f32) (harg4 : arg4.IsWhole) (arg5 : Memref sig .tc .vmem S1x128 .f32) (harg5 : arg5.IsWhole) (arg6 : Memref sig .tc .vmem S128x1024 .bf16) (harg6 : arg6.IsWhole) (arg7 : Memref sig .tc .vmem S128x1024 .f32) (harg7 : arg7.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 x1 x2 x3 x4) (y : S128x1024.Idx) (p : Fin 128) (g : Fin 8) (d : Fin 128)
    (hy0 : (y 0).val = p.val) (hy1 : (y 1).val = 128 * g.val + d.val) :
    out0_B_5 (F := Ideal) c i arg1 harg1 arg2 harg2 arg3 harg3 arg4 harg4 arg5 harg5 arg6 harg6 arg7 harg7
      hc0 hc1 hc2 hc3 hc4 hc5 hc6 hc7 x0 x1 x2 x3 x4 y = T (maskW 0#1) x0 x1 x2 x3 x4 p g d := by
  frame_out
  canon_tiles x h
  · obtain ⟨rfl, rfl⟩ := at_group 7 h0 (by omega) hy0 hy1
    rw [ld_col (o := 896) _ 7 rfl, ld_col (o := 896) _ 7 rfl, ld_wof (o := 7) _ 7 rfl, (bit_word (i 0)).trans (congrArg BitVec.ofBool (decide_eq_false (not_not.2 ((cond_word i).1 hc0))))]
    exact group7 ..
  · obtain ⟨rfl, rfl⟩ := at_group 6 h0 (by omega) hy0 hy1
    rw [ld_col (o := 768) _ 6 rfl, ld_col (o := 768) _ 6 rfl, ld_wof (o := 6) _ 6 rfl, (bit_word (i 0)).trans (congrArg BitVec.ofBool (decide_eq_false (not_not.2 ((cond_word i).1 hc0))))]
    exact group6 ..
  · obtain ⟨rfl, rfl⟩ := at_group 5 h0 (by omega) hy0 hy1
    rw [ld_col (o := 640) _ 5 rfl, ld_col (o := 640) _ 5 rfl, ld_wof (o := 5) _ 5 rfl, (bit_word (i 0)).trans (congrArg BitVec.ofBool (decide_eq_false (not_not.2 ((cond_word i).1 hc0))))]
    exact group5 ..
  · obtain ⟨rfl, rfl⟩ := at_group 4 h0 (by omega) hy0 hy1
    rw [ld_col (o := 512) _ 4 rfl, ld_col (o := 512) _ 4 rfl, ld_wof (o := 4) _ 4 rfl, (bit_word (i 0)).trans (congrArg BitVec.ofBool (decide_eq_false (not_not.2 ((cond_word i).1 hc0))))]
    exact group4 ..
  · obtain ⟨rfl, rfl⟩ := at_group 3 h0 (by omega) hy0 hy1
    rw [ld_col (o := 384) _ 3 rfl, ld_col (o := 384) _ 3 rfl, ld_wof (o := 3) _ 3 rfl, (bit_word (i 0)).trans (congrArg BitVec.ofBool (decide_eq_false (not_not.2 ((cond_word i).1 hc0))))]
    exact group3 ..
  · obtain ⟨rfl, rfl⟩ := at_group 2 h0 (by omega) hy0 hy1
    rw [ld_col (o := 256) _ 2 rfl, ld_col (o := 256) _ 2 rfl, ld_wof (o := 2) _ 2 rfl, (bit_word (i 0)).trans (congrArg BitVec.ofBool (decide_eq_false (not_not.2 ((cond_word i).1 hc0))))]
    exact group2 ..
  · obtain ⟨rfl, rfl⟩ := at_group 1 h0 (by omega) hy0 hy1
    rw [ld_col (o := 128) _ 1 rfl, ld_col (o := 128) _ 1 rfl, ld_wof (o := 1) _ 1 rfl, (bit_word (i 0)).trans (congrArg BitVec.ofBool (decide_eq_false (not_not.2 ((cond_word i).1 hc0))))]
    exact group1 ..
  · obtain ⟨rfl, rfl⟩ := at_group 0 h0 (by omega) hy0 hy1
    rw [ld_col (o := 0) _ 0 rfl, ld_col (o := 0) _ 0 rfl, ld_wof (o := 0) _ 0 rfl, (bit_word (i 0)).trans (congrArg BitVec.ofBool (decide_eq_false (not_not.2 ((cond_word i).1 hc0))))]
    exact group0 ..

/-- The normalised second half at the last point. -/
theorem vnB (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S1x8x128x128 .f32) (harg3 : arg3.IsWhole) (arg4 : Memref sig .tc .vmem S1x128x8 .f32) (harg4 : arg4.IsWhole) (arg5 : Memref sig .tc .vmem S1x128 .f32) (harg5 : arg5.IsWhole) (arg6 : Memref sig .tc .vmem S128x1024 .bf16) (harg6 : arg6.IsWhole) (arg7 : Memref sig .tc .vmem S128x1024 .f32) (harg7 : arg7.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 x1 x2 x3 x4) (y : S128x1024.Idx) (p : Fin 128) (g : Fin 8) (d : Fin 128)
    (hy0 : (y 0).val = p.val) (hy1 : (y 1).val = 128 * g.val + d.val) :
    out0_B_6 (F := Ideal) c i arg1 harg1 arg2 harg2 arg3 harg3 arg4 harg4 arg5 harg5 arg6 harg6 arg7 harg7
      hc0 hc1 hc2 hc3 hc4 hc5 hc6 hc7 x0 x1 x2 x3 x4 y = gv (col x1 g) x4 p d := by
  frame_out
  canon_tiles x h
  · obtain ⟨rfl, rfl⟩ := at_group 7 h0 (by omega) hy0 hy1
    rw [ld_col (o := 896) _ 7 rfl]
    exact norm7 ..
  · obtain ⟨rfl, rfl⟩ := at_group 6 h0 (by omega) hy0 hy1
    rw [ld_col (o := 768) _ 6 rfl]
    exact norm6 ..
  · obtain ⟨rfl, rfl⟩ := at_group 5 h0 (by omega) hy0 hy1
    rw [ld_col (o := 640) _ 5 rfl]
    exact norm5 ..
  · obtain ⟨rfl, rfl⟩ := at_group 4 h0 (by omega) hy0 hy1
    rw [ld_col (o := 512) _ 4 rfl]
    exact norm4 ..
  · obtain ⟨rfl, rfl⟩ := at_group 3 h0 (by omega) hy0 hy1
    rw [ld_col (o := 384) _ 3 rfl]
    exact norm3 ..
  · obtain ⟨rfl, rfl⟩ := at_group 2 h0 (by omega) hy0 hy1
    rw [ld_col (o := 256) _ 2 rfl]
    exact norm2 ..
  · obtain ⟨rfl, rfl⟩ := at_group 1 h0 (by omega) hy0 hy1
    rw [ld_col (o := 128) _ 1 rfl]
    exact norm1 ..
  · obtain ⟨rfl, rfl⟩ := at_group 0 h0 (by omega) hy0 hy1
    rw [ld_col (o := 0) _ 0 rfl]
    exact norm0 ..

end Cert.SguIdeal.RefValue

end
-- ==== Proof.SguHost.lean ====
/-
  The arrays the spatial gating's host lines hand to the call: the gain, the two sets of weights and the two of biases.
-/
module

public import proofs.«01_k».proof.Proof.Gen.SguIdeal.Value
public import proofs.«01_k».proof.Proof.Shared
public import Idealize.ShloMosaic.Lib.Pointwise
public import Idealize.ShloMosaic.Lib.StableHlo.ReadAt

@[expose] public section

set_option maxRecDepth 16384

noncomputable section

namespace Cert.SguIdeal.RefValue

open Cert.SguIdeal Cert.SguIdeal.Gen Cert.Shared Idealize.ShloMosaic Idealize.ShloMosaic.TcCoe Idealize.SL.Sem
open Idealize.ShloMosaic.Pipeline (Dat)
open scoped BigOperators

variable (m : (b : Loc nD τ sig) → Buf (Elt Ideal) b) (c : Dev nD)

/-- The gain's row. -/
theorem gain_at (d : Fin 128) : (V m c main_v0 : Mat 1 128) (ix2 0 d) = (m ((c : Thread nD τ).loc main_arg3) : S128.Idx → EReal) (ix1 d) := by
  show (StableHlo.after hostOps0 (fun b => m (c, b)) main_v0 : Mat 1 128) (ix2 0 d) = _
  after_reads_at

/-- The prompt's weights. -/
theorem w_prompt (g : Fin 8) (p q : Fin 128) : (V m c main_v11 : S2x8x128x128.Idx → EReal) (ix4 0 g p q)
    = (m ((c : Thread nD τ).loc main_arg1) : S8x128x128.Idx → EReal) (ix3 g p q) := by
  show (StableHlo.after hostOps0 (fun b => m (c, b)) main_v11 : S2x8x128x128.Idx → EReal) (ix4 0 g p q) = _
  after_reads_at

/-- The samples' weights: the first four rows and columns, repeated. -/
theorem w_sample (g : Fin 8) (p q : Fin 128) : (V m c main_v11 : S2x8x128x128.Idx → EReal) (ix4 1 g p q)
    = (m ((c : Thread nD τ).loc main_arg1) : S8x128x128.Idx → EReal) (ix3 g ⟨p.val % 4, by omega⟩ ⟨q.val % 4, by omega⟩) := by
  show (StableHlo.after hostOps0 (fun b => m (c, b)) main_v11 : S2x8x128x128.Idx → EReal) (ix4 1 g p q) = _
  after_reads_at

/-- The prompt's biases. -/
theorem b_prompt (g : Fin 8) (p : Fin 128) : (V m c main_v16 : S2x128x8.Idx → EReal) (ix3 0 p g)
    = (m ((c : Thread nD τ).loc main_arg2) : Mat 8 128) (ix2 g p) := by
  show (StableHlo.after hostOps0 (fun b => m (c, b)) main_v16 : S2x128x8.Idx → EReal) (ix3 0 p g) = _
  after_reads_at

/-- The samples' biases: the first four, repeated. -/
theorem b_sample (g : Fin 8) (p : Fin 128) : (V m c main_v16 : S2x128x8.Idx → EReal) (ix3 1 p g)
    = (m ((c : Thread nD τ).loc main_arg2) : Mat 8 128) (ix2 g ⟨p.val % 4, by omega⟩) := by
  show (StableHlo.after hostOps0 (fun b => m (c, b)) main_v16 : S2x128x8.Idx → EReal) (ix3 1 p g) = _
  after_reads_at

/-! ### The blocks -/

/-- Where each window's block lies at each point. -/
theorem idx : ∀ t : Fin cfg0.N, (win0_0.index t 0 = t.val ∧ win0_0.index t 1 = 0 ∧ win0_1.index t 0 = t.val ∧ win0_1.index t 1 = 1)
    ∧ (win0_2.index t 0 = t.val / 64 ∧ win0_2.index t 1 = 0 ∧ win0_2.index t 2 = 0 ∧ win0_2.index t 3 = 0)
    ∧ (win0_3.index t 0 = t.val / 64 ∧ win0_3.index t 1 = 0 ∧ win0_3.index t 2 = 0)
    ∧ win0_4.index t 0 = 0 ∧ win0_4.index t 1 = 0 ∧ win0_5.index t 0 = t.val ∧ win0_5.index t 1 = 0
    ∧ win0_6.index t 0 = 0 ∧ win0_6.index t 1 = 0 :=
  (by decide +kernel : ∀ t : Fin grid0.N, (win0_0.index t 0 = t.val ∧ win0_0.index t 1 = 0 ∧ win0_1.index t 0 = t.val ∧ win0_1.index t 1 = 1)
    ∧ (win0_2.index t 0 = t.val / 64 ∧ win0_2.index t 1 = 0 ∧ win0_2.index t 2 = 0 ∧ win0_2.index t 3 = 0)
    ∧ (win0_3.index t 0 = t.val / 64 ∧ win0_3.index t 1 = 0 ∧ win0_3.index t 2 = 0)
    ∧ win0_4.index t 0 = 0 ∧ win0_4.index t 1 = 0 ∧ win0_5.index t 0 = t.val ∧ win0_5.index t 1 = 0
    ∧ win0_6.index t 0 = 0 ∧ win0_6.index t 1 = 0)

/-- The row of the array that row `p` of point `t`'s block is. -/
abbrev row (t : Fin cfg0.N) (p : Fin 128) : Fin 8320 := ⟨t.val * 128 + p.val, by have : t.val < 65 := t.isLt; omega⟩

theorem block0 (t : Fin cfg0.N) (p : Fin 128) (j : Fin 1024) : (iblk m c 0 t : Mat 128 1024) (ix2 p j)
    = (m ((c : Thread nD τ).loc main_arg0) : Mat 8320 2048) (ix2 (row t p) ⟨j.val, by omega⟩) := by
  obtain ⟨⟨h0, h1, _, _⟩, _⟩ := idx t
  rw [← V_main_arg0 m c]
  refine congrArg (V m c main_arg0) (Shape.idx_ext₂ ?_ ?_)
  · show win0_0.index t 0 * 128 + 1 * p.val = t.val * 128 + p.val; omega
  · show win0_0.index t 1 * 1024 + 1 * j.val = j.val; omega

theorem block1 (t : Fin cfg0.N) (p : Fin 128) (j : Fin 1024) : (iblk m c 1 t : Mat 128 1024) (ix2 p j)
    = (m ((c : Thread nD τ).loc main_arg0) : Mat 8320 2048) (ix2 (row t p) ⟨1024 + j.val, by omega⟩) := by
  obtain ⟨⟨_, _, h0, h1⟩, _⟩ := idx t
  rw [← V_main_arg0 m c]
  refine congrArg (V m c main_arg0) (Shape.idx_ext₂ ?_ ?_)
  · show win0_1.index t 0 * 128 + 1 * p.val = t.val * 128 + p.val; omega
  · show win0_1.index t 1 * 1024 + 1 * j.val = 1024 + j.val; omega

theorem block2 (t : Fin cfg0.N) (z : Fin 2) (hz : t.val / 64 = z.val) (g : Fin 8) (p q : Fin 128) :
    (iblk m c 2 t : S1x8x128x128.Idx → EReal) (ix4 0 g p q) = (V m c main_v11 : S2x8x128x128.Idx → EReal) (ix4 z g p q) := by
  obtain ⟨_, ⟨h0, h1, h2, h3⟩, _⟩ := idx t
  refine congrArg (V m c main_v11) (funext fun a => Fin.ext ?_)
  fin_cases a
  · show win0_2.index t 0 * 1 + 1 * 0 = z.val; omega
  · show win0_2.index t 1 * 8 + 1 * g.val = g.val; omega
  · show win0_2.index t 2 * 128 + 1 * p.val = p.val; omega
  · show win0_2.index t 3 * 128 + 1 * q.val = q.val; omega

theorem block3 (t : Fin cfg0.N) (z : Fin 2) (hz : t.val / 64 = z.val) (g : Fin 8) (p : Fin 128) :
    (iblk m c 3 t : S1x128x8.Idx → EReal) (ix3 0 p g) = (V m c main_v16 : S2x128x8.Idx → EReal) (ix3 z p g) := by
  obtain ⟨_, _, ⟨h0, h1, h2⟩, _⟩ := idx t
  refine congrArg (V m c main_v16) (funext fun a => Fin.ext ?_)
  fin_cases a
  · show win0_3.index t 0 * 1 + 1 * 0 = z.val; omega
  · show win0_3.index t 1 * 128 + 1 * p.val = p.val; omega
  · show win0_3.index t 2 * 8 + 1 * g.val = g.val; omega

theorem block4 (t : Fin cfg0.N) (d : Fin 128) : (iblk m c 4 t : Mat 1 128) (ix2 0 d)
    = (m ((c : Thread nD τ).loc main_arg3) : S128.Idx → EReal) (ix1 d) := by
  obtain ⟨_, _, _, h0, h1, _⟩ := idx t
  rw [← gain_at m c d]
  refine congrArg (V m c main_v0) (Shape.idx_ext₂ ?_ ?_)
  · show win0_4.index t 0 * 1 + 1 * 0 = 0; omega
  · show win0_4.index t 1 * 128 + 1 * d.val = d.val; omega

end Cert.SguIdeal.RefValue

end
-- ==== Proof.SguRef.lean ====
/-
  The spatial gating's reference, read at a place.
-/
module

public import proofs.«01_k».proof.Proof.Gen.SguRefIdeal.Read
public import proofs.«01_k».proof.Proof.Shared
public import Idealize.ShloMosaic.Lib.Pointwise

@[expose] public section

set_option maxRecDepth 16384

noncomputable section

namespace Cert.SguRefIdeal.Places

open Cert.SguRefIdeal Cert.SguRefIdeal.Read Cert.Shared Idealize.ShloMosaic Idealize.ShloMosaic.TcCoe
open scoped BigOperators

/-- A row's normalised second half in group `g` at place `d`, times the gain. -/
def nv (cm : Mat 8320 2048) (gain : S128.Idx → EReal) (R : Fin 8320) (g : Fin 8) (d : Fin 128) : EReal :=
  cm (ix2 R ⟨1024 + (g.val * 128 + d.val), by omega⟩) * Ideal.rsqrt (Ideal.div (∑ e : Fin 128,
      cm (ix2 R ⟨1024 + (g.val * 128 + e.val), by omega⟩) * cm (ix2 R ⟨1024 + (g.val * 128 + e.val), by omega⟩))
    (Ideal.ofBits FTy.f32 1124073472#32) + Ideal.ofBits FTy.f32 897988541#32) * gain (ix1 d)

variable (cm : Mat 8320 2048) (w : S8x128x128.Idx → EReal) (bi : Mat 8 128) (gain : S128.Idx → EReal)

/-- The triangle's word and a weight: the weight on and under the diagonal, else zero. -/
theorem lower_word {a b : ℕ} (ha : a < 128) (hb : b < 128) (x : EReal) :
    Scalar.select (Scalar.select (IntOp.cmpi CmpIPredicate.sge (IntOp.addi (BitVec.ofNat 32 a) 0#32) (BitVec.ofNat 32 b)) 1#1 0#1)
      x (id (constant (F := Ideal) S_ FTy.f32 0#32) ix0) = if b ≤ a then x else 0 := by
  have e : ∀ n, n < 128 → (BitVec.ofNat 32 n).toInt = n := fun n hn => by
    rw [BitVec.toInt_eq_toNat_of_lt (by rw [BitVec.toNat_ofNat]; omega), BitVec.toNat_ofNat]; omega
  have z : id (constant (F := Ideal) S_ FTy.f32 0#32) ix0 = (0 : EReal) := by
    pointwise [id]
  have hc : IntOp.cmpi CmpIPredicate.sge (IntOp.addi (BitVec.ofNat 32 a) 0#32) (BitVec.ofNat 32 b) = BitVec.ofBool (decide (b ≤ a)) := by
    simp [IntOp.cmpi, IntOp.addi, BitVec.sle, e a ha, e b hb]
  rw [z, hc]
  by_cases h : b ≤ a <;> simp [h, Scalar.select]

/-! ### The prompt -/

theorem norm_prompt (b : Fin 4) (t : Fin 2048) (g : Fin 8) (d : Fin 128) :
    val_main_v16 (F := Ideal) cm gain (ix4 b t g d) = nv cm gain ⟨b.val * 2048 + t.val, by omega⟩ g d := by
  unfold nv
  pointwise [val_main_v16, val_main_v15, val_main_v14, val_main_v13, val_main_v12, val_main_v11, val_main_v10, val_main_v9,
    val_main_v8, val_main_v7, val_main_v6, val_main_v5, val_main_v4, val_main_v3, val_main_cst, val_main_cst_0, val_main_cst_1,
    val_main_v2, val_main_v0]

theorem lower_prompt (g : Fin 8) (p q : Fin 128) :
    val_main_v22 (F := Ideal) w (ix3 g p q) = if q.val ≤ p.val then w (ix3 g p q) else 0 := by
  refine Eq.trans ?_ (lower_word p.isLt q.isLt _)
  pointwise [val_main_v22, val_main_call1_v0, val_main_call1_v1, val_main_call1_v2, val_main_v21, val_main_v20, val_main_cst_2,
    val_main_v19, val_main_c, val_main_call0_v5, val_main_call0_v4, val_main_call0_v3, val_main_call0_v2, val_main_call0_v1,
    val_main_call0_v0, val_main_call0_c, val_main_call0_c_0]

theorem mix_prompt (b : Fin 4) (t : Fin 16) (p : Fin 128) (g : Fin 8) (d : Fin 128) :
    val_main_v24 (F := Ideal) cm w gain (ix5 b t p g d)
    = ∑ q : Fin 128, nv cm gain ⟨b.val * 2048 + (t.val * 128 + q.val), by omega⟩ g d * (if q.val ≤ p.val then w (ix3 g p q) else 0) := by
  refine Eq.trans (b := ∑ q : Fin 128, val_main_v16 (F := Ideal) cm gain (ix4 b ⟨t.val * 128 + q.val, by omega⟩ g d)
    * val_main_v22 (F := Ideal) w (ix3 g p q)) ?_ (Finset.sum_congr rfl fun q _ => by rw [norm_prompt, lower_prompt])
  pointwise [val_main_v24, val_main_v23, val_main_v18]

/-- The reference's result on the rows of chunk `i` of the prompt. -/
theorem ref_prompt (i : Fin 64) (p : Fin 128) (g : Fin 8) (d : Fin 128) :
    val_main_v69 (F := Ideal) cm w bi gain (ix2 ⟨i.val * 128 + p.val, by omega⟩ ⟨g.val * 128 + d.val, by omega⟩)
    = cm (ix2 ⟨i.val * 128 + p.val, by omega⟩ ⟨g.val * 128 + d.val, by omega⟩)
      * ((∑ q : Fin 128, nv cm gain ⟨i.val * 128 + q.val, by omega⟩ g d * (if q.val ≤ p.val then w (ix3 g p q) else 0)) + bi (ix2 g p)) := by
  have e := mix_prompt cm w gain ⟨i.val / 16, by omega⟩ ⟨i.val % 16, by omega⟩ p g d
  pointwise [val_main_v69, val_main_v68, val_main_v31, val_main_v66, val_main_v30, val_main_v29, val_main_v28, val_main_v27,
    val_main_v26, val_main_v25, val_main_v17, val_main_v1, val_main_v0]
  rw [dif_pos (by omega)]
  refine congrArg₂ (· * ·) (congrArg cm (Shape.idx_ext₂ ?_ rfl)) (congrArg (· + bi (ix2 g p)) ?_)
  · show (i.val * 128 + p.val) / 2048 * 2048 + (i.val * 128 + p.val) % 2048 = i.val * 128 + p.val
    omega
  · refine Eq.trans ?_ (e.trans (Finset.sum_congr rfl fun q _ => ?_))
    · congr 2
      · exact Fin.ext (by show (i.val * 128 + p.val) / 2048 = i.val / 16; omega)
      · exact Fin.ext (by show (i.val * 128 + p.val) % 2048 / 128 = i.val % 16; omega)
    · congr 2
      exact Fin.ext (by show i.val / 16 * 2048 + (i.val % 16 * 128 + q.val) = i.val * 128 + q.val; omega)

/-! ### The samples -/

theorem norm_sample (b : Fin 32) (t : Fin 4) (g : Fin 8) (d : Fin 128) :
    val_main_v49 (F := Ideal) cm gain (ix4 b t g d) = nv cm gain ⟨8192 + (b.val * 4 + t.val), by omega⟩ g d := by
  unfold nv
  pointwise [val_main_v49, val_main_v48, val_main_v47, val_main_v46, val_main_v45, val_main_v44, val_main_v43, val_main_v42,
    val_main_v41, val_main_v40, val_main_v39, val_main_v38, val_main_v37, val_main_v36, val_main_cst_3, val_main_cst_4, val_main_cst_5,
    val_main_v35, val_main_v33]

theorem lower_sample (g : Fin 8) (p q : Fin 4) : val_main_v56 (F := Ideal) w (ix3 g p q)
    = if q.val ≤ p.val then w (ix3 g ⟨p.val, by omega⟩ ⟨q.val, by omega⟩) else 0 := by
  refine Eq.trans ?_ (lower_word (by omega) (by omega) _)
  pointwise [val_main_v56, val_main_call3_v0, val_main_call3_v1, val_main_call3_v2, val_main_v55, val_main_v54, val_main_v53, val_main_cst_7,
    val_main_v52, val_main_c_6, val_main_call2_v5, val_main_call2_v4, val_main_call2_v3, val_main_call2_v2, val_main_call2_v1,
    val_main_call2_v0, val_main_call2_c, val_main_call2_c_0]

theorem mix_sample (b : Fin 32) (p : Fin 4) (g : Fin 8) (d : Fin 128) :
    val_main_v58 (F := Ideal) cm w gain (ix5 b 0 p g d)
    = ∑ q : Fin 4, nv cm gain ⟨8192 + (b.val * 4 + q.val), by omega⟩ g d
      * (if q.val ≤ p.val then w (ix3 g ⟨p.val, by omega⟩ ⟨q.val, by omega⟩) else 0) := by
  refine Eq.trans (b := ∑ q : Fin 4, val_main_v49 (F := Ideal) cm gain (ix4 b q g d)
    * val_main_v56 (F := Ideal) w (ix3 g p q)) ?_ (Finset.sum_congr rfl fun q _ => by rw [norm_sample, lower_sample])
  pointwise [val_main_v58, val_main_v57, val_main_v51]

/-- The reference's result on the samples' rows. -/
theorem ref_sample (p : Fin 128) (g : Fin 8) (d : Fin 128) :
    val_main_v69 (F := Ideal) cm w bi gain (ix2 ⟨8192 + p.val, by omega⟩ ⟨g.val * 128 + d.val, by omega⟩)
    = cm (ix2 ⟨8192 + p.val, by omega⟩ ⟨g.val * 128 + d.val, by omega⟩)
      * ((∑ q : Fin 4, nv cm gain ⟨8192 + (p.val / 4 * 4 + q.val), by omega⟩ g d
        * (if q.val ≤ p.val % 4 then w (ix3 g ⟨p.val % 4, by omega⟩ ⟨q.val, by omega⟩) else 0)) + bi (ix2 g ⟨p.val % 4, by omega⟩)) := by
  have e := mix_sample cm w gain ⟨p.val / 4, by omega⟩ ⟨p.val % 4, by omega⟩ g d
  pointwise [val_main_v69, val_main_v68, val_main_v31, val_main_v66, val_main_v65, val_main_v64, val_main_v63, val_main_v62,
    val_main_v61, val_main_v60, val_main_v59, val_main_v50, val_main_v34, val_main_v33]
  rw [e]

/-- The reference's second result. -/
theorem ref_norm (p : Fin 128) (g : Fin 8) (d : Fin 128) :
    val_main_v67 (F := Ideal) cm gain (ix2 p ⟨g.val * 128 + d.val, by omega⟩) = nv cm gain ⟨8192 + p.val, by omega⟩ g d := by
  have e := norm_sample cm gain ⟨p.val / 4, by omega⟩ ⟨p.val % 4, by omega⟩ g d
  pointwise [val_main_v67]
  refine e.trans (congrArg (fun R => nv cm gain R g d) (Fin.ext ?_))
  show 8192 + (p.val / 4 * 4 + p.val % 4) = 8192 + p.val
  omega

end Cert.SguRefIdeal.Places

end
-- ==== Proof.SguValue.lean ====
/-
  The spatial gating: what its call computes is what its reference computes.
-/
module

public import proofs.«01_k».proof.Proof.SguBody
public import proofs.«01_k».proof.Proof.SguHost
public import proofs.«01_k».proof.Proof.SguRef
public import proofs.«01_k».proof.Proof.Gen.SguRefIdeal.Read
public import proofs.«01_k».proof.Defs

@[expose] public section

set_option maxRecDepth 16384

noncomputable section

namespace Cert.SguIdeal.RefValue

open Cert.SguIdeal Cert.SguIdeal.Gen Cert.Shared Idealize.ShloMosaic Idealize.ShloMosaic.TcCoe Idealize.SL.Sem
open Idealize.ShloMosaic.Pipeline (Dat)
open Cert.SguRefIdeal.Places
open scoped BigOperators

/-- A sum of 128 terms that all vanish outside one run of four is the sum over that run. -/
theorem sum_run (f : Fin 128 → EReal) (a : Fin 32) (h : ∀ k, k.val / 4 ≠ a.val → f k = 0) :
    ∑ k : Fin 128, f k = ∑ q : Fin 4, f ⟨a.val * 4 + q.val, by omega⟩ := by
  have e : ∑ k : Fin 128, f k = ∑ x : Fin 32 × Fin 4, f ⟨x.1.val * 4 + x.2.val, by omega⟩ :=
    (Fintype.sum_equiv (finProdFinEquiv (m := 32) (n := 4)) _ _ fun x => congrArg f (Fin.ext (by
      show x.1.val * 4 + x.2.val = x.2.val + 4 * x.1.val; omega))).symm
  rw [e, Fintype.sum_prod_type]
  refine Finset.sum_eq_single a (fun b _ hb => Finset.sum_eq_zero fun q _ => h _ ?_) fun hn => absurd (Finset.mem_univ a) hn
  show (b.val * 4 + q.val) / 4 ≠ a.val
  intro hh
  exact hb (Fin.ext (by omega))

/-- A masked weight times a value. -/
theorem select_mul (P : Prop) [Decidable P] (x y : EReal) :
    Scalar.select (BitVec.ofBool (decide P)) (x * y) 0 = y * if P then x else 0 := by
  by_cases h : P
  · simp [h, Scalar.select, mul_comm]
  · simp [h, Scalar.select]

variable (m : (b : Loc nD τ sig) → Buf (Elt Ideal) b) (c : Dev nD)

/-- The reference's two results from what the call is given. -/
abbrev G5 : S8320x1024.Idx → EReal := Cert.SguRefIdeal.Read.val_main_v69 (F := Ideal) (m ((c : Thread nD τ).loc main_arg0))
  (m ((c : Thread nD τ).loc main_arg1)) (m ((c : Thread nD τ).loc main_arg2)) (m ((c : Thread nD τ).loc main_arg3))
abbrev G6 : S128x1024.Idx → EReal := Cert.SguRefIdeal.Read.val_main_v67 (F := Ideal) (m ((c : Thread nD τ).loc main_arg0))
  (m ((c : Thread nD τ).loc main_arg3))

/-- The normalised second half in a point's blocks is the array's. -/
theorem norm_block (t : Fin cfg0.N) (g : Fin 8) (k d : Fin 128) : gv (col (iblk m c 1 t) g) (iblk m c 4 t) k d
    = nv (m ((c : Thread nD τ).loc main_arg0)) (m ((c : Thread nD τ).loc main_arg3)) (row t k) g d := by
  have e : ∀ e : Fin 128, col (iblk m c 1 t) g (ix2 k e)
      = (m ((c : Thread nD τ).loc main_arg0) : Mat 8320 2048) (ix2 (row t k) ⟨1024 + (g.val * 128 + e.val), by omega⟩) := fun e =>
    (block1 m c t k ⟨128 * g.val + e.val, by omega⟩).trans (congrArg (m ((c : Thread nD τ).loc main_arg0))
      (Shape.idx_ext₂ rfl (by show 1024 + (128 * g.val + e.val) = 1024 + (g.val * 128 + e.val); omega)))
  unfold gv nv
  rw [block4 m c t d, e d, Finset.sum_congr rfl fun k' _ => by rw [e k']]

/-- A place of a block in its group. -/
theorem half_block (t : Fin cfg0.N) (g : Fin 8) (p d : Fin 128) : col (iblk m c 0 t) g (ix2 p d)
    = (m ((c : Thread nD τ).loc main_arg0) : Mat 8320 2048) (ix2 (row t p) ⟨g.val * 128 + d.val, by omega⟩) :=
  (block0 m c t p ⟨128 * g.val + d.val, by omega⟩).trans (congrArg (m ((c : Thread nD τ).loc main_arg0))
    (Shape.idx_ext₂ rfl (by show 128 * g.val + d.val = g.val * 128 + d.val; omega)))

/-- A weight of a group in a point's blocks. -/
theorem weight_block (t : Fin cfg0.N) (z : Fin 2) (hz : t.val / 64 = z.val) (g : Fin 8) (p q : Fin 128) :
    wof (iblk m c 2 t) g (ix4 0 0 p q) = (V m c main_v11 : S2x8x128x128.Idx → EReal) (ix4 z g p q) := block2 m c t z hz g p q

/-- What a point of the prompt leaves is the reference's result there. -/
theorem at_prompt (t : Fin cfg0.N) (ht : t.val < 64) (p : Fin 128) (g : Fin 8) (d : Fin 128) :
    T (maskW 1#1) (iblk m c 0 t) (iblk m c 1 t) (iblk m c 2 t) (iblk m c 3 t) (iblk m c 4 t) p g d
    = G5 m c (ix2 (row t p) ⟨g.val * 128 + d.val, by omega⟩) := by
  refine Eq.trans ?_ (ref_prompt _ _ _ _ ⟨t.val, ht⟩ p g d).symm
  unfold T core
  beta_reduce
  rw [half_block m c t g p d, block3 m c t 0 (by show t.val / 64 = 0; omega) g p, b_prompt m c g p]
  refine congrArg (fun s : EReal => _ * s) (congrArg (fun s : EReal => s + _) (Finset.sum_congr rfl fun k _ => ?_))
  rw [mask_apply, norm_block, select_mul]
  rw [weight_block m c t 0 (by show t.val / 64 = 0; omega) g p k, w_prompt m c g p k]
  simp only [true_or, and_true]

/-- What the last point leaves is the reference's result on the samples. -/
theorem at_sample (t : Fin cfg0.N) (ht : t.val = 64) (p : Fin 128) (g : Fin 8) (d : Fin 128) :
    T (maskW 0#1) (iblk m c 0 t) (iblk m c 1 t) (iblk m c 2 t) (iblk m c 3 t) (iblk m c 4 t) p g d
    = G5 m c (ix2 (row t p) ⟨g.val * 128 + d.val, by omega⟩) := by
  have hr : ∀ k : Fin 128, row t k = ⟨8192 + k.val, by omega⟩ := fun k => Fin.ext (by show t.val * 128 + k.val = 8192 + k.val; omega)
  rw [hr p]
  refine Eq.trans ?_ (ref_sample _ _ _ _ p g d).symm
  unfold T core
  beta_reduce
  rw [half_block m c t g p d, hr p, block3 m c t 1 (by show t.val / 64 = 1; omega) g p, b_sample m c g p]
  refine congrArg (fun s : EReal => _ * s) (congrArg (fun s : EReal => s + _) (Eq.trans (sum_run _ ⟨p.val / 4, by omega⟩ fun k hk => ?_)
    (Finset.sum_congr rfl fun q _ => ?_)))
  · rw [mask_apply, select_mul, if_neg (fun h => h.2.elim (by decide) fun h => hk h.symm), mul_zero]
  · rw [mask_apply, norm_block, select_mul, hr]
    rw [weight_block m c t 1 (by show t.val / 64 = 1; omega) g p _, w_sample m c g p _]
    refine congrArg (fun s : EReal => _ * s) (if_congr ⟨fun h => ?_, fun h => ⟨?_, Or.inr ?_⟩⟩ (congrArg (m ((c : Thread nD τ).loc main_arg1)) ?_) rfl)
    · have := h.1
      change p.val / 4 * 4 + q.val ≤ p.val at this
      omega
    · exact congrArg (ix3 g _) (Fin.ext (by show (p.val / 4 * 4 + q.val) % 4 = q.val; omega))
    · show p.val / 4 * 4 + q.val ≤ p.val; omega
    · show p.val / 4 = (p.val / 4 * 4 + q.val) / 4; omega

/-- What point `t` writes back of the result is its block of the reference's result. -/
theorem flushed5_eq (t : Fin cfg0.N) :
    (dats m 0 c).flushed 5 t = ((cfg0.win 5).blk t).view.read (Elt Ideal) (G5 m c) := by
  obtain ⟨_, _, _, _, _, h0, h1, _⟩ := idx t
  have hN : t.val < 65 := t.isLt
  by_cases ht : t.val % 65 = 64
  all_goals
    first
    | rw [Value.flushed5_B m c t ht ht ht ht ht ht ht ht]
    | rw [Value.flushed5_A m c t ht ht ht ht ht ht ht ht]
    funext (j : S128x1024.Idx)
    idx_vars j
    refine Eq.trans (b := G5 m c (ix2 (row t j0) ⟨j1.val / 128 * 128 + j1.val % 128, by omega⟩)) ?_
      (congrArg (G5 m c) (Shape.idx_ext₂ ?_ ?_))
    rotate_left
    · show t.val * 128 + j0.val = win0_5.index t 0 * 128 + 1 * j0.val; omega
    · show j1.val / 128 * 128 + j1.val % 128 = win0_5.index t 1 * 1024 + 1 * j1.val; omega
  · refine Eq.trans ?_ (at_sample m c t (by omega) j0 ⟨j1.val / 128, by omega⟩ ⟨j1.val % 128, by omega⟩)
    exact outB _ _ _ _ _ _ _ _ _ _ _ _ _ _ _ _ _ _ _ _ _ _ _ _ _ _ _ _ _ _ _ _ _ rfl (by
      show j1.val = 128 * (j1.val / 128) + j1.val % 128; omega)
  · refine Eq.trans ?_ (at_prompt m c t (by omega) j0 ⟨j1.val / 128, by omega⟩ ⟨j1.val % 128, by omega⟩)
    exact outA _ _ _ _ _ _ _ _ _ _ _ _ _ _ _ _ _ _ _ _ _ _ _ _ _ _ _ _ _ _ _ _ _ rfl (by
      show j1.val = 128 * (j1.val / 128) + j1.val % 128; omega)

/-- What the last point writes back of the normalised second half is the reference's second result. -/
theorem flushed6_eq (t : Fin cfg0.N) (ht : t.val % 65 = 64) :
    (dats m 0 c).flushed 6 t = ((cfg0.win 6).blk t).view.read (Elt Ideal) (G6 m c) := by
  obtain ⟨_, _, _, _, _, _, _, h0, h1⟩ := idx t
  have hN : t.val < 65 := t.isLt
  rw [Value.flushed6_B m c t ht ht ht ht ht ht ht ht]
  funext (j : S128x1024.Idx)
  idx_vars j
  refine Eq.trans (b := G6 m c (ix2 j0 ⟨j1.val / 128 * 128 + j1.val % 128, by omega⟩)) ?_
    (congrArg (G6 m c) (Shape.idx_ext₂ ?_ ?_))
  · refine Eq.trans (Eq.trans ?_ (norm_block m c t ⟨j1.val / 128, by omega⟩ j0 ⟨j1.val % 128, by omega⟩))
      (Eq.trans ?_ (ref_norm _ _ j0 ⟨j1.val / 128, by omega⟩ ⟨j1.val % 128, by omega⟩).symm)
    · exact vnB _ _ _ _ _ _ _ _ _ _ _ _ _ _ _ _ _ _ _ _ _ _ _ _ _ _ _ _ _ _ _ _ _ rfl (by
        show j1.val = 128 * (j1.val / 128) + j1.val % 128; omega)
    · exact congrArg (fun R => nv _ _ R _ _) (Fin.ext (by show t.val * 128 + j0.val = 8192 + j0.val; omega))
  · show j0.val = win0_6.index t 0 * 128 + 1 * j0.val; omega
  · show j1.val / 128 * 128 + j1.val % 128 = win0_6.index t 1 * 1024 + 1 * j1.val; omega

/-- Every index of the result lies in a block some point writes. -/
theorem cover5 (i : S8320x1024.Idx) :
    ∃ t : Fin cfg0.N, (cfg0.win 5).flush t = true ∧ i ∈ ((cfg0.win 5).blk t).view.set := by
  have h0 : (i 0 : Nat) < 8320 := (i 0).isLt
  have h1 : (i 1 : Nat) < 1024 := (i 1).isLt
  have hl : (i 0).val / 128 < cfg0.N := by show (i 0).val / 128 < 65; omega
  obtain ⟨_, _, _, _, _, e0, e1, _⟩ := idx ⟨(i 0).val / 128, hl⟩
  refine ⟨⟨(i 0).val / 128, hl⟩, flush0_5 _, ?_⟩
  show i ∈ ((View.whole main_v17_0).slice (win0_5.rect ⟨(i 0).val / 128, hl⟩)).set
  rw [View.set_slice_whole, Rect.mem_set_unit]
  exact Fin.forall_fin_two.2 ⟨div_block (B := 128) (by omega) e0, div_block (B := 1024) (by omega) (e1.trans (by omega : 0 = (i 1).val / 1024))⟩

/-- Every index of the second result lies in the last point's block. -/
theorem cover6 (i : S128x1024.Idx) :
    ∃ t : Fin cfg0.N, (cfg0.win 6).flush t = true ∧ i ∈ ((cfg0.win 6).blk t).view.set := by
  have h0 : (i 0 : Nat) < 128 := (i 0).isLt
  have h1 : (i 1 : Nat) < 1024 := (i 1).isLt
  have hl : 64 < cfg0.N := by show 64 < 65; omega
  obtain ⟨_, _, _, _, _, _, _, e0, e1⟩ := idx ⟨64, hl⟩
  refine ⟨⟨64, hl⟩, (flush0_6 _).2 rfl, ?_⟩
  show i ∈ ((View.whole main_v17_1).slice (win0_6.rect ⟨64, hl⟩)).set
  rw [View.set_slice_whole, Rect.mem_set_unit]
  exact Fin.forall_fin_two.2 ⟨div_block (B := 128) (by omega) (e0.trans (by omega : 0 = (i 0).val / 128)),
    div_block (B := 1024) (by omega) (e1.trans (by omega : 0 = (i 1).val / 1024))⟩

/-- The spatial gating's call computes the reference's two results. -/
theorem algebraic : algebraic_SguIdeal_SguRefIdeal :=
  fun m ρ m' ρ' _ hag => ⟨G5 m, G6 m,
    (θ_run _ _ _).mono (fun _ h c => ⟨(h c).1.trans
      ((dats m 0 c).arrAt_eq_of_cover 5 (G5 m c) (fun t _ => flushed5_eq m c t) cover5),
      (h c).2.1.trans ((dats m 0 c).arrAt_eq_of_cover 6 (G6 m c) (fun t hf => flushed6_eq m c t ((flush0_6 t).1 hf)) cover6),
      (h c).2.2⟩) (Value.run_blocks m ρ),
    (θ_run _ _ _).mono (fun _ h c => ⟨(h c).1.trans ((show _ = Cert.SguRefIdeal.Read.val_main_v69 (F := Ideal) _ _ _ _ from rfl).trans
      (congr (congr (congrArg₂ Cert.SguRefIdeal.Read.val_main_v69 (hag c).1 (hag c).2.1) (hag c).2.2.1) (hag c).2.2.2)),
      (h c).2.1.trans (by rw [(hag c).1, (hag c).2.2.2]; rfl), (h c).2.2⟩)
      (Cert.SguRefIdeal.Value.run m' ρ')⟩

end Cert.SguIdeal.RefValue

end
-- ==== Proof.InAValue.lean ====
/-
  The attention mixer's call of the input projection: the result array is the first 1536 columns of the rows times the weights.
-/
module

public import proofs.«01_k».proof.Proof.Gen.InAIdeal.Value
public import proofs.«01_k».proof.Proof.Gen.InARefIdeal.Run
public import proofs.«01_k».proof.Proof.Shared
public import proofs.«01_k».proof.Defs

@[expose] public section

set_option maxRecDepth 16384

noncomputable section

namespace Cert.InAIdeal.RefValue

open Cert.InAIdeal Cert.InAIdeal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's result of device `c`'s arguments. -/
abbrev G (c : Dev nD) : Buf (Elt Ideal) ((c : Thread nD τ).loc main_v0) :=
  Cert.InGRefIdeal.Read.val_main_v2 (F := Ideal) (m ((c : Thread nD τ).loc main_arg0)) (m ((c : Thread nD τ).loc main_arg1))

/-- Where each window's block lies, against the result's block. -/
theorem idx : ∀ t : Fin cfg0.N, win0_0.index t 0 = win0_2.index t 0 ∧ win0_0.index t 1 = 0 ∧ win0_1.index t 0 = 0
    ∧ win0_1.index t 1 = win0_2.index t 1 ∧ win0_2.index t 0 < 8 ∧ win0_2.index t 1 < 3 :=
  (by decide +kernel : ∀ t : Fin grid0.N, win0_0.index t 0 = win0_2.index t 0 ∧ win0_0.index t 1 = 0 ∧ win0_1.index t 0 = 0
    ∧ win0_1.index t 1 = win0_2.index t 1 ∧ win0_2.index t 0 < 8 ∧ win0_2.index t 1 < 3)

/-- Some grid point writes each pair of block coordinates. -/
theorem surj : ∀ (p : Fin 8) (q : Fin 3), ∃ t : Fin cfg0.N, win0_2.index t 0 = p.val ∧ win0_2.index t 1 = q.val :=
  (by decide +kernel : ∀ (p : Fin 8) (q : Fin 3), ∃ t : Fin grid0.N, win0_2.index t 0 = p.val ∧ win0_2.index t 1 = q.val)

/-- What point `t` writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  obtain ⟨h0, h1, h2, h3, h4, h5⟩ := idx t
  funext (j : S1040x512.Idx)
  idx_vars j
  refine (panel _ _ _ _).trans (Eq.symm ?_)
  refine Eq.trans (b := G m c (ix2 ⟨win0_2.index t 0 * 1040 + j0.val, by omega⟩ ⟨win0_2.index t 1 * 512 + j1.val, by omega⟩))
    (congrArg (G m c) (Shape.idx_ext₂ ?_ ?_)) ((colsA_apply _ _ _ _).trans (rc_congr (fun k => ?_) fun k => ?_))
  · show win0_2.index t 0 * 1040 + 1 * j0.val = win0_2.index t 0 * 1040 + j0.val; omega
  · show win0_2.index t 1 * 512 + 1 * j1.val = win0_2.index t 1 * 512 + j1.val; omega
  · refine congrArg (m ((c : Thread nD τ).loc main_arg0)) (Shape.idx_ext₂ ?_ ?_)
    · show win0_2.index t 0 * 1040 + j0.val = win0_0.index t 0 * 1040 + 1 * j0.val; omega
    · show k.val = win0_0.index t 1 * 2048 + 1 * k.val; omega
  · refine congrArg (m ((c : Thread nD τ).loc main_arg1)) (Shape.idx_ext₂ ?_ ?_)
    · show k.val = win0_1.index t 0 * 2048 + 1 * k.val; omega
    · show win0_2.index t 1 * 512 + j1.val = win0_1.index t 1 * 512 + 1 * j1.val; omega

/-- Every index of the result lies in a block some point writes. -/
theorem cover (i : S8320x1536.Idx) :
    ∃ t : Fin cfg0.N, (cfg0.win 2).flush t = true ∧ i ∈ ((cfg0.win 2).blk t).view.set := by
  have h0 : (i 0 : Nat) < 8320 := (i 0).isLt
  have h1 : (i 1 : Nat) < 1536 := (i 1).isLt
  obtain ⟨t, e0, e1⟩ := surj ⟨(i 0).val / 1040, by omega⟩ ⟨(i 1).val / 512, by omega⟩
  refine ⟨t, flush0_2 t, ?_⟩
  show i ∈ ((View.whole main_v0).slice (win0_2.rect t)).set
  rw [View.set_slice_whole, Rect.mem_set_unit]
  exact Fin.forall_fin_two.2 ⟨div_block (B := 1040) (by omega) e0, div_block (B := 512) (by omega) e1⟩

/-- The projection's call computes the reference's columns. -/
theorem algebraic : algebraic_InAIdeal_InARefIdeal :=
  fun m ρ m' ρ' _ hag => ⟨G m,
    (θ_run _ _ _).mono (fun _ h c => ⟨(h c).1.trans
      ((dats m 0 c).arrAt_eq_of_cover 2 (G m c) (fun t _ => flushed_eq m c t) cover), (h c).2⟩) (Value.run_blocks m ρ),
    (θ_run _ _ _).mono (fun _ h c => ⟨(h c).1.trans (by rw [(hag c).1, (hag c).2]; rfl), (h c).2⟩)
      (Cert.InARefIdeal.Value.run m' ρ')⟩

end Cert.InAIdeal.RefValue

end
-- ==== Proof.InBValue.lean ====
/-
  The recurrent mixer's call of the input projection: the result array is the 4096 columns from 1536 on of the rows times the weights.
-/
module

public import proofs.«01_k».proof.Proof.Gen.InBIdeal.Value
public import proofs.«01_k».proof.Proof.Gen.InBRefIdeal.Run
public import proofs.«01_k».proof.Proof.Shared
public import proofs.«01_k».proof.Defs

@[expose] public section

set_option maxRecDepth 16384

noncomputable section

namespace Cert.InBIdeal.RefValue

open Cert.InBIdeal Cert.InBIdeal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's result of device `c`'s arguments. -/
abbrev G (c : Dev nD) : Buf (Elt Ideal) ((c : Thread nD τ).loc main_v0) :=
  Cert.InGRefIdeal.Read.val_main_v3 (F := Ideal) (m ((c : Thread nD τ).loc main_arg0)) (m ((c : Thread nD τ).loc main_arg1))

/-- Where each window's block lies, against the result's block. -/
theorem idx : ∀ t : Fin cfg0.N, win0_0.index t 0 = win0_2.index t 0 ∧ win0_0.index t 1 = 0 ∧ win0_1.index t 0 = 0
    ∧ win0_1.index t 1 = 3 + win0_2.index t 1 ∧ win0_2.index t 0 < 8 ∧ win0_2.index t 1 < 8 :=
  (by decide +kernel : ∀ t : Fin grid0.N, win0_0.index t 0 = win0_2.index t 0 ∧ win0_0.index t 1 = 0 ∧ win0_1.index t 0 = 0
    ∧ win0_1.index t 1 = 3 + win0_2.index t 1 ∧ win0_2.index t 0 < 8 ∧ win0_2.index t 1 < 8)

/-- Some grid point writes each pair of block coordinates. -/
theorem surj : ∀ (p : Fin 8) (q : Fin 8), ∃ t : Fin cfg0.N, win0_2.index t 0 = p.val ∧ win0_2.index t 1 = q.val :=
  (by decide +kernel : ∀ (p : Fin 8) (q : Fin 8), ∃ t : Fin grid0.N, win0_2.index t 0 = p.val ∧ win0_2.index t 1 = q.val)

/-- What point `t` writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  obtain ⟨h0, h1, h2, h3, h4, h5⟩ := idx t
  funext (j : S1040x512.Idx)
  idx_vars j
  refine (panel _ _ _ _).trans (Eq.symm ?_)
  refine Eq.trans (b := G m c (ix2 ⟨win0_2.index t 0 * 1040 + j0.val, by omega⟩ ⟨win0_2.index t 1 * 512 + j1.val, by omega⟩))
    (congrArg (G m c) (Shape.idx_ext₂ ?_ ?_)) ((colsB_apply _ _ _ _).trans (rc_congr (fun k => ?_) fun k => ?_))
  · show win0_2.index t 0 * 1040 + 1 * j0.val = win0_2.index t 0 * 1040 + j0.val; omega
  · show win0_2.index t 1 * 512 + 1 * j1.val = win0_2.index t 1 * 512 + j1.val; omega
  · refine congrArg (m ((c : Thread nD τ).loc main_arg0)) (Shape.idx_ext₂ ?_ ?_)
    · show win0_2.index t 0 * 1040 + j0.val = win0_0.index t 0 * 1040 + 1 * j0.val; omega
    · show k.val = win0_0.index t 1 * 2048 + 1 * k.val; omega
  · refine congrArg (m ((c : Thread nD τ).loc main_arg1)) (Shape.idx_ext₂ ?_ ?_)
    · show k.val = win0_1.index t 0 * 2048 + 1 * k.val; omega
    · show 1536 + (win0_2.index t 1 * 512 + j1.val) = win0_1.index t 1 * 512 + 1 * j1.val; omega

/-- Every index of the result lies in a block some point writes. -/
theorem cover (i : S8320x4096.Idx) :
    ∃ t : Fin cfg0.N, (cfg0.win 2).flush t = true ∧ i ∈ ((cfg0.win 2).blk t).view.set := by
  have h0 : (i 0 : Nat) < 8320 := (i 0).isLt
  have h1 : (i 1 : Nat) < 4096 := (i 1).isLt
  obtain ⟨t, e0, e1⟩ := surj ⟨(i 0).val / 1040, by omega⟩ ⟨(i 1).val / 512, by omega⟩
  refine ⟨t, flush0_2 t, ?_⟩
  show i ∈ ((View.whole main_v0).slice (win0_2.rect t)).set
  rw [View.set_slice_whole, Rect.mem_set_unit]
  exact Fin.forall_fin_two.2 ⟨div_block (B := 1040) (by omega) e0, div_block (B := 512) (by omega) e1⟩

/-- The projection's call computes the reference's columns. -/
theorem algebraic : algebraic_InBIdeal_InBRefIdeal :=
  fun m ρ m' ρ' _ hag => ⟨G m,
    (θ_run _ _ _).mono (fun _ h c => ⟨(h c).1.trans
      ((dats m 0 c).arrAt_eq_of_cover 2 (G m c) (fun t _ => flushed_eq m c t) cover), (h c).2⟩) (Value.run_blocks m ρ),
    (θ_run _ _ _).mono (fun _ h c => ⟨(h c).1.trans (by rw [(hag c).1, (hag c).2]; rfl), (h c).2⟩)
      (Cert.InBRefIdeal.Value.run m' ρ')⟩

end Cert.InBIdeal.RefValue

end
-- ==== Proof.InCValue.lean ====
/-
  The spatial gating mixer's call of the input projection: the result array is the 2048 columns from 5632 on of the rows times the weights.
-/
module

public import proofs.«01_k».proof.Proof.Gen.InCIdeal.Value
public import proofs.«01_k».proof.Proof.Gen.InCRefIdeal.Run
public import proofs.«01_k».proof.Proof.Shared
public import proofs.«01_k».proof.Defs

@[expose] public section

set_option maxRecDepth 16384

noncomputable section

namespace Cert.InCIdeal.RefValue

open Cert.InCIdeal Cert.InCIdeal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's result of device `c`'s arguments. -/
abbrev G (c : Dev nD) : Buf (Elt Ideal) ((c : Thread nD τ).loc main_v0) :=
  Cert.InGRefIdeal.Read.val_main_v4 (F := Ideal) (m ((c : Thread nD τ).loc main_arg0)) (m ((c : Thread nD τ).loc main_arg1))

/-- Where each window's block lies, against the result's block. -/
theorem idx : ∀ t : Fin cfg0.N, win0_0.index t 0 = win0_2.index t 0 ∧ win0_0.index t 1 = 0 ∧ win0_1.index t 0 = 0
    ∧ win0_1.index t 1 = 11 + win0_2.index t 1 ∧ win0_2.index t 0 < 8 ∧ win0_2.index t 1 < 4 :=
  (by decide +kernel : ∀ t : Fin grid0.N, win0_0.index t 0 = win0_2.index t 0 ∧ win0_0.index t 1 = 0 ∧ win0_1.index t 0 = 0
    ∧ win0_1.index t 1 = 11 + win0_2.index t 1 ∧ win0_2.index t 0 < 8 ∧ win0_2.index t 1 < 4)

/-- Some grid point writes each pair of block coordinates. -/
theorem surj : ∀ (p : Fin 8) (q : Fin 4), ∃ t : Fin cfg0.N, win0_2.index t 0 = p.val ∧ win0_2.index t 1 = q.val :=
  (by decide +kernel : ∀ (p : Fin 8) (q : Fin 4), ∃ t : Fin grid0.N, win0_2.index t 0 = p.val ∧ win0_2.index t 1 = q.val)

/-- What point `t` writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  obtain ⟨h0, h1, h2, h3, h4, h5⟩ := idx t
  funext (j : S1040x512.Idx)
  idx_vars j
  refine (panel _ _ _ _).trans (Eq.symm ?_)
  refine Eq.trans (b := G m c (ix2 ⟨win0_2.index t 0 * 1040 + j0.val, by omega⟩ ⟨win0_2.index t 1 * 512 + j1.val, by omega⟩))
    (congrArg (G m c) (Shape.idx_ext₂ ?_ ?_)) ((colsC_apply _ _ _ _).trans (rc_congr (fun k => ?_) fun k => ?_))
  · show win0_2.index t 0 * 1040 + 1 * j0.val = win0_2.index t 0 * 1040 + j0.val; omega
  · show win0_2.index t 1 * 512 + 1 * j1.val = win0_2.index t 1 * 512 + j1.val; omega
  · refine congrArg (m ((c : Thread nD τ).loc main_arg0)) (Shape.idx_ext₂ ?_ ?_)
    · show win0_2.index t 0 * 1040 + j0.val = win0_0.index t 0 * 1040 + 1 * j0.val; omega
    · show k.val = win0_0.index t 1 * 2048 + 1 * k.val; omega
  · refine congrArg (m ((c : Thread nD τ).loc main_arg1)) (Shape.idx_ext₂ ?_ ?_)
    · show k.val = win0_1.index t 0 * 2048 + 1 * k.val; omega
    · show 5632 + (win0_2.index t 1 * 512 + j1.val) = win0_1.index t 1 * 512 + 1 * j1.val; omega

/-- Every index of the result lies in a block some point writes. -/
theorem cover (i : S8320x2048.Idx) :
    ∃ t : Fin cfg0.N, (cfg0.win 2).flush t = true ∧ i ∈ ((cfg0.win 2).blk t).view.set := by
  have h0 : (i 0 : Nat) < 8320 := (i 0).isLt
  have h1 : (i 1 : Nat) < 2048 := (i 1).isLt
  obtain ⟨t, e0, e1⟩ := surj ⟨(i 0).val / 1040, by omega⟩ ⟨(i 1).val / 512, by omega⟩
  refine ⟨t, flush0_2 t, ?_⟩
  show i ∈ ((View.whole main_v0).slice (win0_2.rect t)).set
  rw [View.set_slice_whole, Rect.mem_set_unit]
  exact Fin.forall_fin_two.2 ⟨div_block (B := 1040) (by omega) e0, div_block (B := 512) (by omega) e1⟩

/-- The projection's call computes the reference's columns. -/
theorem algebraic : algebraic_InCIdeal_InCRefIdeal :=
  fun m ρ m' ρ' _ hag => ⟨G m,
    (θ_run _ _ _).mono (fun _ h c => ⟨(h c).1.trans
      ((dats m 0 c).arrAt_eq_of_cover 2 (G m c) (fun t _ => flushed_eq m c t) cover), (h c).2⟩) (Value.run_blocks m ρ),
    (θ_run _ _ _).mono (fun _ h c => ⟨(h c).1.trans (by rw [(hag c).1, (hag c).2]; rfl), (h c).2⟩)
      (Cert.InCRefIdeal.Value.run m' ρ')⟩

end Cert.InCIdeal.RefValue

end
-- ==== Proof.InGValue.lean ====
/-
  The gate projection, the fourth of the input projection's four calls: the result array is the last 6144 columns of the
  rows times the weights.
-/
module

public import proofs.«01_k».proof.Proof.Gen.InGIdeal.Value
public import proofs.«01_k».proof.Proof.Gen.InGRefIdeal.Run
public import proofs.«01_k».proof.Proof.Shared
public import proofs.«01_k».proof.Defs

@[expose] public section

set_option maxRecDepth 16384

noncomputable section

namespace Cert.InGIdeal.RefValue

open Cert.InGIdeal Cert.InGIdeal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's result of device `c`'s arguments. -/
abbrev G (c : Dev nD) : Buf (Elt Ideal) ((c : Thread nD τ).loc main_v0) :=
  Cert.InGRefIdeal.Read.val_main_v5 (F := Ideal) (m ((c : Thread nD τ).loc main_arg0)) (m ((c : Thread nD τ).loc main_arg1))

/-- Where each window's block lies, against the result's block. -/
theorem idx : ∀ t : Fin cfg0.N, win0_0.index t 0 = win0_2.index t 0 ∧ win0_0.index t 1 = 0 ∧ win0_1.index t 0 = 0
    ∧ win0_1.index t 1 = 15 + win0_2.index t 1 ∧ win0_2.index t 0 < 8 ∧ win0_2.index t 1 < 12 :=
  (by decide +kernel : ∀ t : Fin grid0.N, win0_0.index t 0 = win0_2.index t 0 ∧ win0_0.index t 1 = 0 ∧ win0_1.index t 0 = 0
    ∧ win0_1.index t 1 = 15 + win0_2.index t 1 ∧ win0_2.index t 0 < 8 ∧ win0_2.index t 1 < 12)

/-- Some grid point writes each pair of block coordinates. -/
theorem surj : ∀ (p : Fin 8) (q : Fin 12), ∃ t : Fin cfg0.N, win0_2.index t 0 = p.val ∧ win0_2.index t 1 = q.val :=
  (by decide +kernel : ∀ (p : Fin 8) (q : Fin 12), ∃ t : Fin grid0.N, win0_2.index t 0 = p.val ∧ win0_2.index t 1 = q.val)

/-- What point `t` writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  obtain ⟨h0, h1, h2, h3, h4, h5⟩ := idx t
  funext (j : S1040x512.Idx)
  idx_vars j
  refine (panel _ _ _ _).trans (Eq.symm ?_)
  refine Eq.trans (b := G m c (ix2 ⟨win0_2.index t 0 * 1040 + j0.val, by omega⟩ ⟨win0_2.index t 1 * 512 + j1.val, by omega⟩))
    (congrArg (G m c) (Shape.idx_ext₂ ?_ ?_)) ((colsG_apply _ _ _ _).trans (rc_congr (fun k => ?_) fun k => ?_))
  · show win0_2.index t 0 * 1040 + 1 * j0.val = win0_2.index t 0 * 1040 + j0.val; omega
  · show win0_2.index t 1 * 512 + 1 * j1.val = win0_2.index t 1 * 512 + j1.val; omega
  · refine congrArg (m ((c : Thread nD τ).loc main_arg0)) (Shape.idx_ext₂ ?_ ?_)
    · show win0_2.index t 0 * 1040 + j0.val = win0_0.index t 0 * 1040 + 1 * j0.val; omega
    · show k.val = win0_0.index t 1 * 2048 + 1 * k.val; omega
  · refine congrArg (m ((c : Thread nD τ).loc main_arg1)) (Shape.idx_ext₂ ?_ ?_)
    · show k.val = win0_1.index t 0 * 2048 + 1 * k.val; omega
    · show 7680 + (win0_2.index t 1 * 512 + j1.val) = win0_1.index t 1 * 512 + 1 * j1.val; omega

/-- Every index of the result lies in a block some point writes. -/
theorem cover (i : S8320x6144.Idx) :
    ∃ t : Fin cfg0.N, (cfg0.win 2).flush t = true ∧ i ∈ ((cfg0.win 2).blk t).view.set := by
  have h0 : (i 0 : Nat) < 8320 := (i 0).isLt
  have h1 : (i 1 : Nat) < 6144 := (i 1).isLt
  obtain ⟨t, e0, e1⟩ := surj ⟨(i 0).val / 1040, by omega⟩ ⟨(i 1).val / 512, by omega⟩
  refine ⟨t, flush0_2 t, ?_⟩
  show i ∈ ((View.whole main_v0).slice (win0_2.rect t)).set
  rw [View.set_slice_whole, Rect.mem_set_unit]
  exact Fin.forall_fin_two.2 ⟨div_block (B := 1040) (by omega) e0, div_block (B := 512) (by omega) e1⟩

/-- The projection's call computes the reference's columns. -/
theorem algebraic : algebraic_InGIdeal_InGRefIdeal :=
  fun m ρ m' ρ' _ hag => ⟨G m,
    (θ_run _ _ _).mono (fun _ h c => ⟨(h c).1.trans
      ((dats m 0 c).arrAt_eq_of_cover 2 (G m c) (fun t _ => flushed_eq m c t) cover), (h c).2⟩) (Value.run_blocks m ρ),
    (θ_run _ _ _).mono (fun _ h c => ⟨(h c).1.trans (by rw [(hag c).1, (hag c).2]; rfl), (h c).2⟩)
      (Cert.InGRefIdeal.Value.run m' ρ')⟩

end Cert.InGIdeal.RefValue

end
-- ==== Proof.MergeValue.lean ====
/-
  The merge: the three mixers' rows times their weights, each through its logistic gate, added up.
-/
module

public import proofs.«01_k».proof.Proof.Gen.MergeIdeal.Value
public import proofs.«01_k».proof.Proof.Gen.MergeRefIdeal.Read
public import proofs.«01_k».proof.Proof.Gen.MergeRefIdeal.Run
public import proofs.«01_k».proof.Proof.Shared
public import proofs.«01_k».proof.Defs

@[expose] public section

set_option maxRecDepth 16384

noncomputable section

namespace Cert.MergeIdeal.RefValue

open Cert.MergeIdeal Cert.MergeIdeal.Gen Cert.Shared Idealize.ShloMosaic Idealize.ShloMosaic.TcCoe Idealize.SL.Sem
open Idealize.ShloMosaic.Pipeline (Dat)

/-- The body's product of rows and weights at an index. -/
theorem prod_apply (x : Mat 1040 1024) (w : Mat 1024 512) (r : Fin 1040) (q : Fin 512) :
    k0_pay2 (F := Ideal) x w (ix2 r q) = rc x w r q := by
  unfold rc
  pointwise [k0_pay2]

/-- The body's block at an index. -/
theorem pay_apply (a b c : Mat 1040 1024) (wa wb wc : Mat 1024 512) (ga gb gc : Mat 1040 512) (r : Fin 1040) (q : Fin 512) :
    k0_pay1 (F := Ideal) (k0_pay2 (F := Ideal) c wc) (k0_pay3 (F := Ideal) a wa b wb ga gb) gc (ix2 r q)
      = sgm (ga (ix2 r q)) * rc a wa r q + sgm (gb (ix2 r q)) * rc b wb r q + sgm (gc (ix2 r q)) * rc c wc r q := by
  unfold rc sgm
  pointwise [k0_pay1, k0_pay2, k0_pay3]
  simp only [zero_sub]

open Cert.MergeRefIdeal.Read in
/-- The reference's result at an index. -/
theorem ref_apply (a b c : Mat 8320 1024) (g : Mat 8320 6144) (wa wb wc : Mat 1024 2048) (r : Fin 8320) (q : Fin 2048) :
    val_main_v20 (F := Ideal) a b c g wa wb wc (ix2 r q)
      = sgm (g (ix2 r ⟨q.val, by omega⟩)) * rc a wa r q + sgm (g (ix2 r ⟨2048 + q.val, by omega⟩)) * rc b wb r q
        + sgm (g (ix2 r ⟨4096 + q.val, by omega⟩)) * rc c wc r q := by
  unfold rc sgm
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0]

variable (m : (ℓ : Loc nD τ sig) → Buf (Elt Ideal) ℓ) (ρ : Dev nD → PrngReg)

/-- The reference's result of device `c`'s arguments. -/
abbrev G (c : Dev nD) : Buf (Elt Ideal) ((c : Thread nD τ).loc main_v0) :=
  Cert.MergeRefIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Where the windows' rows begin: with the result's block, or at the top. -/
theorem idx0 : ∀ t : Fin cfg0.N, (win0_0.index t 0 = win0_9.index t 0 ∧ win0_1.index t 0 = win0_9.index t 0
    ∧ win0_2.index t 0 = win0_9.index t 0) ∧ (win0_3.index t 0 = 0 ∧ win0_4.index t 0 = 0 ∧ win0_5.index t 0 = 0)
    ∧ (win0_6.index t 0 = win0_9.index t 0 ∧ win0_7.index t 0 = win0_9.index t 0 ∧ win0_8.index t 0 = win0_9.index t 0)
    ∧ win0_9.index t 0 < 8 :=
  (by decide +kernel : ∀ t : Fin grid0.N, (win0_0.index t 0 = win0_9.index t 0 ∧ win0_1.index t 0 = win0_9.index t 0
    ∧ win0_2.index t 0 = win0_9.index t 0) ∧ (win0_3.index t 0 = 0 ∧ win0_4.index t 0 = 0 ∧ win0_5.index t 0 = 0)
    ∧ (win0_6.index t 0 = win0_9.index t 0 ∧ win0_7.index t 0 = win0_9.index t 0 ∧ win0_8.index t 0 = win0_9.index t 0)
    ∧ win0_9.index t 0 < 8)

/-- Where the windows' columns begin: the three gates lie four blocks apart. -/
theorem idx1 : ∀ t : Fin cfg0.N, (win0_0.index t 1 = 0 ∧ win0_1.index t 1 = 0 ∧ win0_2.index t 1 = 0)
    ∧ (win0_3.index t 1 = win0_9.index t 1 ∧ win0_4.index t 1 = win0_9.index t 1 ∧ win0_5.index t 1 = win0_9.index t 1)
    ∧ (win0_6.index t 1 = win0_9.index t 1 ∧ win0_7.index t 1 = 4 + win0_9.index t 1 ∧ win0_8.index t 1 = 8 + win0_9.index t 1)
    ∧ win0_9.index t 1 < 4 :=
  (by decide +kernel : ∀ t : Fin grid0.N, (win0_0.index t 1 = 0 ∧ win0_1.index t 1 = 0 ∧ win0_2.index t 1 = 0)
    ∧ (win0_3.index t 1 = win0_9.index t 1 ∧ win0_4.index t 1 = win0_9.index t 1 ∧ win0_5.index t 1 = win0_9.index t 1)
    ∧ (win0_6.index t 1 = win0_9.index t 1 ∧ win0_7.index t 1 = 4 + win0_9.index t 1 ∧ win0_8.index t 1 = 8 + win0_9.index t 1)
    ∧ win0_9.index t 1 < 4)

/-- Some grid point writes each pair of block coordinates. -/
theorem surj : ∀ (p : Fin 8) (q : Fin 4), ∃ t : Fin cfg0.N, win0_9.index t 0 = p.val ∧ win0_9.index t 1 = q.val :=
  (by decide +kernel : ∀ (p : Fin 8) (q : Fin 4), ∃ t : Fin grid0.N, win0_9.index t 0 = p.val ∧ win0_9.index t 1 = q.val)

/-- What point `t` writes back is its block of the reference's result. -/
theorem flushed_eq (c : Dev nD) (t : Fin cfg0.N) :
    (dats m 0 c).flushed 9 t = ((cfg0.win 9).blk t).view.read (Elt Ideal) (G m c) := by
  rw [Value.flushed9]
  unfold out0_9
  rw [View.canon_unit_zero hz, View.ld_unit_zero hz, View.ld_unit_zero hz, View.ld_unit_zero hz, View.ld_unit_zero hz,
    View.ld_unit_zero hz, View.ld_unit_zero hz, View.ld_unit_zero hz, View.ld_unit_zero hz, View.ld_unit_zero hz]
  obtain ⟨⟨a0, b0, c0⟩, ⟨wa0, wb0, wc0⟩, ⟨ga0, gb0, gc0⟩, p0⟩ := idx0 t
  obtain ⟨⟨a1, b1, c1⟩, ⟨wa1, wb1, wc1⟩, ⟨ga1, gb1, gc1⟩, p1⟩ := idx1 t
  funext (j : S1040x512.Idx)
  idx_vars j
  refine (pay_apply _ _ _ _ _ _ _ _ _ _ _).trans (Eq.symm ?_)
  refine Eq.trans (b := G m c (ix2 ⟨win0_9.index t 0 * 1040 + j0.val, by omega⟩ ⟨win0_9.index t 1 * 512 + j1.val, by omega⟩))
    (congrArg (G m c) (Shape.idx_ext₂ ?_ ?_)) ((ref_apply _ _ _ _ _ _ _ _ _).trans (congrArg₂ (· + ·) (congrArg₂ (· + ·)
      (congrArg₂ (· * ·) (congrArg sgm ?_) (rc_congr (fun k => ?_) fun k => ?_))
      (congrArg₂ (· * ·) (congrArg sgm ?_) (rc_congr (fun k => ?_) fun k => ?_)))
      (congrArg₂ (· * ·) (congrArg sgm ?_) (rc_congr (fun k => ?_) fun k => ?_))))
  · show win0_9.index t 0 * 1040 + 1 * j0.val = win0_9.index t 0 * 1040 + j0.val; omega
  · show win0_9.index t 1 * 512 + 1 * j1.val = win0_9.index t 1 * 512 + j1.val; omega
  · refine congrArg (m ((c : Thread nD τ).loc main_arg3)) (Shape.idx_ext₂ ?_ ?_)
    · show win0_9.index t 0 * 1040 + j0.val = win0_6.index t 0 * 1040 + 1 * j0.val; omega
    · show win0_9.index t 1 * 512 + j1.val = win0_6.index t 1 * 512 + 1 * j1.val; omega
  · refine congrArg (m ((c : Thread nD τ).loc main_arg0)) (Shape.idx_ext₂ ?_ ?_)
    · show win0_9.index t 0 * 1040 + j0.val = win0_0.index t 0 * 1040 + 1 * j0.val; omega
    · show k.val = win0_0.index t 1 * 1024 + 1 * k.val; omega
  · refine congrArg (m ((c : Thread nD τ).loc main_arg4)) (Shape.idx_ext₂ ?_ ?_)
    · show k.val = win0_3.index t 0 * 1024 + 1 * k.val; omega
    · show win0_9.index t 1 * 512 + j1.val = win0_3.index t 1 * 512 + 1 * j1.val; omega
  · refine congrArg (m ((c : Thread nD τ).loc main_arg3)) (Shape.idx_ext₂ ?_ ?_)
    · show win0_9.index t 0 * 1040 + j0.val = win0_7.index t 0 * 1040 + 1 * j0.val; omega
    · show 2048 + (win0_9.index t 1 * 512 + j1.val) = win0_7.index t 1 * 512 + 1 * j1.val; omega
  · refine congrArg (m ((c : Thread nD τ).loc main_arg1)) (Shape.idx_ext₂ ?_ ?_)
    · show win0_9.index t 0 * 1040 + j0.val = win0_1.index t 0 * 1040 + 1 * j0.val; omega
    · show k.val = win0_1.index t 1 * 1024 + 1 * k.val; omega
  · refine congrArg (m ((c : Thread nD τ).loc main_arg5)) (Shape.idx_ext₂ ?_ ?_)
    · show k.val = win0_4.index t 0 * 1024 + 1 * k.val; omega
    · show win0_9.index t 1 * 512 + j1.val = win0_4.index t 1 * 512 + 1 * j1.val; omega
  · refine congrArg (m ((c : Thread nD τ).loc main_arg3)) (Shape.idx_ext₂ ?_ ?_)
    · show win0_9.index t 0 * 1040 + j0.val = win0_8.index t 0 * 1040 + 1 * j0.val; omega
    · show 4096 + (win0_9.index t 1 * 512 + j1.val) = win0_8.index t 1 * 512 + 1 * j1.val; omega
  · refine congrArg (m ((c : Thread nD τ).loc main_arg2)) (Shape.idx_ext₂ ?_ ?_)
    · show win0_9.index t 0 * 1040 + j0.val = win0_2.index t 0 * 1040 + 1 * j0.val; omega
    · show k.val = win0_2.index t 1 * 1024 + 1 * k.val; omega
  · refine congrArg (m ((c : Thread nD τ).loc main_arg6)) (Shape.idx_ext₂ ?_ ?_)
    · show k.val = win0_5.index t 0 * 1024 + 1 * k.val; omega
    · show win0_9.index t 1 * 512 + j1.val = win0_5.index t 1 * 512 + 1 * j1.val; omega

/-- Every index of the result lies in a block some point writes. -/
theorem cover (i : S8320x2048.Idx) :
    ∃ t : Fin cfg0.N, (cfg0.win 9).flush t = true ∧ i ∈ ((cfg0.win 9).blk t).view.set := by
  have h0 : (i 0 : Nat) < 8320 := (i 0).isLt
  have h1 : (i 1 : Nat) < 2048 := (i 1).isLt
  obtain ⟨t, e0, e1⟩ := surj ⟨(i 0).val / 1040, by omega⟩ ⟨(i 1).val / 512, by omega⟩
  refine ⟨t, flush0_9 t, ?_⟩
  show i ∈ ((View.whole main_v0).slice (win0_9.rect t)).set
  rw [View.set_slice_whole, Rect.mem_set_unit]
  exact Fin.forall_fin_two.2 ⟨div_block (B := 1040) (by omega) e0, div_block (B := 512) (by omega) e1⟩

/-- The merge's call computes the reference's result. -/
theorem algebraic : algebraic_MergeIdeal_MergeRefIdeal :=
  fun m ρ m' ρ' _ hag => ⟨G m,
    (θ_run _ _ _).mono (fun _ h c => ⟨(h c).1.trans
      ((dats m 0 c).arrAt_eq_of_cover 9 (G m c) (fun t _ => flushed_eq m c t) cover), (h c).2⟩) (Value.run_blocks m ρ),
    (θ_run _ _ _).mono (fun _ h c => ⟨(h c).1.trans (by rw [(hag c).1, (hag c).2.1, (hag c).2.2.1, (hag c).2.2.2.1, (hag c).2.2.2.2.1, (hag c).2.2.2.2.2.1, (hag c).2.2.2.2.2.2]; rfl), (h c).2⟩)
      (Cert.MergeRefIdeal.Value.run m' ρ')⟩

end Cert.MergeIdeal.RefValue

end
-- ==== Proof.OutValue.lean ====
/-
  The output projection: the residual stream plus the merged rows times the output weights.
-/
module

public import proofs.«01_k».proof.Proof.Gen.OutIdeal.Value
public import proofs.«01_k».proof.Proof.Gen.OutRefIdeal.Read
public import proofs.«01_k».proof.Proof.Gen.OutRefIdeal.Run
public import proofs.«01_k».proof.Proof.Shared
public import proofs.«01_k».proof.Defs

@[expose] public section

set_option maxRecDepth 16384

noncomputable section

namespace Cert.OutIdeal.RefValue

open Cert.OutIdeal Cert.OutIdeal.Gen Cert.Shared Idealize.ShloMosaic Idealize.ShloMosaic.TcCoe Idealize.SL.Sem
open Idealize.ShloMosaic.Pipeline (Dat)

/-- The body's block at an index. -/
theorem pay_apply (y : Mat 1040 512) (x : Mat 1040 2048) (w : Mat 2048 512) (r : Fin 1040) (q : Fin 512) :
    k0_pay1 (F := Ideal) y x w (ix2 r q) = y (ix2 r q) + rc x w r q := by
  unfold rc
  pointwise [k0_pay1]

/-- The reference's result at an index. -/
theorem ref_apply (a : Mat 8320 2048) (w : Mat 2048 2048) (x : Mat 8320 2048) (r : Fin 8320) (q : Fin 2048) :
    Cert.OutRefIdeal.Read.val_main_v2 (F := Ideal) a w x (ix2 r q) = x (ix2 r q) + rc a w r q := by
  unfold rc
  pointwise [Cert.OutRefIdeal.Read.val_main_v2, Cert.OutRefIdeal.Read.val_main_v1, Cert.OutRefIdeal.Read.val_main_v0]

variable (m : (ℓ : Loc nD τ sig) → Buf (Elt Ideal) ℓ) (ρ : Dev nD → PrngReg)

/-- The reference's result of device `c`'s arguments. -/
abbrev G (c : Dev nD) : Buf (Elt Ideal) ((c : Thread nD τ).loc main_v0) :=
  Cert.OutRefIdeal.Read.val_main_v2 (F := Ideal) (m ((c : Thread nD τ).loc main_arg0)) (m ((c : Thread nD τ).loc main_arg1))
    (m ((c : Thread nD τ).loc main_arg2))

/-- Where each window's block lies, against the result's block. -/
theorem idx : ∀ t : Fin cfg0.N, win0_0.index t 0 = win0_3.index t 0 ∧ win0_0.index t 1 = 0 ∧ win0_1.index t 0 = 0
    ∧ win0_1.index t 1 = win0_3.index t 1 ∧ win0_2.index t 0 = win0_3.index t 0 ∧ win0_2.index t 1 = win0_3.index t 1
    ∧ win0_3.index t 0 < 8 ∧ win0_3.index t 1 < 4 :=
  (by decide +kernel : ∀ t : Fin grid0.N, win0_0.index t 0 = win0_3.index t 0 ∧ win0_0.index t 1 = 0 ∧ win0_1.index t 0 = 0
    ∧ win0_1.index t 1 = win0_3.index t 1 ∧ win0_2.index t 0 = win0_3.index t 0 ∧ win0_2.index t 1 = win0_3.index t 1
    ∧ win0_3.index t 0 < 8 ∧ win0_3.index t 1 < 4)

/-- Some grid point writes each pair of block coordinates. -/
theorem surj : ∀ (p : Fin 8) (q : Fin 4), ∃ t : Fin cfg0.N, win0_3.index t 0 = p.val ∧ win0_3.index t 1 = q.val :=
  (by decide +kernel : ∀ (p : Fin 8) (q : Fin 4), ∃ t : Fin grid0.N, win0_3.index t 0 = p.val ∧ win0_3.index t 1 = q.val)

/-- What point `t` writes back is its block of the reference's result. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero hz, View.ld_unit_zero hz, View.ld_unit_zero hz]
  obtain ⟨h0, h1, h2, h3, h4, h5, h6, h7⟩ := idx t
  funext (j : S1040x512.Idx)
  idx_vars j
  refine (pay_apply _ _ _ _ _).trans (Eq.symm ?_)
  refine Eq.trans (b := G m c (ix2 ⟨win0_3.index t 0 * 1040 + j0.val, by omega⟩ ⟨win0_3.index t 1 * 512 + j1.val, by omega⟩))
    (congrArg (G m c) (Shape.idx_ext₂ ?_ ?_)) ((ref_apply _ _ _ _ _).trans
      (congrArg₂ (· + ·) ?_ (rc_congr (fun k => ?_) fun k => ?_)))
  · show win0_3.index t 0 * 1040 + 1 * j0.val = win0_3.index t 0 * 1040 + j0.val; omega
  · show win0_3.index t 1 * 512 + 1 * j1.val = win0_3.index t 1 * 512 + j1.val; omega
  · refine congrArg (m ((c : Thread nD τ).loc main_arg2)) (Shape.idx_ext₂ ?_ ?_)
    · show win0_3.index t 0 * 1040 + j0.val = win0_2.index t 0 * 1040 + 1 * j0.val; omega
    · show win0_3.index t 1 * 512 + j1.val = win0_2.index t 1 * 512 + 1 * j1.val; omega
  · refine congrArg (m ((c : Thread nD τ).loc main_arg0)) (Shape.idx_ext₂ ?_ ?_)
    · show win0_3.index t 0 * 1040 + j0.val = win0_0.index t 0 * 1040 + 1 * j0.val; omega
    · show k.val = win0_0.index t 1 * 2048 + 1 * k.val; omega
  · refine congrArg (m ((c : Thread nD τ).loc main_arg1)) (Shape.idx_ext₂ ?_ ?_)
    · show k.val = win0_1.index t 0 * 2048 + 1 * k.val; omega
    · show win0_3.index t 1 * 512 + j1.val = win0_1.index t 1 * 512 + 1 * j1.val; omega

/-- Every index of the result lies in a block some point writes. -/
theorem cover (i : S8320x2048.Idx) :
    ∃ t : Fin cfg0.N, (cfg0.win 3).flush t = true ∧ i ∈ ((cfg0.win 3).blk t).view.set := by
  have h0 : (i 0 : Nat) < 8320 := (i 0).isLt
  have h1 : (i 1 : Nat) < 2048 := (i 1).isLt
  obtain ⟨t, e0, e1⟩ := surj ⟨(i 0).val / 1040, by omega⟩ ⟨(i 1).val / 512, by omega⟩
  refine ⟨t, flush0_3 t, ?_⟩
  show i ∈ ((View.whole main_v0).slice (win0_3.rect t)).set
  rw [View.set_slice_whole, Rect.mem_set_unit]
  exact Fin.forall_fin_two.2 ⟨div_block (B := 1040) (by omega) e0, div_block (B := 512) (by omega) e1⟩

/-- The output projection's call computes the reference's result. -/
theorem algebraic : algebraic_OutIdeal_OutRefIdeal :=
  fun m ρ m' ρ' _ hag => ⟨G m,
    (θ_run _ _ _).mono (fun _ h c => ⟨(h c).1.trans
      ((dats m 0 c).arrAt_eq_of_cover 3 (G m c) (fun t _ => flushed_eq m c t) cover), (h c).2⟩) (Value.run_blocks m ρ),
    (θ_run _ _ _).mono (fun _ h c => ⟨(h c).1.trans (by rw [(hag c).1, (hag c).2.1, (hag c).2.2]; rfl), (h c).2⟩)
      (Cert.OutRefIdeal.Value.run m' ρ')⟩

end Cert.OutIdeal.RefValue

end
-- ==== Proof.DownValue.lean ====
/-
  The second half of the feed-forward layer: the residual stream plus the gated rows times the down weights.
-/
module

public import proofs.«01_k».proof.Proof.Gen.DownIdeal.Value
public import proofs.«01_k».proof.Proof.Gen.DownRefIdeal.Read
public import proofs.«01_k».proof.Proof.Gen.DownRefIdeal.Run
public import proofs.«01_k».proof.Proof.Shared
public import proofs.«01_k».proof.Defs

@[expose] public section

set_option maxRecDepth 16384

noncomputable section

namespace Cert.DownIdeal.RefValue

open Cert.DownIdeal Cert.DownIdeal.Gen Cert.Shared Idealize.ShloMosaic Idealize.ShloMosaic.TcCoe Idealize.SL.Sem
open Idealize.ShloMosaic.Pipeline (Dat)

/-- The body's block at an index. -/
theorem pay_apply (y : Mat 1040 256) (x : Mat 1040 5632) (w : Mat 5632 256) (r : Fin 1040) (q : Fin 256) :
    k0_pay1 (F := Ideal) y x w (ix2 r q) = y (ix2 r q) + rc x w r q := by
  unfold rc
  pointwise [k0_pay1]

/-- The reference's result at an index. -/
theorem ref_apply (a : Mat 8320 5632) (w : Mat 5632 2048) (x : Mat 8320 2048) (r : Fin 8320) (q : Fin 2048) :
    Cert.DownRefIdeal.Read.val_main_v2 (F := Ideal) a w x (ix2 r q) = x (ix2 r q) + rc a w r q := by
  unfold rc
  pointwise [Cert.DownRefIdeal.Read.val_main_v2, Cert.DownRefIdeal.Read.val_main_v1, Cert.DownRefIdeal.Read.val_main_v0]

variable (m : (ℓ : Loc nD τ sig) → Buf (Elt Ideal) ℓ) (ρ : Dev nD → PrngReg)

/-- The reference's result of device `c`'s arguments. -/
abbrev G (c : Dev nD) : Buf (Elt Ideal) ((c : Thread nD τ).loc main_v0) :=
  Cert.DownRefIdeal.Read.val_main_v2 (F := Ideal) (m ((c : Thread nD τ).loc main_arg0)) (m ((c : Thread nD τ).loc main_arg1))
    (m ((c : Thread nD τ).loc main_arg2))

/-- Where each window's block lies, against the result's block. -/
theorem idx : ∀ t : Fin cfg0.N, win0_0.index t 0 = win0_3.index t 0 ∧ win0_0.index t 1 = 0 ∧ win0_1.index t 0 = 0
    ∧ win0_1.index t 1 = win0_3.index t 1 ∧ win0_2.index t 0 = win0_3.index t 0 ∧ win0_2.index t 1 = win0_3.index t 1
    ∧ win0_3.index t 0 < 8 ∧ win0_3.index t 1 < 8 :=
  (by decide +kernel : ∀ t : Fin grid0.N, win0_0.index t 0 = win0_3.index t 0 ∧ win0_0.index t 1 = 0 ∧ win0_1.index t 0 = 0
    ∧ win0_1.index t 1 = win0_3.index t 1 ∧ win0_2.index t 0 = win0_3.index t 0 ∧ win0_2.index t 1 = win0_3.index t 1
    ∧ win0_3.index t 0 < 8 ∧ win0_3.index t 1 < 8)

/-- Some grid point writes each pair of block coordinates. -/
theorem surj : ∀ (p : Fin 8) (q : Fin 8), ∃ t : Fin cfg0.N, win0_3.index t 0 = p.val ∧ win0_3.index t 1 = q.val :=
  (by decide +kernel : ∀ (p : Fin 8) (q : Fin 8), ∃ t : Fin grid0.N, win0_3.index t 0 = p.val ∧ win0_3.index t 1 = q.val)

/-- What point `t` writes back is its block of the reference's result. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero hz, View.ld_unit_zero hz, View.ld_unit_zero hz]
  obtain ⟨h0, h1, h2, h3, h4, h5, h6, h7⟩ := idx t
  funext (j : S1040x256.Idx)
  idx_vars j
  refine (pay_apply _ _ _ _ _).trans (Eq.symm ?_)
  refine Eq.trans (b := G m c (ix2 ⟨win0_3.index t 0 * 1040 + j0.val, by omega⟩ ⟨win0_3.index t 1 * 256 + j1.val, by omega⟩))
    (congrArg (G m c) (Shape.idx_ext₂ ?_ ?_)) ((ref_apply _ _ _ _ _).trans
      (congrArg₂ (· + ·) ?_ (rc_congr (fun k => ?_) fun k => ?_)))
  · show win0_3.index t 0 * 1040 + 1 * j0.val = win0_3.index t 0 * 1040 + j0.val; omega
  · show win0_3.index t 1 * 256 + 1 * j1.val = win0_3.index t 1 * 256 + j1.val; omega
  · refine congrArg (m ((c : Thread nD τ).loc main_arg2)) (Shape.idx_ext₂ ?_ ?_)
    · show win0_3.index t 0 * 1040 + j0.val = win0_2.index t 0 * 1040 + 1 * j0.val; omega
    · show win0_3.index t 1 * 256 + j1.val = win0_2.index t 1 * 256 + 1 * j1.val; omega
  · refine congrArg (m ((c : Thread nD τ).loc main_arg0)) (Shape.idx_ext₂ ?_ ?_)
    · show win0_3.index t 0 * 1040 + j0.val = win0_0.index t 0 * 1040 + 1 * j0.val; omega
    · show k.val = win0_0.index t 1 * 5632 + 1 * k.val; omega
  · refine congrArg (m ((c : Thread nD τ).loc main_arg1)) (Shape.idx_ext₂ ?_ ?_)
    · show k.val = win0_1.index t 0 * 5632 + 1 * k.val; omega
    · show win0_3.index t 1 * 256 + j1.val = win0_1.index t 1 * 256 + 1 * j1.val; omega

/-- Every index of the result lies in a block some point writes. -/
theorem cover (i : S8320x2048.Idx) :
    ∃ t : Fin cfg0.N, (cfg0.win 3).flush t = true ∧ i ∈ ((cfg0.win 3).blk t).view.set := by
  have h0 : (i 0 : Nat) < 8320 := (i 0).isLt
  have h1 : (i 1 : Nat) < 2048 := (i 1).isLt
  obtain ⟨t, e0, e1⟩ := surj ⟨(i 0).val / 1040, by omega⟩ ⟨(i 1).val / 256, by omega⟩
  refine ⟨t, flush0_3 t, ?_⟩
  show i ∈ ((View.whole main_v0).slice (win0_3.rect t)).set
  rw [View.set_slice_whole, Rect.mem_set_unit]
  exact Fin.forall_fin_two.2 ⟨div_block (B := 1040) (by omega) e0, div_block (B := 256) (by omega) e1⟩

/-- The down projection's call computes the reference's result. -/
theorem algebraic : algebraic_DownIdeal_DownRefIdeal :=
  fun m ρ m' ρ' _ hag => ⟨G m,
    (θ_run _ _ _).mono (fun _ h c => ⟨(h c).1.trans
      ((dats m 0 c).arrAt_eq_of_cover 3 (G m c) (fun t _ => flushed_eq m c t) cover), (h c).2⟩) (Value.run_blocks m ρ),
    (θ_run _ _ _).mono (fun _ h c => ⟨(h c).1.trans (by rw [(hag c).1, (hag c).2.1, (hag c).2.2]; rfl), (h c).2⟩)
      (Cert.DownRefIdeal.Value.run m' ρ')⟩

end Cert.DownIdeal.RefValue

end
-- ==== Proof.UpValue.lean ====
/-
  The first half of the feed-forward layer: one half of the columns of the rows times the weights, through the logistic
  gate, times the other half.
-/
module

public import proofs.«01_k».proof.Proof.Gen.UpIdeal.Value
public import proofs.«01_k».proof.Proof.Gen.UpRefIdeal.Read
public import proofs.«01_k».proof.Proof.Gen.UpRefIdeal.Run
public import proofs.«01_k».proof.Proof.Shared
public import proofs.«01_k».proof.Defs

@[expose] public section

set_option maxRecDepth 16384

noncomputable section

namespace Cert.UpIdeal.RefValue

open Cert.UpIdeal Cert.UpIdeal.Gen Cert.Shared Idealize.ShloMosaic Idealize.ShloMosaic.TcCoe Idealize.SL.Sem
open Idealize.ShloMosaic.Pipeline (Dat)

/-- The body's block at an index. -/
theorem pay_apply (x : Mat 1040 2048) (w u : Mat 2048 512) (r : Fin 1040) (q : Fin 512) :
    k0_pay1 (F := Ideal) x w u (ix2 r q) = rc x w r q * sgm (rc x w r q) * rc x u r q := by
  unfold rc sgm
  pointwise [k0_pay1]
  simp only [zero_sub]

/-- The rows times all the columns of the weights, at an index. -/
theorem whole_apply (a : Mat 8320 2048) (w : Mat 2048 11264) (r : Fin 8320) (q : Fin 11264) :
    Cert.UpRefIdeal.Read.val_main_v1 (F := Ideal) a w (ix2 r q) = rc a w r q := by
  unfold rc
  pointwise [Cert.UpRefIdeal.Read.val_main_v1, Cert.UpRefIdeal.Read.val_main_v0]

/-- The reference's result at an index. -/
theorem ref_apply (a : Mat 8320 2048) (w : Mat 2048 11264) (r : Fin 8320) (q : Fin 5632) :
    Cert.UpRefIdeal.Read.val_main_v6 (F := Ideal) a w (ix2 r q) = rc a w r ⟨q.val, by omega⟩ * sgm (rc a w r ⟨q.val, by omega⟩)
      * rc a w r ⟨5632 + q.val, by omega⟩ := by
  simp only [← whole_apply]
  unfold sgm
  pointwise [Cert.UpRefIdeal.Read.val_main_v6, Cert.UpRefIdeal.Read.val_main_v5, Cert.UpRefIdeal.Read.val_main_v4, Cert.UpRefIdeal.Read.val_main_v3, Cert.UpRefIdeal.Read.val_main_v2,
    Cert.UpRefIdeal.Read.val_main_call0_v5, Cert.UpRefIdeal.Read.val_main_call0_v4, Cert.UpRefIdeal.Read.val_main_call0_v3, Cert.UpRefIdeal.Read.val_main_call0_v2,
    Cert.UpRefIdeal.Read.val_main_call0_v1, Cert.UpRefIdeal.Read.val_main_call0_v0, Cert.UpRefIdeal.Read.val_main_call0_cst_0, Cert.UpRefIdeal.Read.val_main_call0_cst]

variable (m : (ℓ : Loc nD τ sig) → Buf (Elt Ideal) ℓ) (ρ : Dev nD → PrngReg)

/-- The reference's result of device `c`'s arguments. -/
abbrev G (c : Dev nD) : Buf (Elt Ideal) ((c : Thread nD τ).loc main_v0) :=
  Cert.UpRefIdeal.Read.val_main_v6 (F := Ideal) (m ((c : Thread nD τ).loc main_arg0)) (m ((c : Thread nD τ).loc main_arg1))

/-- Where each window's block lies, against the result's block: the second half's columns begin eleven blocks on. -/
theorem idx : ∀ t : Fin cfg0.N, win0_0.index t 0 = win0_3.index t 0 ∧ win0_0.index t 1 = 0 ∧ win0_1.index t 0 = 0
    ∧ win0_1.index t 1 = win0_3.index t 1 ∧ win0_2.index t 0 = 0 ∧ win0_2.index t 1 = 11 + win0_3.index t 1
    ∧ win0_3.index t 0 < 8 ∧ win0_3.index t 1 < 11 :=
  (by decide +kernel : ∀ t : Fin grid0.N, win0_0.index t 0 = win0_3.index t 0 ∧ win0_0.index t 1 = 0 ∧ win0_1.index t 0 = 0
    ∧ win0_1.index t 1 = win0_3.index t 1 ∧ win0_2.index t 0 = 0 ∧ win0_2.index t 1 = 11 + win0_3.index t 1
    ∧ win0_3.index t 0 < 8 ∧ win0_3.index t 1 < 11)

/-- Some grid point writes each pair of block coordinates. -/
theorem surj : ∀ (p : Fin 8) (q : Fin 11), ∃ t : Fin cfg0.N, win0_3.index t 0 = p.val ∧ win0_3.index t 1 = q.val :=
  (by decide +kernel : ∀ (p : Fin 8) (q : Fin 11), ∃ t : Fin grid0.N, win0_3.index t 0 = p.val ∧ win0_3.index t 1 = q.val)

/-- What point `t` writes back is its block of the reference's result. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero hz, View.ld_unit_zero hz, View.ld_unit_zero hz]
  obtain ⟨h0, h1, h2, h3, h4, h5, h6, h7⟩ := idx t
  funext (j : S1040x512.Idx)
  idx_vars j
  refine (pay_apply _ _ _ _ _).trans (Eq.symm ?_)
  have hx (k : Fin 2048) : m ((c : Thread nD τ).loc main_arg0) (ix2 ⟨win0_3.index t 0 * 1040 + j0.val, by omega⟩ k) = iblk m c 0 t (ix2 j0 k) := by
    refine congrArg (m ((c : Thread nD τ).loc main_arg0)) (Shape.idx_ext₂ ?_ ?_)
    · show win0_3.index t 0 * 1040 + j0.val = win0_0.index t 0 * 1040 + 1 * j0.val; omega
    · show k.val = win0_0.index t 1 * 2048 + 1 * k.val; omega
  have hw (k : Fin 2048) : m ((c : Thread nD τ).loc main_arg1) (ix2 k ⟨win0_3.index t 1 * 512 + j1.val, by omega⟩) = iblk m c 1 t (ix2 k j1) := by
    refine congrArg (m ((c : Thread nD τ).loc main_arg1)) (Shape.idx_ext₂ ?_ ?_)
    · show k.val = win0_1.index t 0 * 2048 + 1 * k.val; omega
    · show win0_3.index t 1 * 512 + j1.val = win0_1.index t 1 * 512 + 1 * j1.val; omega
  have hu (k : Fin 2048) : m ((c : Thread nD τ).loc main_arg1) (ix2 k ⟨5632 + (win0_3.index t 1 * 512 + j1.val), by omega⟩) = iblk m c 2 t (ix2 k j1) := by
    refine congrArg (m ((c : Thread nD τ).loc main_arg1)) (Shape.idx_ext₂ ?_ ?_)
    · show k.val = win0_2.index t 0 * 2048 + 1 * k.val; omega
    · show 5632 + (win0_3.index t 1 * 512 + j1.val) = win0_2.index t 1 * 512 + 1 * j1.val; omega
  refine Eq.trans (b := G m c (ix2 ⟨win0_3.index t 0 * 1040 + j0.val, by omega⟩ ⟨win0_3.index t 1 * 512 + j1.val, by omega⟩))
    (congrArg (G m c) (Shape.idx_ext₂ ?_ ?_)) ((ref_apply _ _ _ _).trans ?_)
  · show win0_3.index t 0 * 1040 + 1 * j0.val = win0_3.index t 0 * 1040 + j0.val; omega
  · show win0_3.index t 1 * 512 + 1 * j1.val = win0_3.index t 1 * 512 + j1.val; omega
  · have e := rc_congr (a' := iblk m c 0 t) (b' := iblk m c 1 t) hx hw
    exact congrArg₂ (· * ·) (congrArg (fun x => x * sgm x) e) (rc_congr hx hu)

/-- Every index of the result lies in a block some point writes. -/
theorem cover (i : S8320x5632.Idx) :
    ∃ t : Fin cfg0.N, (cfg0.win 3).flush t = true ∧ i ∈ ((cfg0.win 3).blk t).view.set := by
  have h0 : (i 0 : Nat) < 8320 := (i 0).isLt
  have h1 : (i 1 : Nat) < 5632 := (i 1).isLt
  obtain ⟨t, e0, e1⟩ := surj ⟨(i 0).val / 1040, by omega⟩ ⟨(i 1).val / 512, by omega⟩
  refine ⟨t, flush0_3 t, ?_⟩
  show i ∈ ((View.whole main_v0).slice (win0_3.rect t)).set
  rw [View.set_slice_whole, Rect.mem_set_unit]
  exact Fin.forall_fin_two.2 ⟨div_block (B := 1040) (by omega) e0, div_block (B := 512) (by omega) e1⟩

/-- The up projection's call computes the reference's result. -/
theorem algebraic : algebraic_UpIdeal_UpRefIdeal :=
  fun m ρ m' ρ' _ hag => ⟨G m,
    (θ_run _ _ _).mono (fun _ h c => ⟨(h c).1.trans
      ((dats m 0 c).arrAt_eq_of_cover 3 (G m c) (fun t _ => flushed_eq m c t) cover), (h c).2⟩) (Value.run_blocks m ρ),
    (θ_run _ _ _).mono (fun _ h c => ⟨(h c).1.trans (by rw [(hag c).1, (hag c).2]; rfl), (h c).2⟩)
      (Cert.UpRefIdeal.Value.run m' ρ')⟩

end Cert.UpIdeal.RefValue

end
-- ==== Proof.NormValue.lean ====
/-
  The row norm: a row over the root of its mean square, times the gain.
-/
module

public import proofs.«01_k».proof.Proof.Gen.NormIdeal.Value
public import proofs.«01_k».proof.Proof.Gen.NormRefIdeal.Read
public import proofs.«01_k».proof.Proof.Gen.NormRefIdeal.Run
public import proofs.«01_k».proof.Proof.Shared
public import proofs.«01_k».proof.Defs
public import Idealize.ShloMosaic.Lib.StableHlo.ReadAt

@[expose] public section

set_option maxRecDepth 16384

noncomputable section

namespace Cert.NormIdeal.RefValue

open Cert.NormIdeal Cert.NormIdeal.Gen Cert.Shared Idealize.ShloMosaic Idealize.ShloMosaic.TcCoe Idealize.SL.Sem
open Idealize.ShloMosaic.Pipeline (Dat)
open scoped BigOperators

/-- One place of a normalised row, from the place's entry, the row and the gain. -/
def unitRow (e : EReal) (row : Fin 2048 → EReal) (g : EReal) : EReal :=
  e * Ideal.rsqrt (Ideal.div (∑ k, row k * row k) (Ideal.ofBits FTy.f32 0x45000000#32) + Ideal.ofBits FTy.f32 0x358637BD#32) * g

/-- The body's block at an index. -/
theorem pay_apply (x : Mat 1040 2048) (g : Mat 1 2048) (r : Fin 1040) (q : Fin 2048) :
    k0_pay1 (F := Ideal) x g (ix2 r q) = unitRow (x (ix2 r q)) (fun k => x (ix2 r k)) (g (ix2 0 q)) := by
  unfold unitRow
  pointwise [k0_pay1]

section Reference
open Cert.NormRefIdeal.Read

/-- The reference's result at an index. -/
theorem ref_apply (x : Mat 8320 2048) (g : S2048.Idx → EReal) (r : Fin 8320) (q : Fin 2048) :
    val_main_v13 (F := Ideal) x g (ix2 r q) = unitRow (x (ix2 r q)) (fun k => x (ix2 r k)) (g (ix1 q)) := by
  unfold unitRow
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

end Reference

variable (m : (ℓ : Loc nD τ sig) → Buf (Elt Ideal) ℓ) (ρ : Dev nD → PrngReg)

/-- The gain's row, as the host hands it to the call. -/
theorem gain_at (c : Dev nD) (d : Fin 2048) :
    (V m c main_v0 : Mat 1 2048) (ix2 0 d) = (m ((c : Thread nD τ).loc main_arg1) : S2048.Idx → EReal) (ix1 d) := by
  show (StableHlo.after hostOps0 (fun b => m (c, b)) main_v0 : Mat 1 2048) (ix2 0 d) = _
  after_reads_at

/-- The reference's result of device `c`'s arguments. -/
abbrev G (c : Dev nD) : Buf (Elt Ideal) ((c : Thread nD τ).loc main_v1) :=
  Cert.NormRefIdeal.Read.val_main_v13 (F := Ideal) (m ((c : Thread nD τ).loc main_arg0)) (m ((c : Thread nD τ).loc main_arg1))

/-- Where each window's block lies, against the result's block. -/
theorem idx : ∀ t : Fin cfg0.N, win0_0.index t 0 = win0_2.index t 0 ∧ win0_0.index t 1 = 0 ∧ win0_1.index t 0 = 0
    ∧ win0_1.index t 1 = 0 ∧ win0_2.index t 0 < 8 ∧ win0_2.index t 1 = 0 :=
  (by decide +kernel : ∀ t : Fin grid0.N, win0_0.index t 0 = win0_2.index t 0 ∧ win0_0.index t 1 = 0 ∧ win0_1.index t 0 = 0
    ∧ win0_1.index t 1 = 0 ∧ win0_2.index t 0 < 8 ∧ win0_2.index t 1 = 0)

/-- Some grid point writes each block of rows. -/
theorem surj : ∀ p : Fin 8, ∃ t : Fin cfg0.N, win0_2.index t 0 = p.val ∧ win0_2.index t 1 = 0 :=
  (by decide +kernel : ∀ p : Fin 8, ∃ t : Fin grid0.N, win0_2.index t 0 = p.val ∧ win0_2.index t 1 = 0)

/-- What point `t` writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  obtain ⟨h0, h1, h2, h3, h4, h5⟩ := idx t
  funext (j : S1040x2048.Idx)
  idx_vars j
  refine (pay_apply _ _ _ _).trans (Eq.symm ?_)
  refine Eq.trans (b := G m c (ix2 ⟨win0_2.index t 0 * 1040 + j0.val, by omega⟩ j1)) (congrArg (G m c) (Shape.idx_ext₂ ?_ ?_))
    ((ref_apply _ _ _ _).trans ?_)
  · show win0_2.index t 0 * 1040 + 1 * j0.val = win0_2.index t 0 * 1040 + j0.val; omega
  · show win0_2.index t 1 * 2048 + 1 * j1.val = j1.val; omega
  have hx : ∀ k : Fin 2048, (m ((c : Thread nD τ).loc main_arg0) : Mat 8320 2048) (ix2 ⟨win0_2.index t 0 * 1040 + j0.val, by omega⟩ k)
      = (iblk m c 0 t : Mat 1040 2048) (ix2 j0 k) := fun k => by
    refine congrArg (m ((c : Thread nD τ).loc main_arg0)) (Shape.idx_ext₂ ?_ ?_)
    · show win0_2.index t 0 * 1040 + j0.val = win0_0.index t 0 * 1040 + 1 * j0.val; omega
    · show k.val = win0_0.index t 1 * 2048 + 1 * k.val; omega
  have hg : (m ((c : Thread nD τ).loc main_arg1) : S2048.Idx → EReal) (ix1 j1) = (iblk m c 1 t : Mat 1 2048) (ix2 0 j1) := by
    refine (gain_at m c j1).symm.trans (congrArg (V m c main_v0) (Shape.idx_ext₂ ?_ ?_))
    · show 0 = win0_1.index t 0 * 1 + 1 * 0; omega
    · show j1.val = win0_1.index t 1 * 2048 + 1 * j1.val; omega
  exact congr (congrArg₂ unitRow (hx j1) (funext hx)) hg

/-- Every index of the result lies in a block some point writes. -/
theorem cover (i : S8320x2048.Idx) :
    ∃ t : Fin cfg0.N, (cfg0.win 2).flush t = true ∧ i ∈ ((cfg0.win 2).blk t).view.set := by
  have h0 : (i 0 : Nat) < 8320 := (i 0).isLt
  have h1 : (i 1 : Nat) < 2048 := (i 1).isLt
  obtain ⟨t, e0, e1⟩ := surj ⟨(i 0).val / 1040, by omega⟩
  refine ⟨t, flush0_2 t, ?_⟩
  show i ∈ ((View.whole main_v1).slice (win0_2.rect t)).set
  rw [View.set_slice_whole, Rect.mem_set_unit]
  exact Fin.forall_fin_two.2 ⟨div_block (B := 1040) (by omega) e0, div_block (B := 2048) (by omega) (by omega)⟩

/-- The row norm's call computes the reference's result. -/
theorem algebraic : algebraic_NormIdeal_NormRefIdeal :=
  fun m ρ m' ρ' _ hag => ⟨G m,
    (θ_run _ _ _).mono (fun _ h c => ⟨(h c).1.trans
      ((dats m 0 c).arrAt_eq_of_cover 2 (G m c) (fun t _ => flushed_eq m c t) cover), (h c).2⟩) (Value.run_blocks m ρ),
    (θ_run _ _ _).mono (fun _ h c => ⟨(h c).1.trans (by rw [(hag c).1, (hag c).2]; rfl), (h c).2⟩)
      (Cert.NormRefIdeal.Value.run m' ρ')⟩

end Cert.NormIdeal.RefValue

end
-- ==== Proof.AttnMath.lean ====
/-
  The arithmetic of the window attention over the extended reals: the normalised and rotated head, the scores, and the
  normalisation of the weights before or after the sum over the values.
-/
module

public import proofs.«01_k».proof.Proof.Shared
public import Idealize.ShloMosaic.Lib.Pointwise

@[expose] public section

set_option maxRecDepth 16384

noncomputable section

namespace Cert.Attn

open Idealize.ShloMosaic
open scoped BigOperators

/-- The numbers of one head. -/
abbrev Row : Type := Fin 64 → EReal

/-! ### Numbers that are not infinite -/

/-- Not infinite. -/
def Fin' (x : EReal) : Prop := ∃ r : ℝ, x = (r : EReal)

theorem Fin'.mul {x y : EReal} (hx : Fin' x) (hy : Fin' y) : Fin' (x * y) := by
  obtain ⟨r, rfl⟩ := hx; obtain ⟨s, rfl⟩ := hy; exact ⟨r * s, (EReal.coe_mul r s).symm⟩
theorem Fin'.add {x y : EReal} (hx : Fin' x) (hy : Fin' y) : Fin' (x + y) := by
  obtain ⟨r, rfl⟩ := hx; obtain ⟨s, rfl⟩ := hy; exact ⟨r + s, (EReal.coe_add r s).symm⟩
theorem Fin'.sub {x y : EReal} (hx : Fin' x) (hy : Fin' y) : Fin' (x - y) := by
  obtain ⟨r, rfl⟩ := hx; obtain ⟨s, rfl⟩ := hy; exact ⟨r - s, (EReal.coe_sub r s).symm⟩
theorem Fin'.neg {x : EReal} (hx : Fin' x) : Fin' (-x) := by
  obtain ⟨r, rfl⟩ := hx; exact ⟨-r, (EReal.coe_neg r).symm⟩
theorem Fin'.zero : Fin' 0 := ⟨0, rfl⟩
theorem Fin'.sum {n : ℕ} {f : Fin n → EReal} (h : ∀ k, Fin' (f k)) : Fin' (∑ k, f k) := by
  induction n with
  | zero => simpa using Fin'.zero
  | succ n ih => rw [Fin.sum_univ_succ]; exact (h _).add (ih fun k => h _)
theorem Fin'.ne_top {x : EReal} (hx : Fin' x) : x ≠ ⊤ := by obtain ⟨r, rfl⟩ := hx; exact EReal.coe_ne_top r
theorem Fin'.ne_bot {x : EReal} (hx : Fin' x) : x ≠ ⊥ := by obtain ⟨r, rfl⟩ := hx; exact EReal.coe_ne_bot r
theorem Fin'.cos {x : EReal} (hx : Fin' x) : Fin' (Ideal.cos x) := by obtain ⟨r, rfl⟩ := hx; exact ⟨_, rfl⟩
theorem Fin'.sin {x : EReal} (hx : Fin' x) : Fin' (Ideal.sin x) := by obtain ⟨r, rfl⟩ := hx; exact ⟨_, rfl⟩
theorem Fin'.pow {x y : EReal} (hx : Fin' x) (hy : Fin' y) : Fin' (Ideal.pow x y) := by
  obtain ⟨r, rfl⟩ := hx; obtain ⟨s, rfl⟩ := hy; exact ⟨_, rfl⟩
theorem Fin'.div {x y : EReal} (hx : Fin' x) (hy : Fin' y) (h0 : y ≠ 0) : Fin' (Ideal.div x y) := by
  obtain ⟨r, rfl⟩ := hx; obtain ⟨s, rfl⟩ := hy
  exact ⟨r * s⁻¹, by unfold Ideal.div; rw [if_neg h0, ← EReal.coe_inv, ← EReal.coe_mul]⟩

/-! ### The constants -/

theorem c_64 : Ideal.ofBits FTy.f32 1115684864#32 = ((64 : ℝ) : EReal) := by
  simp [Ideal.ofBits, Ideal.ieee, -EReal.coe_mul]; norm_num
theorem c_eighth : Ideal.ofBits FTy.f32 1040187392#32 = ((1 / 8 : ℝ) : EReal) := by
  simp [Ideal.ofBits, Ideal.ieee, -EReal.coe_mul]; norm_num
theorem c_8 : Ideal.ofBits FTy.f32 1090519040#32 = ((8 : ℝ) : EReal) := by
  simp [Ideal.ofBits, Ideal.ieee, -EReal.coe_mul]; norm_num
theorem c_eps : ∃ r : ℝ, 0 < r ∧ Ideal.ofBits FTy.f32 897988541#32 = (r : EReal) := by
  refine ⟨(2 ^ 23 + 407485 : ℝ) * (2 : ℝ) ^ (-43 : ℤ), by positivity, ?_⟩
  simp [Ideal.ofBits, Ideal.ieee, -EReal.coe_mul]; norm_num
theorem c_bot : Ideal.ofBits FTy.f32 4286578688#32 = ⊥ := by
  simp [Ideal.ofBits, Ideal.ieee]
theorem c_top : Ideal.ofBits FTy.f32 2139095040#32 = ⊤ := by
  simp [Ideal.ofBits, Ideal.ieee]

/-! ### A head, normalised and rotated -/

/-- The reciprocal of a head's root mean square. -/
def rsd (x : Row) : EReal :=
  Ideal.rsqrt (Ideal.div (∑ e : Fin 64, x e * x e) (Ideal.ofBits FTy.f32 1115684864#32) + Ideal.ofBits FTy.f32 897988541#32)

theorem mul_self_nonneg' (x : EReal) : 0 ≤ x * x := by
  induction x with
  | bot => simp
  | top => simp
  | coe r => rw [← EReal.coe_mul]; exact EReal.coe_nonneg.2 (mul_self_nonneg r)

/-- The reciprocal is a number from zero on, whatever the head holds. -/
theorem rsd_real (x : Row) : ∃ r : ℝ, 0 ≤ r ∧ rsd x = (r : EReal) := by
  obtain ⟨e, he, hee⟩ := c_eps
  unfold rsd
  rw [c_64, hee]
  have h0 : 0 ≤ ∑ e : Fin 64, x e * x e := Finset.sum_nonneg fun e _ => mul_self_nonneg' (x e)
  generalize ∑ e : Fin 64, x e * x e = s at h0
  have h64 : ((64 : ℝ) : EReal) ≠ 0 := by exact_mod_cast (by norm_num : (64 : ℝ) ≠ 0)
  unfold Ideal.div
  rw [if_neg h64]
  induction s with
  | bot => exact absurd h0 (by simp)
  | top =>
    refine ⟨0, le_refl _, ?_⟩
    rw [← EReal.coe_inv, EReal.top_mul_coe_of_pos (by norm_num), EReal.top_add_coe]
    rfl
  | coe r =>
    have hr : 0 ≤ r := EReal.coe_nonneg.1 h0
    rw [← EReal.coe_inv, ← EReal.coe_mul, ← EReal.coe_add]
    have hp : 0 < r * (64 : ℝ)⁻¹ + e := by positivity
    refine ⟨(Real.sqrt (r * (64 : ℝ)⁻¹ + e))⁻¹, by positivity, ?_⟩
    show (if _ then _ else if _ then _ else _) = _
    rw [if_neg (not_lt.2 hp.le), if_neg hp.ne']

/-- A row with an infinite entry has the reciprocal zero. -/
theorem rsd_inf {x : Row} {e : Fin 64} (h : x e * x e = ⊤) : rsd x = 0 := by
  obtain ⟨c, hc, hcc⟩ := c_eps
  have hs : ∑ e : Fin 64, x e * x e = ⊤ :=
    top_le_iff.1 (h ▸ Finset.single_le_sum (f := fun e => x e * x e) (fun e _ => mul_self_nonneg' (x e)) (Finset.mem_univ e))
  have h64 : ((64 : ℝ) : EReal) ≠ 0 := by exact_mod_cast (by norm_num : (64 : ℝ) ≠ 0)
  unfold rsd Ideal.div
  rw [hs, c_64, hcc, if_neg h64, ← EReal.coe_inv, EReal.top_mul_coe_of_pos (by norm_num), EReal.top_add_coe]
  rfl

/-- A row over its mean square is finite, whatever the row. -/
theorem Fin'.scaled (x : Row) (e : Fin 64) : Fin' (x e * rsd x) := by
  obtain ⟨r, _, h⟩ := rsd_real x
  by_cases ht : x e * x e = ⊤
  · rw [rsd_inf ht, mul_zero]; exact Fin'.zero
  · refine Fin'.mul ?_ ⟨r, h⟩
    generalize x e = y at ht
    induction y with
    | bot => exact absurd EReal.bot_mul_bot ht
    | top => exact absurd EReal.top_mul_top ht
    | coe r => exact ⟨r, rfl⟩

/-- Rotate a head by an angle's cosines and sines. -/
def rot (cs sn : Fin 8 → EReal) (y : Row) : Row := fun d =>
  if h : d.val < 8 then y d * cs ⟨d.val, h⟩ - y ⟨d.val + 8, by omega⟩ * sn ⟨d.val, h⟩
  else if h' : d.val < 16 then y d * cs ⟨d.val - 8, by omega⟩ + y ⟨d.val - 8, by omega⟩ * sn ⟨d.val - 8, by omega⟩
  else y d

/-- A head as the reference has it: normalised, times the gain, rotated. -/
def nrm (cs sn : Fin 8 → EReal) (g x : Row) : Row := rot cs sn fun e => x e * rsd x * g e

theorem add_mul_real (a b : EReal) {r : ℝ} (hr : 0 ≤ r) : (a + b) * (r : EReal) = a * r + b * r :=
  EReal.right_distrib_of_nonneg_of_ne_top (EReal.coe_nonneg.2 hr) (EReal.coe_ne_top r) a b

theorem sum_mul_real {n : ℕ} (f : Fin n → EReal) {r : ℝ} (hr : 0 ≤ r) : (∑ k, f k) * (r : EReal) = ∑ k, f k * r := by
  induction n with
  | zero => simp
  | succ n ih => rw [Fin.sum_univ_succ, Fin.sum_univ_succ, add_mul_real _ _ hr, ih]

/-- Normalising may wait until after the rotation. -/
theorem rot_mul (cs sn : Fin 8 → EReal) (g x : Row) (d : Fin 64) :
    rot cs sn (fun e => x e * g e) d * rsd x = nrm cs sn g x d := by
  obtain ⟨r, hr, h⟩ := rsd_real x
  unfold nrm rot
  rw [h]
  dsimp only
  split
  · rw [sub_eq_add_neg, sub_eq_add_neg, add_mul_real _ _ hr, EReal.neg_mul]
    congr 1
    · ac_rfl
    · congr 1; ac_rfl
  · split
    · rw [add_mul_real _ _ hr]
      congr 1 <;> ac_rfl
    · ac_rfl

/-- The rotation as the body writes it, over three tables of coefficients. -/
theorem rot_tables (cs sn : Fin 8 → EReal) (y : Row) (d : Fin 64) {A B c s1 s2 : EReal}
    (hA : ∀ h : d.val < 8, A = y ⟨d.val + 8, by omega⟩) (hB : ∀ h : 8 ≤ d.val ∧ d.val < 16, B = y ⟨d.val - 8, by omega⟩)
    (hc : c = if h : d.val < 8 then cs ⟨d.val, h⟩ else if h' : d.val < 16 then cs ⟨d.val - 8, by omega⟩ else 1)
    (hs1 : s1 = if h : d.val < 8 then -sn ⟨d.val, h⟩ else 0)
    (hs2 : s2 = if h : 8 ≤ d.val ∧ d.val < 16 then sn ⟨d.val - 8, by omega⟩ else 0) :
    y d * c + A * s1 + B * s2 = rot cs sn y d := by
  unfold rot
  by_cases h : d.val < 8
  · rw [dif_pos h] at hc hs1 ⊢
    rw [dif_neg (by omega)] at hs2
    rw [hc, hs1, hs2, hA h, mul_zero, add_zero, mul_neg, ← sub_eq_add_neg]
  · rw [dif_neg h] at hc hs1 ⊢
    by_cases h' : d.val < 16
    · rw [dif_pos h'] at hc ⊢
      rw [dif_pos ⟨by omega, h'⟩] at hs2
      rw [hc, hs1, hs2, hB ⟨by omega, h'⟩, mul_zero, add_zero]
    · rw [dif_neg h'] at hc ⊢
      rw [dif_neg (by omega)] at hs2
      rw [hc, hs1, hs2, mul_zero, mul_zero, add_zero, add_zero, mul_one]

theorem Fin'.rot {cs sn : Fin 8 → EReal} {y : Row} (hc : ∀ k, Fin' (cs k)) (hs : ∀ k, Fin' (sn k)) (hy : ∀ e, Fin' (y e))
    (d : Fin 64) : Fin' (rot cs sn y d) := by
  unfold Attn.rot
  split
  · exact ((hy _).mul (hc _)).sub ((hy _).mul (hs _))
  · split
    · exact ((hy _).mul (hc _)).add ((hy _).mul (hs _))
    · exact hy _

theorem Fin'.nrm {cs sn : Fin 8 → EReal} {g x : Row} (hc : ∀ k, Fin' (cs k)) (hs : ∀ k, Fin' (sn k)) (hg : ∀ e, Fin' (g e))
    (d : Fin 64) : Fin' (nrm cs sn g x d) :=
  Fin'.rot hc hs (fun e => (Fin'.scaled x e).mul (hg e)) d

/-! ### Scores and weights -/

/-- The scores of a query, as the reference has them; where the mask's bit is not set, the least value. -/
def sc (M : Fin 256 → BitVec 1) (q : Row) (K : Fin 256 → Row) (j : Fin 256) : EReal :=
  Scalar.select (M j) ((∑ e : Fin 64, q e * K j e) * Ideal.ofBits FTy.f32 1040187392#32) ⊥

/-- The scale may be put on the query. -/
theorem sc_scaled (M : Fin 256 → BitVec 1) (cs sn : Fin 8 → EReal) (g x : Row) (K : Fin 256 → Row) (j : Fin 256) :
    Scalar.select (M j) (∑ e : Fin 64, rot cs sn (fun e => x e * g e) e * (rsd x * Ideal.ofBits FTy.f32 1040187392#32) * K j e) ⊥
      = sc M (nrm cs sn g x) K j := by
  unfold sc
  refine congrArg (fun s : EReal => Scalar.select (M j) s ⊥) ?_
  rw [c_eighth, sum_mul_real _ (by norm_num)]
  refine Finset.sum_congr rfl fun e _ => ?_
  rw [← rot_mul]
  ac_rfl

/-- The largest of a query's scores and the sink. -/
def top (s : Fin 256 → EReal) (k : EReal) : EReal := max (Finset.univ.fold max ⊥ s) k
/-- The weights' sum, with the sink's. -/
def den (s : Fin 256 → EReal) (k : EReal) : EReal := (∑ j : Fin 256, Ideal.exp (s j - top s k)) + Ideal.exp (k - top s k)
/-- The attention's value at one place, the weights normalised first. -/
def att (s V : Fin 256 → EReal) (k : EReal) : EReal := ∑ j : Fin 256, Ideal.div (Ideal.exp (s j - top s k)) (den s k) * V j
/-- The same, the sum over the values normalised. -/
def attK (s V : Fin 256 → EReal) (k : EReal) : EReal := Ideal.div (∑ j : Fin 256, Ideal.exp (s j - top s k) * V j) (den s k)

theorem exp_nonneg' (x : EReal) : 0 ≤ Ideal.exp x := by
  induction x with
  | bot => exact le_refl _
  | top => exact le_top
  | coe r => exact EReal.coe_nonneg.2 (Real.exp_pos r).le

/-- With scores below infinity and a sink that is a number, the weights' sum is not zero. -/
theorem den_ne_zero {s : Fin 256 → EReal} {k : EReal} (hs : ∀ j, s j ≠ ⊤) (hk : k ≠ ⊤) {j0 : Fin 256} (hj : Fin' (s j0)) :
    den s k ≠ 0 := by
  have ht : top s k ≠ ⊤ := by
    unfold top
    refine (max_lt (?_ : _ < (⊤ : EReal)) (lt_top_iff_ne_top.2 hk)).ne
    exact Finset.fold_max_lt _ |>.2 ⟨bot_lt_top, fun j _ => lt_top_iff_ne_top.2 (hs j)⟩
  have hl : s j0 ≤ top s k := le_trans ((Finset.le_fold_max _).2 (Or.inr ⟨j0, Finset.mem_univ _, le_refl _⟩)) (le_max_left _ _)
  have hb : top s k ≠ ⊥ := fun h => hj.ne_bot (le_bot_iff.1 (h ▸ hl))
  have hp : 0 < Ideal.exp (s j0 - top s k) := by
    obtain ⟨r, hr⟩ := hj
    rw [hr]
    generalize top s k = t at ht hb ⊢
    induction t with
    | bot => exact absurd rfl hb
    | top => exact absurd rfl ht
    | coe u => rw [← EReal.coe_sub]; exact EReal.coe_pos.2 (Real.exp_pos _)
  unfold den
  refine (lt_of_lt_of_le hp (le_trans ?_ (le_add_of_nonneg_right (exp_nonneg' _)))).ne'
  exact Finset.single_le_sum (f := fun j => Ideal.exp (s j - top s k)) (fun j _ => exp_nonneg' _) (Finset.mem_univ j0)

theorem inv_real {x : EReal} (h0 : x ≠ 0) (hx : 0 ≤ x) : ∃ r : ℝ, 0 ≤ r ∧ x⁻¹ = (r : EReal) := by
  induction x with
  | bot => exact absurd hx (by simp)
  | top => exact ⟨0, le_refl _, EReal.inv_top⟩
  | coe r => exact ⟨r⁻¹, inv_nonneg.2 (EReal.coe_nonneg.1 hx), (EReal.coe_inv r).symm⟩

/-- The two orders of the normalisation agree where the weights' sum is not zero. -/
theorem attK_eq {s V : Fin 256 → EReal} {k : EReal} (h : den s k ≠ 0) : attK s V k = att s V k := by
  have hn : 0 ≤ den s k := add_nonneg (Finset.sum_nonneg fun j _ => exp_nonneg' _) (exp_nonneg' _)
  obtain ⟨r, hr, he⟩ := inv_real h hn
  unfold attK att Ideal.div
  rw [if_neg h, he, sum_mul_real _ hr]
  refine Finset.sum_congr rfl fun j _ => ?_
  rw [if_neg h]
  ac_rfl

/-- The scores of numbers are below infinity. -/
theorem sc_ne_top {M : Fin 256 → BitVec 1} {q : Row} {K : Fin 256 → Row} (hq : ∀ e, Fin' (q e)) (hK : ∀ j e, Fin' (K j e))
    (j : Fin 256) : sc M q K j ≠ ⊤ := by
  unfold sc
  rcases BitVec.eq_zero_or_eq_one (M j) with h | h <;> rw [h]
  · exact bot_ne_top
  · exact ((Fin'.sum fun e => (hq e).mul (hK j e)).mul ⟨_, c_eighth⟩).ne_top

/-- A score the mask leaves is a number. -/
theorem sc_fin {M : Fin 256 → BitVec 1} {q : Row} {K : Fin 256 → Row} (hq : ∀ e, Fin' (q e)) (hK : ∀ j e, Fin' (K j e))
    {j : Fin 256} (h : M j = 1#1) : Fin' (sc M q K j) := by
  unfold sc
  rw [h]
  exact (Fin'.sum fun e => (hq e).mul (hK j e)).mul ⟨_, c_eighth⟩

end Cert.Attn

end
-- ==== Proof.AttnRef.lean ====
/-
  The prompt attention's reference, read at a place: the heads normalised and rotated, and the bands of keys and values.
-/
module

public import proofs.«01_k».proof.Proof.Gen.AttnPromptRefIdeal.Read
public import proofs.«01_k».proof.Proof.AttnMath
public import Idealize.ShloMosaic.Lib.Pointwise

@[expose] public section

set_option maxRecDepth 16384

noncomputable section

namespace Cert.AttnPromptRefIdeal.Places

open Cert.AttnPromptRefIdeal Cert.AttnPromptRefIdeal.Read Cert.Shared Cert.Attn Idealize.ShloMosaic Idealize.ShloMosaic.TcCoe
open scoped BigOperators

variable (a : Mat 8320 1536) (gq gk : S64.Idx → EReal) (sk : S16.Idx → EReal)

/-! ### The angles -/

/-- The angle of a position and a frequency. -/
def ang (t : Fin 2048) (k : Fin 8) : EReal :=
  FloatOps.sitofp (F := Ideal) FTy.f32 (IntOp.addi (0#32) (BitVec.ofNat 32 t.val))
    * Ideal.pow (Ideal.ofBits FTy.f32 1223959552#32)
        (Ideal.div (-FloatOps.sitofp (F := Ideal) FTy.f32 (BitVec.ofNat 32 k.val)) (Ideal.ofBits FTy.f32 1090519040#32))
/-- The cosines of a position. -/
def cs (t : Fin 2048) (k : Fin 8) : EReal := Ideal.cos (ang t k)
/-- The sines of a position. -/
def sn (t : Fin 2048) (k : Fin 8) : EReal := Ideal.sin (ang t k)

theorem c_theta : Ideal.ofBits FTy.f32 1223959552#32 = ((500000 : ℝ) : EReal) := by
  simp [Ideal.ofBits, Ideal.ieee, -EReal.coe_mul]; norm_num

theorem ang_fin (t : Fin 2048) (k : Fin 8) : Fin' (ang t k) := by
  refine Fin'.mul ⟨_, rfl⟩ (Fin'.pow ⟨_, c_theta⟩ (Fin'.div (Fin'.neg ⟨_, rfl⟩) ⟨_, c_8⟩ ?_))
  · rw [c_8]; exact_mod_cast (by norm_num : (8 : ℝ) ≠ 0)

theorem ang_q (t : Fin 2048) (k : Fin 8) : val_main_v34 (F := Ideal) (ix2 t k) = ang t k := by
  unfold ang
  pointwise [val_main_v34, val_main_v33, val_main_v32, val_main_v31, val_main_v30, val_main_v29, val_main_v28, val_main_cst_4,
    val_main_v27, val_main_v26, val_main_cst_3, val_main_v25, val_main_v24, val_main_v23, val_main_v22, val_main_v21, val_main_c, val_main_v20]

theorem ang_k (t : Fin 2048) (k : Fin 8) : val_main_v81 (F := Ideal) (ix2 t k) = ang t k := by
  unfold ang
  pointwise [val_main_v81, val_main_v80, val_main_v79, val_main_v78, val_main_v77, val_main_v76, val_main_v75, val_main_cst_10,
    val_main_v74, val_main_v73, val_main_cst_9, val_main_v72, val_main_v71, val_main_v70, val_main_v69, val_main_v68, val_main_c_8, val_main_v67]

/-! ### The heads -/

/-- A row's columns from `o` on, of one head. -/
def hd (R : Fin 8320) (o : ℕ) (ho : o + 64 ≤ 1536) : Row := fun d => a (ix2 R ⟨o + d.val, by omega⟩)
/-- A gain. -/
def gn (g : S64.Idx → EReal) : Row := fun d => g (ix1 d)
/-- The row of a sequence's position. -/
abbrev at_ (b : Fin 4) (t : Fin 2048) : Fin 8320 := ⟨b.val * 2048 + t.val, by omega⟩

/-- A query head. -/
def qrow (b : Fin 4) (t : Fin 2048) (h : Fin 16) : Row := nrm (cs t) (sn t) (gn gq) (hd a (at_ b t) (h.val * 64) (by omega))
/-- A key head. -/
def krow (b : Fin 4) (t : Fin 2048) (h : Fin 4) : Row := nrm (cs t) (sn t) (gn gk) (hd a (at_ b t) (1024 + h.val * 64) (by omega))
/-- A value head. -/
def vrow (b : Fin 4) (t : Fin 2048) (h : Fin 4) : Row := hd a (at_ b t) (1280 + h.val * 64) (by omega)

theorem qn_apply (b : Fin 4) (t : Fin 2048) (h : Fin 16) (d : Fin 64) : val_main_v19 (F := Ideal) a gq (ix4 b t h d)
    = hd a (at_ b t) (h.val * 64) (by omega) d * rsd (hd a (at_ b t) (h.val * 64) (by omega)) * gn gq d := by
  unfold hd gn rsd
  pointwise [val_main_v19, val_main_v18, val_main_v17, val_main_v16, val_main_v15, val_main_v14, val_main_v13, val_main_v12,
    val_main_v11, val_main_v10, val_main_v9, val_main_v8, val_main_v7, val_main_v6, val_main_v3, val_main_v2, val_main_v1,
    val_main_cst_0, val_main_cst_1, val_main_cst_2]

theorem q_apply (b : Fin 4) (t : Fin 2048) (h : Fin 16) (d : Fin 64) :
    val_main_v52 (F := Ideal) a gq (ix4 b t h d) = qrow a gq b t h d := by
  unfold qrow nrm rot cs sn
  pointwise [val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v35]
  simp only [ang_q, qn_apply]
  split
  · rw [show (⟨8 + d.val, by omega⟩ : Fin 64) = ⟨d.val + 8, by omega⟩ from Fin.ext (by show 8 + d.val = d.val + 8; omega)]
  · by_cases h' : d.val < 16
    · rw [dif_pos (by omega), dif_pos h', show (⟨8 + (d.val - 8), by omega⟩ : Fin 64) = d from Fin.ext (by show 8 + (d.val - 8) = d.val; omega)]
    · rw [dif_neg (by omega), dif_neg h', show (⟨16 + (d.val - 8 - 8), by omega⟩ : Fin 64) = d from Fin.ext (by show 16 + (d.val - 8 - 8) = d.val; omega)]

theorem kn_apply (b : Fin 4) (t : Fin 2048) (h : Fin 4) (d : Fin 64) : val_main_v66 (F := Ideal) a gk (ix4 b t h d)
    = hd a (at_ b t) (1024 + h.val * 64) (by omega) d * rsd (hd a (at_ b t) (1024 + h.val * 64) (by omega)) * gn gk d := by
  unfold hd gn rsd
  pointwise [val_main_v66, val_main_v65, val_main_v64, val_main_v63, val_main_v62, val_main_v61, val_main_v60, val_main_v59,
    val_main_v58, val_main_v57, val_main_v56, val_main_v55, val_main_v54, val_main_v53, val_main_v4, val_main_v2, val_main_v1,
    val_main_cst_5, val_main_cst_6, val_main_cst_7, Nat.add_assoc]

theorem k_apply (b : Fin 4) (t : Fin 2048) (h : Fin 4) (d : Fin 64) :
    val_main_v99 (F := Ideal) a gk (ix4 b t h d) = krow a gk b t h d := by
  unfold krow nrm rot cs sn
  pointwise [val_main_v99, val_main_v98, val_main_v97, val_main_v96, val_main_v95, val_main_v94, val_main_v93, val_main_v92,
    val_main_v91, val_main_v90, val_main_v89, val_main_v88, val_main_v87, val_main_v86, val_main_v85, val_main_v84, val_main_v83,
    val_main_v82]
  simp only [ang_k, kn_apply]
  split
  · rw [show (⟨8 + d.val, by omega⟩ : Fin 64) = ⟨d.val + 8, by omega⟩ from Fin.ext (by show 8 + d.val = d.val + 8; omega)]
  · by_cases h' : d.val < 16
    · rw [dif_pos (by omega), dif_pos h', show (⟨8 + (d.val - 8), by omega⟩ : Fin 64) = d from Fin.ext (by show 8 + (d.val - 8) = d.val; omega)]
    · rw [dif_neg (by omega), dif_neg h', show (⟨16 + (d.val - 8 - 8), by omega⟩ : Fin 64) = d from Fin.ext (by show 16 + (d.val - 8 - 8) = d.val; omega)]

theorem v_apply (b : Fin 4) (t : Fin 2048) (h : Fin 4) (d : Fin 64) :
    val_main_v101 (F := Ideal) a (ix4 b t h d) = vrow a b t h d := by
  unfold vrow hd
  pointwise [val_main_v101, val_main_v5, val_main_v2, val_main_v1, Nat.add_assoc]

/-! ### The bands -/

/-- What block `n`'s band holds at place `j`: nothing before the sequence, else position `128 n + j - 128`. -/
def band (f : Fin 2048 → EReal) (n : Fin 16) (j : Fin 256) : EReal :=
  if h : n.val * 128 + j.val < 128 then 0 else f ⟨n.val * 128 + j.val - 128, by omega⟩

theorem k_all (b : Fin 4) (t : Fin 2176) (h : Fin 4) (d : Fin 64) : val_main_v104 (F := Ideal) a gk (ix4 b t h d)
    = if h' : t.val < 128 then 0 else krow a gk b ⟨t.val - 128, by omega⟩ h d := by
  pointwise [val_main_v104, val_main_v100, val_main_v0, val_main_cst]
  simp only [k_apply]
theorem v_all (b : Fin 4) (t : Fin 2176) (h : Fin 4) (d : Fin 64) : val_main_v105 (F := Ideal) a (ix4 b t h d)
    = if h' : t.val < 128 then 0 else vrow a b ⟨t.val - 128, by omega⟩ h d := by
  pointwise [val_main_v105, val_main_v102, val_main_v0, val_main_cst]
  simp only [v_apply]

theorem row_word : ∀ (n : Fin 16) (j : Fin 256), Scalar.select
      (IntOp.cmpi CmpIPredicate.slt (IntOp.addi (IntOp.muli (BitVec.ofNat 32 n.val) 128#32) (BitVec.ofNat 32 j.val)) 0#32)
      (IntOp.addi (IntOp.addi (IntOp.muli (BitVec.ofNat 32 n.val) 128#32) (BitVec.ofNat 32 j.val)) 2176#32)
      (IntOp.addi (IntOp.muli (BitVec.ofNat 32 n.val) 128#32) (BitVec.ofNat 32 j.val)) = BitVec.ofNat 32 (n.val * 128 + j.val) := by
  decide +kernel
theorem in_word : ∀ (n : Fin 16) (j : Fin 256), IntOp.andi (IntOp.andi
    (IntOp.cmpi CmpIPredicate.sge (BitVec.ofNat 32 (n.val * 128 + j.val)) 0#32)
    (IntOp.cmpi CmpIPredicate.sle (BitVec.ofNat 32 (n.val * 128 + j.val)) 2175#32)) 1#1 = 1#1 := by
  decide +kernel

/-- How the rows of the bands are taken. -/
abbrev tk := gather_S4x2176x4x64_S16x256x1_S4x16x256x4x64_034_1_n_n_1_2_41464

/-- An axis that is kept whole is read where the result stands. -/
theorem tk_kept (y : S4x16x256x4x64.Idx) (idx : IVec S16x256x1 32) (q : Fin 4) (e : Fin 5) (h0 : q ∉ tk.startIndexMap)
    (hm : q ∈ tk.sKept) (he : tk.offsetDims[tk.sKept.idxOf q]? = some e) : tk.start y idx q + 0 + tk.offCoord y q = (y e).val := by
  unfold GatherDims.start GatherDims.offCoord
  rw [dif_neg h0, dif_pos hm, Nat.zero_add]
  exact congrArg (fun x => (y x).val) (Option.some.inj ((List.getElem?_eq_getElem _).symm.trans he))

/-- The rows taken from an array of 2176 rows, one word for each. -/
theorem take_apply (x : S4x2176x4x64.Idx → EReal) (idx : IVec S16x256x1 32) (b : Fin 4) (n : Fin 16) (j : Fin 256)
    (h : Fin 4) (d : Fin 64) (hidx : idx (ix3 n j 0) = BitVec.ofNat 32 (n.val * 128 + j.val)) :
    Host.gather tk x idx (ix5 b n j h d)
      = x (ix4 b ⟨n.val * 128 + j.val, by omega⟩ h d) := by
  unfold Host.gather
  refine congrArg x (funext fun q => Fin.ext ?_)
  have ht : (BitVec.ofNat 32 (n.val * 128 + j.val)).toInt.toNat = n.val * 128 + j.val := by
    rw [BitVec.toInt_eq_toNat_of_lt (by rw [BitVec.toNat_ofNat]; omega), BitVec.toNat_ofNat]; omega
  show tk.start _ idx q + tk.batchCoord _ q + tk.offCoord _ q = _
  rw [GatherDims.batchCoord_eq_zero _ _ _ List.not_mem_nil]
  fin_cases q
  · exact tk_kept _ idx 0 0 (by decide) (by decide) (by decide)
  · rw [GatherDims.offCoord_eq_zero _ _ _ (fun h => ((GatherDims.mem_sKept _ _).mp h).1 (List.mem_singleton.mpr rfl))]
    unfold GatherDims.start
    refine (congrArg (fun z => z + 0 + 0) (dif_pos (show (1 : Fin 4) ∈ tk.startIndexMap from List.mem_singleton.mpr rfl))).trans ?_
    dsimp only
    have hs : ∀ k, GatherDims.siIdx tk (ix5 b n j h d) k = ix3 n j 0 := by
      intro k
      funext e
      refine Fin.ext ?_
      match e with
      | ⟨0, _⟩ => rfl
      | ⟨1, _⟩ => rfl
      | ⟨2, _⟩ => exact Nat.lt_one_iff.1 k.isLt
    rw [hs, hidx, ht]
    show min (n.val * 128 + j.val) (2176 - 1) + 0 + 0 = n.val * 128 + j.val
    omega
  · exact tk_kept _ idx 2 3 (by decide) (by decide) (by decide)
  · exact tk_kept _ idx 3 4 (by decide) (by decide) (by decide)

theorem fold_one (f : Fin 1 → BitVec 1) (c : BitVec 1) : Finset.univ.fold IntOp.andi c f = IntOp.andi (f 0) c := by
  rw [Finset.univ_unique, Finset.fold_singleton]; rfl

theorem kband (b : Fin 4) (n : Fin 16) (j : Fin 256) (h : Fin 4) (d : Fin 64) :
    val_main_v116 (F := Ideal) a gk (ix5 b n j h d) = band (fun t => krow a gk b t h d) n j := by
  have hw : val_main_call3_v5 (F := Ideal) (ix3 n j 0) = BitVec.ofNat 32 (n.val * 128 + j.val) := by
    refine Eq.trans ?_ (row_word n j)
    pointwise [val_main_call3_v5, val_main_call3_v4, val_main_call3_v3, val_main_call3_v2, val_main_call3_v1, val_main_call3_v0,
      val_main_call3_c, val_main_call3_c_0, val_main_v115, val_main_v114, val_main_v113, val_main_v112, val_main_v111,
      val_main_v110, val_main_v109, val_main_v108, val_main_v107, val_main_c_14]
  have hm : IntOp.andi (IntOp.andi (val_main_call3_v7 (F := Ideal) (ix3 n j 0)) (val_main_call3_v10 (F := Ideal) (ix3 n j 0)))
      (val_main_call3_c_3 (F := Ideal) (Shape.Idx.first Gen.h_S_)) = 1#1 := by
    refine Eq.trans ?_ (in_word n j)
    pointwise [val_main_call3_v10, val_main_call3_v9, val_main_call3_v8, val_main_call3_v7, val_main_call3_v6, val_main_call3_c_1,
      val_main_call3_c_2, val_main_call3_c_3]
    rw [hw]
  pointwise [val_main_v116, val_main_call3_v13, val_main_call3_v14, val_main_call3_v12, val_main_call3_v11]
  rw [take_apply _ _ b n j h d hw, fold_one, hm, k_all]
  rfl

theorem vband (b : Fin 4) (n : Fin 16) (j : Fin 256) (h : Fin 4) (d : Fin 64) :
    val_main_v117 (F := Ideal) a (ix5 b n j h d) = band (fun t => vrow a b t h d) n j := by
  have hw : val_main_call4_v5 (F := Ideal) (ix3 n j 0) = BitVec.ofNat 32 (n.val * 128 + j.val) := by
    refine Eq.trans ?_ (row_word n j)
    pointwise [val_main_call4_v5, val_main_call4_v4, val_main_call4_v3, val_main_call4_v2, val_main_call4_v1, val_main_call4_v0,
      val_main_call4_c, val_main_call4_c_0, val_main_v115, val_main_v114, val_main_v113, val_main_v112, val_main_v111,
      val_main_v110, val_main_v109, val_main_v108, val_main_v107, val_main_c_14]
  have hm : IntOp.andi (IntOp.andi (val_main_call4_v7 (F := Ideal) (ix3 n j 0)) (val_main_call4_v10 (F := Ideal) (ix3 n j 0)))
      (val_main_call4_c_3 (F := Ideal) (Shape.Idx.first Gen.h_S_)) = 1#1 := by
    refine Eq.trans ?_ (in_word n j)
    pointwise [val_main_call4_v10, val_main_call4_v9, val_main_call4_v8, val_main_call4_v7, val_main_call4_v6, val_main_call4_c_1,
      val_main_call4_c_2, val_main_call4_c_3]
    rw [hw]
  pointwise [val_main_v117, val_main_call4_v13, val_main_call4_v14, val_main_call4_v12, val_main_call4_v11]
  rw [take_apply _ _ b n j h d hw, fold_one, hm, v_all]
  rfl

/-! ### The mask -/

/-- Which places of a band a query reads. -/
def mk (n : Fin 16) (p : Fin 128) (j : Fin 256) : BitVec 1 :=
  BitVec.ofBool (decide ((p.val < j.val ∧ j.val ≤ p.val + 128) ∧ (128 ≤ j.val ∨ 0 < n.val)))

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem toInt_small {n : ℕ} (h : n < 2 ^ 31) : (BitVec.ofNat 32 n).toInt = n := by
  rw [BitVec.toInt_eq_toNat_of_lt (by rw [BitVec.toNat_ofNat]; omega), BitVec.toNat_ofNat]; omega
theorem sgt_word {x y : ℕ} (hx : x < 2 ^ 31) (hy : y < 2 ^ 31) :
    IntOp.cmpi CmpIPredicate.sgt (BitVec.ofNat 32 x) (BitVec.ofNat 32 y) = BitVec.ofBool (decide (y < x)) := by
  simp [IntOp.cmpi, BitVec.slt, toInt_small hx, toInt_small hy]
theorem sle_word {x y : ℕ} (hx : x < 2 ^ 31) (hy : y < 2 ^ 31) :
    IntOp.cmpi CmpIPredicate.sle (BitVec.ofNat 32 x) (BitVec.ofNat 32 y) = BitVec.ofBool (decide (x ≤ y)) := by
  simp [IntOp.cmpi, BitVec.sle, toInt_small hx, toInt_small hy]
theorem pos_word : ∀ (n : Fin 16) (j : Fin 256), IntOp.cmpi CmpIPredicate.sge (IntOp.addi 4294967168#32
    (IntOp.addi (IntOp.muli (BitVec.ofNat 32 n.val) 128#32) (BitVec.ofNat 32 j.val))) 0#32
      = BitVec.ofBool (decide (128 ≤ j.val ∨ 0 < n.val)) := by
  decide +kernel
/-- The window of a query in its band. -/
theorem window_word (p : Fin 128) (j : Fin 256) : IntOp.andi
    (IntOp.cmpi CmpIPredicate.sgt (BitVec.ofNat 32 j.val) (BitVec.ofNat 32 p.val))
    (IntOp.cmpi CmpIPredicate.sle (BitVec.ofNat 32 j.val) (IntOp.addi (BitVec.ofNat 32 p.val) 128#32))
      = BitVec.ofBool (decide (p.val < j.val ∧ j.val ≤ p.val + 128)) := by
  rw [show IntOp.addi (BitVec.ofNat 32 p.val) 128#32 = BitVec.ofNat 32 (p.val + 128) from (BitVec.ofNat_add ..).symm,
    sgt_word (by omega) (by omega), sle_word (by omega) (by omega), and_word]

theorem valid_apply (n : Fin 16) (p : Fin 128) (j : Fin 256) : val_main_v143 (F := Ideal) (ix3 n p j) = mk n p j := by
  unfold mk
  rw [← and_word, ← window_word, ← pos_word]
  pointwise [val_main_v143, val_main_v142, val_main_v141, val_main_v140, val_main_v139, val_main_v138, val_main_v137, val_main_v136,
    val_main_v135, val_main_v134, val_main_v133, val_main_v132, val_main_v131, val_main_v130, val_main_v129, val_main_v128,
    val_main_v127, val_main_v126, val_main_v125, val_main_v124, val_main_v123, val_main_v122, val_main_c_16, val_main_c_17,
    val_main_c_18, val_main_v115, val_main_v114, val_main_v113, val_main_v112, val_main_v111, val_main_v110, val_main_v109,
    val_main_v108, val_main_v107, val_main_c_14]

/-! ### Scores, weights, values -/

/-- The position of a block's row. -/
abbrev pos (n : Fin 16) (p : Fin 128) : Fin 2048 := ⟨n.val * 128 + p.val, by omega⟩
/-- The query head of a group's member. -/
abbrev qh (h g : Fin 4) : Fin 16 := ⟨h.val * 4 + g.val, by omega⟩
/-- The scores of one query. -/
def scores (b : Fin 4) (n : Fin 16) (h g : Fin 4) (p : Fin 128) : Fin 256 → EReal :=
  sc (mk n p) (qrow a gq b (pos n p) (qh h g)) fun j e => band (fun t => krow a gk b t h e) n j

theorem s_apply (b : Fin 4) (n : Fin 16) (h g : Fin 4) (p : Fin 128) (j : Fin 256) :
    val_main_v145 (F := Ideal) a gq gk (ix6 b n h g p j) = scores a gq gk b n h g p j := by
  unfold scores sc
  pointwise [val_main_v145, val_main_call5_v2, val_main_call5_v1, val_main_call5_v0, val_main_cst_19, val_main_v144, val_main_v121,
    val_main_v120, val_main_cst_15, val_main_v119, val_main_v118, val_main_v106, val_main_v103]
  simp only [valid_apply, kband, q_apply]
  rw [show id (constant (F := Ideal) S_ FTy.f32 4286578688#32) ix0 = ⊥ from c_bot]
  refine congrArg (fun z : EReal => Scalar.select (mk n p j) (z * Ideal.ofBits FTy.f32 1040187392#32) ⊥) (Finset.sum_congr rfl fun x _ => ?_)
  rw [dif_pos (by omega), mul_comm]

end Cert.AttnPromptRefIdeal.Places

end
-- ==== Proof.AttnBody.lean ====
module

public import proofs.«01_k».proof.Proof.Gen.AttnPromptIdeal.Value
public import proofs.«01_k».proof.Proof.AttnRef
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AttnPromptIdeal.Body

open Cert.AttnPromptIdeal Cert.AttnPromptIdeal.Gen Cert.Shared Cert.Attn Idealize.ShloMosaic Idealize.ShloMosaic.TcCoe
open scoped BigOperators

/-- The sixty-four columns of a buffer from column `o` on. -/
def lane (A : Mat 256 256) (o : ℕ) (ho : o + 64 ≤ 256) : Mat 256 64 :=
  fun i => A (ix2 (i 0) ⟨o + (i 1).val, by have : (i 1).val < 64 := (i 1).isLt; omega⟩)

theorem ld_lane (A : Vec Ideal S256x256 .f32) {o : ℕ}
    (inb : ∀ a, (![0, o] : Fin 2 → ℕ) a + S256x64.size a ≤ S256x256.size a) :
    View.ld A (Rect.unit (s := S256x256) ![0, o] ![256, 64] inb) = lane A o (inb 1) := by
  funext (j : S256x64.Idx)
  idx_vars j
  refine congrArg A (Shape.idx_ext₂ ?_ ?_)
  · show 0 + 1 * j0.val = j0.val; omega
  · show o + 1 * j1.val = o + j1.val; omega

/-- The word a head's sink is loaded from. -/
theorem ld_sink (A : Vec Ideal S16 .f32) {o : ℕ}
    (inb : ∀ a, (![o] : Fin 1 → ℕ) a + S1.size a ≤ S16.size a) (z : S1.Idx) :
    View.ld A (Rect.unit (s := S16) ![o] ![1] inb) z = A (ix1 ⟨o, inb 0⟩) := by
  have hz : (z 0).val < 1 := (z 0).isLt
  refine congrArg A (funext fun a => Fin.ext ?_)
  match a with
  | ⟨0, _⟩ => show o + 1 * (z 0).val = o; omega

/-- One place of the head whose columns begin at `o`: the sums over the values first, then the division. -/
def hv (M : IVec S128x256 1) (QR X : Mat 128 1024) (KB VB : Mat 256 256) (x0 : S16.Idx → EReal) (o : ℕ) (ho : o + 64 ≤ 1024)
    (p : Fin 128) (d : Fin 64) : EReal :=
  attK (fun j => Scalar.select (M (ix2 p j)) (∑ e : Fin 64, QR (ix2 p ⟨o + e.val, by omega⟩)
    * (rsd (fun e => X (ix2 p ⟨o + e.val, by omega⟩)) * Ideal.ofBits FTy.f32 1040187392#32)
    * lane KB (o / 256 * 64) (by omega) (ix2 j e)) ⊥)
    (fun j => lane VB (o / 256 * 64) (by omega) (ix2 j d)) (x0 (ix1 ⟨o / 64, by omega⟩))

/-- The block of results a point writes, at any place. -/
def H (M : IVec S128x256 1) (QR X : Mat 128 1024) (KB VB : Mat 256 256) (x0 : S16.Idx → EReal) (y : S128x1024.Idx) : EReal :=
  hv M QR X KB VB x0 ((y 1).val / 64 * 64) (by have : (y 1).val < 1024 := (y 1).isLt; omega) (y 0) ⟨(y 1).val % 64, by omega⟩

variable (M : IVec S128x256 1) (QR X : Mat 128 1024) (KB VB : Mat 256 256) (x0 : S16.Idx → EReal)

/-- A place in the columns of a head, read from that head. -/
theorem H_at {y : S128x1024.Idx} {x : S128x64.Idx} {o : ℕ} (h0 : (y 0).val = (x 0).val) (h1 : (y 1).val = o + (x 1).val)
    (hm : o % 64 = 0) (ho : o + 64 ≤ 1024) : H M QR X KB VB x0 y = hv M QR X KB VB x0 o ho (x 0) (x 1) := by
  have hx : (x 1).val < 64 := (x 1).isLt
  have e : (y 1).val / 64 * 64 = o := by omega
  have d : (⟨(y 1).val % 64, by omega⟩ : Fin 64) = x 1 := Fin.ext (by show (y 1).val % 64 = (x 1).val; omega)
  have r : y 0 = x 0 := Fin.ext h0
  unfold H
  rw [d, r]
  congr 1

set_option maxHeartbeats 4000000 in
/-- The sixteen stores of a point, read as one block. -/
theorem heads (y : S128x1024.Idx) :
    View.canon (Val := Elt Ideal) (s := S128x1024) (e := .bf16) [
      ⟨Rect.unit (s := S128x1024) ![0, 960] S128x64.size inb_S128x1024_S128x64_0_960, k0_pay81 (F := Ideal) X QR M (k0_pay67 (F := Ideal) (View.ld KB (Rect.unit (s := S256x256) ![0, 192] S256x64.size inb_S256x256_S256x64_0_192))) (k0_pay68 (F := Ideal) (View.ld VB (Rect.unit (s := S256x256) ![0, 192] S256x64.size inb_S256x256_S256x64_0_192))) (View.ld x0 (Rect.unit (s := S16) ![15] S1.size inb_S16_S1_15) (Shape.Idx.first (numel1_S1.symm ▸ Nat.one_pos)))⟩,
      ⟨Rect.unit (s := S128x1024) ![0, 896] S128x64.size inb_S128x1024_S128x64_0_896, k0_pay80 (F := Ideal) (k0_pay78 (F := Ideal) X QR M (k0_pay67 (F := Ideal) (View.ld KB (Rect.unit (s := S256x256) ![0, 192] S256x64.size inb_S256x256_S256x64_0_192))) (View.ld x0 (Rect.unit (s := S16) ![14] S1.size inb_S16_S1_14) (Shape.Idx.first (numel1_S1.symm ▸ Nat.one_pos)))) (k0_pay79 (F := Ideal) X QR M (k0_pay67 (F := Ideal) (View.ld KB (Rect.unit (s := S256x256) ![0, 192] S256x64.size inb_S256x256_S256x64_0_192))) (k0_pay68 (F := Ideal) (View.ld VB (Rect.unit (s := S256x256) ![0, 192] S256x64.size inb_S256x256_S256x64_0_192))) (View.ld x0 (Rect.unit (s := S16) ![14] S1.size inb_S16_S1_14) (Shape.Idx.first (numel1_S1.symm ▸ Nat.one_pos))))⟩,
      ⟨Rect.unit (s := S128x1024) ![0, 832] S128x64.size inb_S128x1024_S128x64_0_832, k0_pay74 (F := Ideal) (k0_pay68 (F := Ideal) (View.ld VB (Rect.unit (s := S256x256) ![0, 192] S256x64.size inb_S256x256_S256x64_0_192))) (View.ld x0 (Rect.unit (s := S16) ![13] S1.size inb_S16_S1_13) (Shape.Idx.first (numel1_S1.symm ▸ Nat.one_pos))) (k0_pay72 (F := Ideal) X QR M (k0_pay67 (F := Ideal) (View.ld KB (Rect.unit (s := S256x256) ![0, 192] S256x64.size inb_S256x256_S256x64_0_192))) (View.ld x0 (Rect.unit (s := S16) ![13] S1.size inb_S16_S1_13) (Shape.Idx.first (numel1_S1.symm ▸ Nat.one_pos)))) (k0_pay73 (F := Ideal) X QR M (k0_pay67 (F := Ideal) (View.ld KB (Rect.unit (s := S256x256) ![0, 192] S256x64.size inb_S256x256_S256x64_0_192))) (View.ld x0 (Rect.unit (s := S16) ![13] S1.size inb_S16_S1_13) (Shape.Idx.first (numel1_S1.symm ▸ Nat.one_pos))))⟩,
      ⟨Rect.unit (s := S128x1024) ![0, 768] S128x64.size inb_S128x1024_S128x64_0_768, k0_pay70 (F := Ideal) (k0_pay68 (F := Ideal) (View.ld VB (Rect.unit (s := S256x256) ![0, 192] S256x64.size inb_S256x256_S256x64_0_192))) (k0_pay69 (F := Ideal) X QR M (View.ld KB (Rect.unit (s := S256x256) ![0, 192] S256x64.size inb_S256x256_S256x64_0_192))) (View.ld x0 (Rect.unit (s := S16) ![12] S1.size inb_S16_S1_12) (Shape.Idx.first (numel1_S1.symm ▸ Nat.one_pos)))⟩,
      ⟨Rect.unit (s := S128x1024) ![0, 704] S128x64.size inb_S128x1024_S128x64_0_704, k0_pay66 (F := Ideal) (k0_pay57 (F := Ideal) (View.ld VB (Rect.unit (s := S256x256) ![0, 128] S256x64.size inb_S256x256_S256x64_0_128))) (k0_pay65 (F := Ideal) X QR M (k0_pay56 (F := Ideal) (View.ld KB (Rect.unit (s := S256x256) ![0, 128] S256x64.size inb_S256x256_S256x64_0_128)))) (View.ld x0 (Rect.unit (s := S16) ![11] S1.size inb_S16_S1_11) (Shape.Idx.first (numel1_S1.symm ▸ Nat.one_pos)))⟩,
      ⟨Rect.unit (s := S128x1024) ![0, 640] S128x64.size inb_S128x1024_S128x64_0_640, k0_pay64 (F := Ideal) M (k0_pay56 (F := Ideal) (View.ld KB (Rect.unit (s := S256x256) ![0, 128] S256x64.size inb_S256x256_S256x64_0_128))) (k0_pay57 (F := Ideal) (View.ld VB (Rect.unit (s := S256x256) ![0, 128] S256x64.size inb_S256x256_S256x64_0_128))) (k0_pay62 (F := Ideal) QR) (k0_pay63 (F := Ideal) X) (View.ld x0 (Rect.unit (s := S16) ![10] S1.size inb_S16_S1_10) (Shape.Idx.first (numel1_S1.symm ▸ Nat.one_pos)))⟩,
      ⟨Rect.unit (s := S128x1024) ![0, 576] S128x64.size inb_S128x1024_S128x64_0_576, k0_pay61 (F := Ideal) M (k0_pay56 (F := Ideal) (View.ld KB (Rect.unit (s := S256x256) ![0, 128] S256x64.size inb_S256x256_S256x64_0_128))) (k0_pay57 (F := Ideal) (View.ld VB (Rect.unit (s := S256x256) ![0, 128] S256x64.size inb_S256x256_S256x64_0_128))) (k0_pay59 (F := Ideal) QR) (k0_pay60 (F := Ideal) X) (FloatOps.ofBits (F := Ideal) FTy.f32 1115684864#32) (View.ld x0 (Rect.unit (s := S16) ![9] S1.size inb_S16_S1_9) (Shape.Idx.first (numel1_S1.symm ▸ Nat.one_pos)))⟩,
      ⟨Rect.unit (s := S128x1024) ![0, 512] S128x64.size inb_S128x1024_S128x64_0_512, k0_pay58 (F := Ideal) X QR M (k0_pay56 (F := Ideal) (View.ld KB (Rect.unit (s := S256x256) ![0, 128] S256x64.size inb_S256x256_S256x64_0_128))) (View.ld VB (Rect.unit (s := S256x256) ![0, 128] S256x64.size inb_S256x256_S256x64_0_128)) (View.ld x0 (Rect.unit (s := S16) ![8] S1.size inb_S16_S1_8) (Shape.Idx.first (numel1_S1.symm ▸ Nat.one_pos)))⟩,
      ⟨Rect.unit (s := S128x1024) ![0, 448] S128x64.size inb_S128x1024_S128x64_0_448, k0_pay55 (F := Ideal) X QR M (k0_pay42 (F := Ideal) (View.ld KB (Rect.unit (s := S256x256) ![0, 64] S256x64.size inb_S256x256_S256x64_0_64))) (k0_pay43 (F := Ideal) (View.ld VB (Rect.unit (s := S256x256) ![0, 64] S256x64.size inb_S256x256_S256x64_0_64))) (View.ld x0 (Rect.unit (s := S16) ![7] S1.size inb_S16_S1_7) (Shape.Idx.first (numel1_S1.symm ▸ Nat.one_pos)))⟩,
      ⟨Rect.unit (s := S128x1024) ![0, 384] S128x64.size inb_S128x1024_S128x64_0_384, k0_pay54 (F := Ideal) X QR M (k0_pay42 (F := Ideal) (View.ld KB (Rect.unit (s := S256x256) ![0, 64] S256x64.size inb_S256x256_S256x64_0_64))) (k0_pay43 (F := Ideal) (View.ld VB (Rect.unit (s := S256x256) ![0, 64] S256x64.size inb_S256x256_S256x64_0_64))) (View.ld x0 (Rect.unit (s := S16) ![6] S1.size inb_S16_S1_6) (Shape.Idx.first (numel1_S1.symm ▸ Nat.one_pos)))⟩,
      ⟨Rect.unit (s := S128x1024) ![0, 320] S128x64.size inb_S128x1024_S128x64_0_320, k0_pay53 (F := Ideal) (k0_pay43 (F := Ideal) (View.ld VB (Rect.unit (s := S256x256) ![0, 64] S256x64.size inb_S256x256_S256x64_0_64))) (k0_pay50 (F := Ideal) X QR M (k0_pay42 (F := Ideal) (View.ld KB (Rect.unit (s := S256x256) ![0, 64] S256x64.size inb_S256x256_S256x64_0_64))) (View.ld x0 (Rect.unit (s := S16) ![5] S1.size inb_S16_S1_5) (Shape.Idx.first (numel1_S1.symm ▸ Nat.one_pos)))) (k0_pay51 (F := Ideal) X QR M (k0_pay42 (F := Ideal) (View.ld KB (Rect.unit (s := S256x256) ![0, 64] S256x64.size inb_S256x256_S256x64_0_64))) (View.ld x0 (Rect.unit (s := S16) ![5] S1.size inb_S16_S1_5) (Shape.Idx.first (numel1_S1.symm ▸ Nat.one_pos)))) (k0_pay52 (F := Ideal) X QR M (k0_pay42 (F := Ideal) (View.ld KB (Rect.unit (s := S256x256) ![0, 64] S256x64.size inb_S256x256_S256x64_0_64))) (View.ld x0 (Rect.unit (s := S16) ![5] S1.size inb_S16_S1_5) (Shape.Idx.first (numel1_S1.symm ▸ Nat.one_pos))))⟩,
      ⟨Rect.unit (s := S128x1024) ![0, 256] S128x64.size inb_S128x1024_S128x64_0_256, k0_pay47 (F := Ideal) (k0_pay43 (F := Ideal) (View.ld VB (Rect.unit (s := S256x256) ![0, 64] S256x64.size inb_S256x256_S256x64_0_64))) (k0_pay44 (F := Ideal) X QR M (View.ld KB (Rect.unit (s := S256x256) ![0, 64] S256x64.size inb_S256x256_S256x64_0_64))) (View.ld x0 (Rect.unit (s := S16) ![4] S1.size inb_S16_S1_4) (Shape.Idx.first (numel1_S1.symm ▸ Nat.one_pos))) (k0_pay45 (F := Ideal) X QR M (View.ld KB (Rect.unit (s := S256x256) ![0, 64] S256x64.size inb_S256x256_S256x64_0_64))) (k0_pay46 (F := Ideal) (View.ld x0 (Rect.unit (s := S16) ![4] S1.size inb_S16_S1_4) (Shape.Idx.first (numel1_S1.symm ▸ Nat.one_pos))))⟩,
      ⟨Rect.unit (s := S128x1024) ![0, 192] S128x64.size inb_S128x1024_S128x64_0_192, k0_pay41 (F := Ideal) (k0_pay29 (F := Ideal) (View.ld VB (Rect.unit (s := S256x256) ![0, 0] S256x64.size inb_S256x256_S256x64_0_0))) (k0_pay39 (F := Ideal) X QR M (k0_pay28 (F := Ideal) (View.ld KB (Rect.unit (s := S256x256) ![0, 0] S256x64.size inb_S256x256_S256x64_0_0)))) (View.ld x0 (Rect.unit (s := S16) ![3] S1.size inb_S16_S1_3) (Shape.Idx.first (numel1_S1.symm ▸ Nat.one_pos))) (k0_pay40 (F := Ideal) X QR M (k0_pay28 (F := Ideal) (View.ld KB (Rect.unit (s := S256x256) ![0, 0] S256x64.size inb_S256x256_S256x64_0_0))))⟩,
      ⟨Rect.unit (s := S128x1024) ![0, 128] S128x64.size inb_S128x1024_S128x64_0_128, k0_pay38 (F := Ideal) M (k0_pay28 (F := Ideal) (View.ld KB (Rect.unit (s := S256x256) ![0, 0] S256x64.size inb_S256x256_S256x64_0_0))) (k0_pay29 (F := Ideal) (View.ld VB (Rect.unit (s := S256x256) ![0, 0] S256x64.size inb_S256x256_S256x64_0_0))) (k0_pay37 (F := Ideal) X QR) (constant S128x256 FTy.f32 0#32) (View.ld x0 (Rect.unit (s := S16) ![2] S1.size inb_S16_S1_2) (Shape.Idx.first (numel1_S1.symm ▸ Nat.one_pos)))⟩,
      ⟨Rect.unit (s := S128x1024) ![0, 64] S128x64.size inb_S128x1024_S128x64_0_64, k0_pay36 (F := Ideal) M (k0_pay28 (F := Ideal) (View.ld KB (Rect.unit (s := S256x256) ![0, 0] S256x64.size inb_S256x256_S256x64_0_0))) (k0_pay29 (F := Ideal) (View.ld VB (Rect.unit (s := S256x256) ![0, 0] S256x64.size inb_S256x256_S256x64_0_0))) (k0_pay33 (F := Ideal) QR) (k0_pay34 (F := Ideal) X) (k0_pay35 (F := Ideal)) (View.ld x0 (Rect.unit (s := S16) ![1] S1.size inb_S16_S1_1) (Shape.Idx.first (numel1_S1.symm ▸ Nat.one_pos)))⟩,
      ⟨Rect.unit (s := S128x1024) ![0, 0] S128x64.size inb_S128x1024_S128x64_0_0, k0_pay32 (F := Ideal) M (k0_pay28 (F := Ideal) (View.ld KB (Rect.unit (s := S256x256) ![0, 0] S256x64.size inb_S256x256_S256x64_0_0))) (k0_pay29 (F := Ideal) (View.ld VB (Rect.unit (s := S256x256) ![0, 0] S256x64.size inb_S256x256_S256x64_0_0))) (k0_pay30 (F := Ideal) QR) (k0_pay31 (F := Ideal) X) (View.ld x0 (Rect.unit (s := S16) ![0] S1.size inb_S16_S1_0) (Shape.Idx.first (numel1_S1.symm ▸ Nat.one_pos)))⟩] y = H M QR X KB VB x0 y := by
  canon_tiles x h
  all_goals
    refine Eq.trans ?_ (H_at M QR X KB VB x0 h0 (by first | exact h1 | exact h1.trans (Nat.zero_add _).symm) (by decide) (by decide)).symm
    idx_vars x
    simp only [ld_lane, ld_sink]
    unfold hv attK den top rsd
    pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81]
    rw [c_bot]

end Cert.AttnPromptIdeal.Body

end
-- ==== Proof.AttnScr.lean ====
/-
  The rotation by the position's cosines and sines as the body does it, two shifted copies of a row times two tables, and
  the two buffers of keys and values: what one point leaves in them, read by the later point.
-/
module

public import proofs.«01_k».proof.Proof.Gen.AttnPromptIdeal.Value
public import proofs.«01_k».proof.Proof.AttnBody
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AttnPromptIdeal.Body

open Cert.AttnPromptIdeal Cert.AttnPromptIdeal.Gen Cert.Shared Cert.Attn Idealize.ShloMosaic Idealize.ShloMosaic.TcCoe
open scoped BigOperators

/-! ### The rotation -/

/-- The table of cosines over a head's sixty-four columns, and the two tables of sines. -/
def tc (cs : Fin 8 → EReal) (d : ℕ) : EReal :=
  if h : d < 8 then cs ⟨d, h⟩ else if h' : d < 16 then cs ⟨d - 8, by omega⟩ else 1
def ta (sn : Fin 8 → EReal) (d : ℕ) : EReal := if h : d < 8 then -sn ⟨d, h⟩ else 0
def tb (sn : Fin 8 → EReal) (d : ℕ) : EReal := if h : 8 ≤ d ∧ d < 16 then sn ⟨d - 8, by omega⟩ else 0

/-- Three blocks that hold the tables of a block's rows, two heads wide. -/
structure Tab (cs sn : Fin 128 → Fin 8 → EReal) (C A B : Mat 128 128) : Prop where
  hc : ∀ p c, C (ix2 p c) = tc (cs p) (c.val % 64)
  ha : ∀ p c, A (ix2 p c) = ta (sn p) (c.val % 64)
  hb : ∀ p c, B (ix2 p c) = tb (sn p) (c.val % 64)

/-- A table repeated eight times along the columns. -/
theorem eight (f : ℕ → EReal) (c : ℕ) :
    (if c < 128 then f (c % 64) else if c - 128 < 128 then f ((c - 128) % 64) else if c - 128 - 128 < 128 then f ((c - 128 - 128) % 64)
      else if c - 128 - 128 - 128 < 128 then f ((c - 128 - 128 - 128) % 64)
      else if c - 128 - 128 - 128 - 128 < 128 then f ((c - 128 - 128 - 128 - 128) % 64)
      else if c - 128 - 128 - 128 - 128 - 128 < 128 then f ((c - 128 - 128 - 128 - 128 - 128) % 64)
      else if c - 128 - 128 - 128 - 128 - 128 - 128 < 128 then f ((c - 128 - 128 - 128 - 128 - 128 - 128) % 64)
      else f ((c - 128 - 128 - 128 - 128 - 128 - 128 - 128) % 64)) = f (c % 64) := by
  split_ifs <;> exact congrArg f (by omega)

/-- A table repeated twice. -/
theorem twice (f : ℕ → EReal) (c : ℕ) : (if c < 128 then f (c % 64) else f ((c - 128) % 64)) = f (c % 64) := by
  split_ifs <;> exact congrArg f (by omega)

variable {cs sn : Fin 128 → Fin 8 → EReal} {C A B : Mat 128 128}

/-- A rotated query head, before it is normalised. -/
theorem q_rot (ht : Tab cs sn C A B) (X : Mat 128 1024) (g : Mat 1 1024) (gq : Row)
    (hg : ∀ c : Fin 1024, g (ix2 0 c) = gq ⟨c.val % 64, by omega⟩) (p : Fin 128) (o : ℕ) (hm : o % 64 = 0) (ho : o + 64 ≤ 1024) (e : Fin 64) :
    k0_pay12 (F := Ideal) X C A B g (ix2 p ⟨o + e.val, by omega⟩)
      = rot (cs p) (sn p) (fun d => X (ix2 p ⟨o + d.val, by omega⟩) * gq d) e := by
  pointwise [k0_pay12, k0_pay9, k0_pay10, k0_pay11]
  simp only [ht.hc, ht.ha, ht.hb, dite_eq_ite, eight]
  have hd : (o + e.val) % 64 = e.val := by omega
  rw [hd]
  have hr : ∀ {c : Fin 1024} {d : Fin 64}, c.val = o + d.val →
      X (ix2 p c) * g (ix2 0 c) = X (ix2 p ⟨o + d.val, by omega⟩) * gq d := by
    intro c d h
    rw [hg, show c = ⟨o + d.val, by omega⟩ from Fin.ext h]
    exact congrArg (fun z => _ * gq z) (Fin.ext (by show (o + d.val) % 64 = d.val; omega))
  rw [hr (c := ⟨o + e.val, _⟩) (d := e) rfl]
  exact rot_tables (cs p) (sn p) (fun d => X (ix2 p ⟨o + d.val, by omega⟩) * gq d) e
    (fun h => hr (c := ⟨(o + e.val + 1024 - 1016) % 1024, by omega⟩) (d := ⟨e.val + 8, by omega⟩)
      (by show (o + e.val + 1024 - 1016) % 1024 = o + (e.val + 8); omega))
    (fun h => hr (c := ⟨(o + e.val + 1024 - 8) % 1024, by omega⟩) (d := ⟨e.val - 8, by omega⟩)
      (by show (o + e.val + 1024 - 8) % 1024 = o + (e.val - 8); omega)) rfl rfl rfl

/-- A rotated key head, before it is normalised. -/
theorem k_rot (ht : Tab cs sn C A B) (X : Mat 128 512) (g : Mat 1 256) (gk : Row)
    (hg : ∀ c : Fin 256, g (ix2 0 c) = gk ⟨c.val % 64, by omega⟩) (p : Fin 128) (o : ℕ) (hm : o % 64 = 0) (ho : o + 64 ≤ 256) (e : Fin 64) :
    k0_pay19 (F := Ideal) (k0_pay14 A) (k0_pay15 B) (k0_pay16 X g) (k0_pay17 X g) (k0_pay18 X C g) (ix2 p ⟨o + e.val, by omega⟩)
      = rot (cs p) (sn p) (fun d => X (ix2 p ⟨o + d.val, by omega⟩) * gk d) e := by
  pointwise [k0_pay19, k0_pay18, k0_pay17, k0_pay16, k0_pay15, k0_pay14, k0_pay13, k0_pay7, k0_pay9, k0_pay10, k0_pay11]
  simp only [ht.hc, ht.ha, ht.hb, dite_eq_ite]
  rw [twice (tc (cs p)), twice (ta (sn p)), twice (tb (sn p))]
  have hd : (o + e.val) % 64 = e.val := by omega
  rw [hd]
  have hr : ∀ {c : Fin 256} {d : Fin 64} (hc : c.val < 512), c.val = o + d.val →
      X (ix2 p ⟨c.val, hc⟩) * g (ix2 0 c) = X (ix2 p ⟨o + d.val, by omega⟩) * gk d := by
    intro c d hc h
    have : (⟨c.val, hc⟩ : Fin 512) = ⟨o + d.val, by omega⟩ := Fin.ext h
    rw [hg, this]
    exact congrArg (fun z => _ * gk z) (Fin.ext (by show c.val % 64 = d.val; omega))
  rw [hr (c := ⟨o + e.val, by omega⟩) (d := e) (by show o + e.val < 512; omega) rfl]
  exact rot_tables (cs p) (sn p) (fun d => X (ix2 p ⟨o + d.val, by omega⟩) * gk d) e
    (fun h => hr (c := ⟨(o + e.val + 256 - 248) % 256, by omega⟩) (d := ⟨e.val + 8, by omega⟩)
      (by show (o + e.val + 256 - 248) % 256 < 512; omega) (by show (o + e.val + 256 - 248) % 256 = o + (e.val + 8); omega))
    (fun h => hr (c := ⟨(o + e.val + 256 - 8) % 256, by omega⟩) (d := ⟨e.val - 8, by omega⟩)
      (by show (o + e.val + 256 - 8) % 256 < 512; omega) (by show (o + e.val + 256 - 8) % 256 = o + (e.val - 8); omega)) rfl rfl rfl

end Cert.AttnPromptIdeal.Body

end
-- ==== Proof.AttnKeep.lean ====
/-
  The two buffers of keys and values: the rows from 128 on are the point's own keys and values, the rows before are what
  the point before left there.
-/
module

public import proofs.«01_k».proof.Proof.Gen.AttnPromptIdeal.Value
public import proofs.«01_k».proof.Proof.AttnScr
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AttnPromptIdeal.Body

open Cert.AttnPromptIdeal Cert.AttnPromptIdeal.Gen Cert.Shared Cert.Attn Idealize.ShloMosaic Idealize.ShloMosaic.TcCoe
open scoped BigOperators

variable {cs sn : Fin 128 → Fin 8 → EReal} {C A B : Mat 128 128} {X : Mat 128 512} {g : Mat 1 256} {gk : Row}

/-- A key head of the point's own rows, the one whose columns begin at `o`. -/
def kn (cs sn : Fin 128 → Fin 8 → EReal) (gk : Row) (X : Mat 128 512) (o : ℕ) (ho : o + 64 ≤ 256) (p : Fin 128) : Row :=
  nrm (cs p) (sn p) gk fun d => X (ix2 p ⟨o + d.val, by omega⟩)

/-- The buffer of keys after a point's stores, over what it held. -/
def KG (cs sn : Fin 128 → Fin 8 → EReal) (gk : Row) (X : Mat 128 512) (old : Mat 256 256) (y : S256x256.Idx) : EReal :=
  if h : (y 0).val < 128 then old y
  else kn cs sn gk X ((y 1).val / 64 * 64) (by have : (y 1).val < 256 := (y 1).isLt; omega)
    ⟨(y 0).val - 128, by have : (y 0).val < 256 := (y 0).isLt; omega⟩ ⟨(y 1).val % 64, by omega⟩

/-- The buffer of values after a point's stores, over what it held. -/
def VG (X : Mat 128 512) (old : Mat 256 256) (y : S256x256.Idx) : EReal :=
  if h : (y 0).val < 128 then old y
  else X (ix2 ⟨(y 0).val - 128, by have : (y 0).val < 256 := (y 0).isLt; omega⟩
    ⟨256 + (y 1).val, by have : (y 1).val < 256 := (y 1).isLt; omega⟩)

theorem KG_at (old : Mat 256 256) {y : S256x256.Idx} {x : S128x64.Idx} {o : ℕ} (h0 : (y 0).val = 128 + (x 0).val)
    (h1 : (y 1).val = o + (x 1).val) (hm : o % 64 = 0) (ho : o + 64 ≤ 256) :
    KG cs sn gk X old y = kn cs sn gk X o ho (x 0) (x 1) := by
  have hx : (x 1).val < 64 := (x 1).isLt
  have e : (y 1).val / 64 * 64 = o := by omega
  have d : (⟨(y 1).val % 64, by omega⟩ : Fin 64) = x 1 := Fin.ext (by show (y 1).val % 64 = (x 1).val; omega)
  have r : (⟨(y 0).val - 128, by have : (y 0).val < 256 := (y 0).isLt; omega⟩ : Fin 128) = x 0 :=
    Fin.ext (by show (y 0).val - 128 = (x 0).val; omega)
  unfold KG
  rw [dif_neg (by omega), d, r]
  congr 1

/-- The four stores of keys. -/
abbrev ks (C A B : Mat 128 128) (X : Mat 128 512) (g : Mat 1 256) : List (View.Piece (Elt Ideal) S256x256 .f32) :=
  [⟨Rect.unit (s := S256x256) ![128, 192] ![128, 64] inb_S256x256_S128x64_128_192,
      k0_pay25 (F := Ideal) (k0_pay7 X) (k0_pay19 (k0_pay14 A) (k0_pay15 B) (k0_pay16 X g) (k0_pay17 X g) (k0_pay18 X C g))⟩,
    ⟨Rect.unit (s := S256x256) ![128, 128] ![128, 64] inb_S256x256_S128x64_128_128,
      k0_pay24 (F := Ideal) (k0_pay22 (k0_pay14 A) (k0_pay15 B) (k0_pay16 X g) (k0_pay17 X g) (k0_pay18 X C g)) (k0_pay23 (k0_pay7 X))⟩,
    ⟨Rect.unit (s := S256x256) ![128, 64] ![128, 64] inb_S256x256_S128x64_128_64, k0_pay21 (F := Ideal) (k0_pay7 X) (k0_pay14 A) (k0_pay15 B) (k0_pay16 X g) (k0_pay17 X g) (k0_pay18 X C g)⟩,
    ⟨Rect.unit (s := S256x256) ![128, 0] ![128, 64] inb_S256x256_S128x64_128_0, k0_pay20 (F := Ideal) (k0_pay7 X) (k0_pay14 A) (k0_pay15 B) (k0_pay16 X g) (k0_pay17 X g) (k0_pay18 X C g)⟩]

/-- The store of values. -/
abbrev vs (X : Mat 128 512) : List (View.Piece (Elt Ideal) S256x256 .f32) :=
  [⟨Rect.unit (s := S256x256) ![128, 0] ![128, 256] inb_S256x256_S128x256_128_0, k0_pay26 (F := Ideal) (k0_pay8 X)⟩]

/-- What a store of keys has to be for its rectangle to hold the rotated, normalised head. -/
theorem lane_eq (ht : Tab cs sn C A B) (hg : ∀ c : Fin 256, g (ix2 0 c) = gk ⟨c.val % 64, by omega⟩) (old : Mat 256 256)
    (o : ℕ) (hm : o % 64 = 0) (ho : o + 64 ≤ 256) (w : S128x64.Idx → EReal)
    (hw : ∀ (p : Fin 128) (e : Fin 64), w (ix2 p e) = k0_pay19 (F := Ideal) (k0_pay14 A) (k0_pay15 B) (k0_pay16 X g) (k0_pay17 X g) (k0_pay18 X C g) (ix2 p ⟨o + e.val, by omega⟩)
      * rsd (fun d => X (ix2 p ⟨o + d.val, by omega⟩)))
    (x : S128x64.Idx) (y : S256x256.Idx) (h0 : (y 0).val = 128 + 1 * (x 0).val) (h1 : (y 1).val = o + 1 * (x 1).val) :
    w x = KG cs sn gk X old y := by
  refine Eq.trans ?_ (KG_at (x := x) (o := o) old (by omega) (by omega) hm ho).symm
  idx_vars x
  rw [hw, k_rot ht X g gk hg x0 o hm ho x1]
  exact rot_mul ..

theorem ks_pieces (ht : Tab cs sn C A B) (hg : ∀ c : Fin 256, g (ix2 0 c) = gk ⟨c.val % 64, by omega⟩) (old : Mat 256 256) :
    View.PiecesOf (Val := Elt Ideal) (e := .f32) (KG cs sn gk X old) (ks C A B X g) :=
  ⟨fun x => lane_eq ht hg old 192 (by decide) (by decide) _ (fun p e => by unfold rsd; pointwise [k0_pay25, k0_pay7]) x _ rfl rfl,
    fun x => lane_eq ht hg old 128 (by decide) (by decide) _
      (fun p e => by unfold rsd; pointwise [k0_pay24, k0_pay23, k0_pay22, k0_pay7]) x _ rfl rfl,
    fun x => lane_eq ht hg old 64 (by decide) (by decide) _ (fun p e => by unfold rsd; pointwise [k0_pay21, k0_pay7]) x _ rfl rfl,
    fun x => lane_eq ht hg old 0 (by decide) (by decide) _ (fun p e => by unfold rsd; pointwise [k0_pay20, k0_pay7]) x _ rfl rfl, trivial⟩

theorem vs_pieces (old : Mat 256 256) : View.PiecesOf (Val := Elt Ideal) (e := .f32) (VG X old) (vs X) := by
  refine ⟨fun (x : S128x256.Idx) => ?_, trivial⟩
  have h : VG X old ((Rect.unit (s := S256x256) ![128, 0] ![128, 256] inb_S256x256_S128x256_128_0).emb x)
      = X (ix2 (x 0) ⟨256 + (x 1).val, by have : (x 1).val < 256 := (x 1).isLt; omega⟩) := by
    unfold VG
    rw [dif_neg (by show ¬ 128 + 1 * (x 0).val < 128; omega)]
    refine congrArg X (Shape.idx_ext₂ ?_ ?_)
    · show 128 + 1 * (x 0).val - 128 = (x 0).val; omega
    · show 256 + (0 + 1 * (x 1).val) = 256 + (x 1).val; omega
  refine Eq.trans ?_ h.symm
  idx_vars x
  pointwise [k0_pay26, k0_pay8]

theorem vs_cover (y : S256x256.Idx) (h : 128 ≤ (y 0).val) : ∃ p ∈ vs X, y ∈ p.1.set :=
  ⟨_, .head _, (Rect.mem_set_unit (inb := inb_S256x256_S128x256_128_0)).2 fun a => match a with
    | ⟨0, _⟩ => ⟨h, (y 0).isLt⟩
    | ⟨1, _⟩ => ⟨Nat.zero_le _, by have : (y 1).val < 256 := (y 1).isLt; show (y 1).val < 0 + 256; omega⟩⟩

theorem ks_cover (y : S256x256.Idx) (h : 128 ≤ (y 0).val) : ∃ p ∈ ks C A B X g, y ∈ p.1.set := by
  have hy : (y 0).val < 256 := (y 0).isLt
  have hz : (y 1).val < 256 := (y 1).isLt
  have hs : ∀ {o : ℕ} (inb), o ≤ (y 1).val → (y 1).val < o + 64 →
      y ∈ (Rect.unit (s := S256x256) ![128, o] ![128, 64] inb).set := fun {o} inb h1 h2 =>
    Rect.mem_set_unit.2 fun a => match a with
      | ⟨0, _⟩ => ⟨h, hy⟩
      | ⟨1, _⟩ => ⟨h1, h2⟩
  rcases (by omega : 192 ≤ (y 1).val ∨ (128 ≤ (y 1).val ∧ (y 1).val < 192) ∨ (64 ≤ (y 1).val ∧ (y 1).val < 128) ∨ (y 1).val < 64)
    with h1 | h1 | h1 | h1
  · exact ⟨_, .head _, hs inb_S256x256_S128x64_128_192 h1 hz⟩
  · exact ⟨_, .tail _ (.head _), hs inb_S256x256_S128x64_128_128 h1.1 h1.2⟩
  · exact ⟨_, .tail _ (.tail _ (.head _)), hs inb_S256x256_S128x64_128_64 h1.1 h1.2⟩
  · exact ⟨_, .tail _ (.tail _ (.tail _ (.head _))), hs inb_S256x256_S128x64_128_0 (Nat.zero_le _) (by omega)⟩

/-- No store of the point lies in the rows before 128. -/
theorem ks_low (y : S256x256.Idx) (h : (y 0).val < 128) : ∀ p ∈ ks C A B X g, y ∉ p.1.set := by
  have hs : ∀ {o : ℕ} (inb), y ∉ (Rect.unit (s := S256x256) ![128, o] ![128, 64] inb).set := fun {o} inb hm =>
    absurd h (Nat.not_lt.2 (Rect.mem_set_unit.1 hm 0).1)
  intro p hp
  simp only [List.mem_cons, List.not_mem_nil, or_false] at hp
  rcases hp with rfl | rfl | rfl | rfl
  · exact hs inb_S256x256_S128x64_128_192
  · exact hs inb_S256x256_S128x64_128_128
  · exact hs inb_S256x256_S128x64_128_64
  · exact hs inb_S256x256_S128x64_128_0

theorem vs_low (y : S256x256.Idx) (h : (y 0).val < 128) : ∀ p ∈ vs X, y ∉ p.1.set := by
  intro p hp hm
  rw [List.mem_singleton.1 hp] at hm
  exact absurd h (Nat.not_lt.2 ((Rect.mem_set_unit (inb := inb_S256x256_S128x256_128_0)).1 hm 0).1)

/-- Stores over a buffer, read where no store lies. -/
theorem read_low {κ : Kind} {sp : Space} {s : Shape} {e : EltTy} (v : View sig κ sp s e) (f) :
    ∀ (L : List (View.Piece (Elt Ideal) s e)) (y : s.Idx), (∀ p ∈ L, y ∉ p.1.set) →
      v.read (Elt Ideal) (v.writes (Elt Ideal) f L) y = v.read (Elt Ideal) f y
  | [], _, _ => rfl
  | p :: L, y, h => by
    rw [View.read_writes_cons_miss v f p L y (h p List.mem_cons_self)]
    exact read_low v f L y fun q hq => h q (List.mem_cons_of_mem _ hq)

/-- The keys a point in a sequence reads. -/
theorem keys_read (ht : Tab cs sn C A B) (hg : ∀ c : Fin 256, g (ix2 0 c) = gk ⟨c.val % 64, by omega⟩) {κ : Kind} {sp : Space}
    {v : View sig κ sp S256x256 .f32} (f) (old : Mat 256 256) (hf : v.read (Elt Ideal) f = old) :
    v.read (Elt Ideal) (v.writes (Elt Ideal) f (ks C A B X g)) = KG cs sn gk X old := by
  funext y
  by_cases h : (y 0).val < 128
  · rw [read_low v f _ y (ks_low y h), hf]; unfold KG; rw [dif_pos h]
  · exact View.read_writes_apply_of_pieces v f (KG cs sn gk X old) _ (ks_pieces ht hg old).mem y (ks_cover y (by omega))

theorem vals_read {κ : Kind} {sp : Space} {v : View sig κ sp S256x256 .f32} (f) (old : Mat 256 256) (hf : v.read (Elt Ideal) f = old) :
    v.read (Elt Ideal) (v.writes (Elt Ideal) f (vs X)) = VG X old := by
  funext y
  by_cases h : (y 0).val < 128
  · rw [read_low v f _ y (vs_low y h), hf]; unfold VG; rw [dif_pos h]
  · exact View.read_writes_apply_of_pieces v f (VG X old) _ (vs_pieces old).mem y (vs_cover y (by omega))

/-- Stores read where none of the later ones lies. -/
theorem canon_low {s : Shape} {e : EltTy} (L' : List (View.Piece (Elt Ideal) s e)) :
    ∀ (L : List (View.Piece (Elt Ideal) s e)) (y : s.Idx), (∀ p ∈ L, y ∉ p.1.set) → View.canon (L ++ L') y = View.canon L' y
  | [], _, _ => rfl
  | p :: L, y, h => (View.canon_cons_of_not_mem p (L ++ L') (h p List.mem_cons_self)).trans
    (canon_low L' L y fun q hq => h q (List.mem_cons_of_mem _ hq))

/-- A store of the rows before 128, read there. -/
theorem canon_first (w : S128x256.Idx → EReal) (L : List (View.Piece (Elt Ideal) S256x256 .f32)) (r : Fin 128) (k : Fin 256) :
    View.canon (⟨Rect.unit (s := S256x256) ![0, 0] ![128, 256] inb_S256x256_S128x256_0_0, w⟩ :: L) (ix2 ⟨r.val, by omega⟩ k)
      = w (ix2 r k) := by
  rw [← View.canon_cons_emb (Val := Elt Ideal) (e := .f32) (Rect.unit (s := S256x256) ![0, 0] ![128, 256] inb_S256x256_S128x256_0_0) w L (ix2 r k)]
  refine congrArg (View.canon _) (Shape.idx_ext₂ ?_ ?_)
  · show r.val = 0 + 1 * r.val; omega
  · show k.val = 0 + 1 * k.val; omega

theorem canon_first' (w : S128x256.Idx → EReal) (L : List (View.Piece (Elt Ideal) S256x256 .f32)) (y : S256x256.Idx)
    (h : (y 0).val < 128) :
    View.canon (⟨Rect.unit (s := S256x256) ![0, 0] ![128, 256] inb_S256x256_S128x256_0_0, w⟩ :: L) y = w (ix2 ⟨(y 0).val, h⟩ (y 1)) :=
  (congrArg (View.canon _) (show y = ix2 (⟨(y 0).val, by omega⟩ : Fin 256) (y 1) by refine Shape.idx_ext₂ ?_ ?_ <;> rfl)).trans (canon_first w L ⟨(y 0).val, h⟩ (y 1))

/-- The keys and the values a sequence's first point reads: zeros before its own. -/
theorem keys_zero (ht : Tab cs sn C A B) (hg : ∀ c : Fin 256, g (ix2 0 c) = gk ⟨c.val % 64, by omega⟩) :
    View.canon (ks C A B X g ++ [⟨Rect.unit (s := S256x256) ![0, 0] ![128, 256] inb_S256x256_S128x256_0_0, k0_pay5 (F := Ideal)⟩])
      = KG cs sn gk X 0 := by
  funext y
  by_cases h : (y 0).val < 128
  · rw [canon_low _ _ y (ks_low y h), canon_first' _ _ y h]
    unfold KG
    rw [dif_pos h]
    pointwise [k0_pay5]
    rfl
  · exact View.canon_append_of_piecesOf _ _ _ (ks_pieces ht hg 0) y (ks_cover y (by omega))

theorem vals_zero :
    View.canon (vs X ++ [⟨Rect.unit (s := S256x256) ![0, 0] ![128, 256] inb_S256x256_S128x256_0_0, k0_pay6 (F := Ideal)⟩]) = VG X 0 := by
  funext y
  by_cases h : (y 0).val < 128
  · rw [canon_low _ _ y (vs_low y h), canon_first' _ _ y h]
    unfold VG
    rw [dif_pos h]
    pointwise [k0_pay6]
    rfl
  · exact View.canon_append_of_piecesOf _ _ _ (vs_pieces 0) y (vs_cover y (by omega))

/-- The point's own keys and values, loaded whole after its stores over anything. -/
theorem keys_own (ht : Tab cs sn C A B) (hg : ∀ c : Fin 256, g (ix2 0 c) = gk ⟨c.val % 64, by omega⟩) {κ : Kind} {sp : Space}
    (v : View sig κ sp S256x256 .f32) (L : List (View.Piece (Elt Ideal) S256x256 .f32)) (r : Fin 128) (c : Fin 256) :
    v.readCov (ks C A B X g ++ L) (Rect.unit (s := S256x256) ![128, 0] ![128, 256] inb_S256x256_S128x256_128_0).toLoadRect (ix2 r c)
      = kn cs sn gk X (c.val / 64 * 64) (by omega) r ⟨c.val % 64, by omega⟩ := by
  rw [View.readCov_eq_canon']
  refine (View.canon_append_of_piecesOf _ _ _ (ks_pieces ht hg 0) _ (ks_cover _ ?_)).trans ?_
  · show 128 ≤ 128 + 1 * r.val; omega
  · have h1 : ((((Rect.unit (s := S256x256) ![128, 0] ![128, 256] inb_S256x256_S128x256_128_0).toLoadRect).idx (ix2 r c)) 1).val = c.val := by
      show 0 + 1 * c.val = c.val; omega
    have h0 : ((((Rect.unit (s := S256x256) ![128, 0] ![128, 256] inb_S256x256_S128x256_128_0).toLoadRect).idx (ix2 r c)) 0).val = 128 + r.val := by
      show 128 + 1 * r.val = 128 + r.val; omega
    exact KG_at (x := ix2 r ⟨c.val % 64, by omega⟩) 0 h0 (h1.trans (by show c.val = c.val / 64 * 64 + c.val % 64; omega)) (by omega) (by omega)

theorem vals_own {κ : Kind} {sp : Space} (v : View sig κ sp S256x256 .f32) (L : List (View.Piece (Elt Ideal) S256x256 .f32))
    (r : Fin 128) (c : Fin 256) :
    v.readCov (vs X ++ L) (Rect.unit (s := S256x256) ![128, 0] ![128, 256] inb_S256x256_S128x256_128_0).toLoadRect (ix2 r c)
      = X (ix2 r ⟨256 + c.val, by omega⟩) := by
  rw [View.readCov_eq_canon']
  refine (View.canon_append_of_piecesOf _ _ _ (vs_pieces 0) _ (vs_cover _ ?_)).trans ?_
  · show 128 ≤ 128 + 1 * r.val; omega
  · unfold VG
    rw [dif_neg (by show ¬ 128 + 1 * r.val < 128; omega)]
    refine congrArg X (Shape.idx_ext₂ ?_ ?_)
    · show 128 + 1 * r.val - 128 = r.val; omega
    · show 256 + (0 + 1 * c.val) = 256 + c.val; omega

end Cert.AttnPromptIdeal.Body

end
-- ==== Proof.AttnPoint.lean ====
/-
  What the three kinds of a point leave: a sequence's first point, a point within it, and its last point.
-/
module

public import proofs.«01_k».proof.Proof.Gen.AttnPromptIdeal.Value
public import proofs.«01_k».proof.Proof.AttnKeep
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AttnPromptIdeal.Body

open Cert.AttnPromptIdeal Cert.AttnPromptIdeal.Gen Cert.Shared Cert.Attn Idealize.ShloMosaic Idealize.ShloMosaic.TcCoe
open scoped BigOperators

variable {cs sn : Fin 128 → Fin 8 → EReal} {gk : Row}

/-- A load after the stores of a point that is the first to write a buffer, as a load of what they leave. -/
theorem readCov_ld {κ : Kind} {sp : Space} {s : Shape} {e : EltTy} (v : View sig κ sp s e) (L : List (View.Piece (Elt Ideal) s e))
    (r : Rect s) : v.readCov L r.toLoadRect = View.ld (View.canon L) r := by
  rw [View.readCov_eq_canon']

/-- The results of a sequence's first point. -/
theorem outA (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : cond0_0 i) (hc1 : ¬cond0_1 i)
    (x0 x1 x2 x3 x4 x5 x6 x7) (ht : Tab cs sn x3 x4 x5) (hg : ∀ k : Fin 256, x7 (ix2 0 k) = gk ⟨k.val % 64, by omega⟩) (y : S128x1024.Idx) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y = H (k0_pay27 (BitVec.ofNat 32 (i 1).val)) (k0_pay12 (F := Ideal) x1 x3 x4 x5 x6) x1 (KG cs sn gk x2 0) (VG x2 0) x0 y := by
  frame_open
  frame_out
  simp only [readCov_ld]
  refine Eq.trans ?_ (congrArg₂ (fun K V => H _ _ x1 K V x0 y) (keys_zero ht hg) vals_zero)
  exact heads ..

/-- The results of a point within a sequence. -/
theorem outB (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : ¬cond0_0 i) (hc1 : ¬cond0_1 i)
    (x0 x1 x2 x3 x4 x5 x6 x7 xs0 xs1) (ht : Tab cs sn x3 x4 x5) (hg : ∀ k : Fin 256, x7 (ix2 0 k) = gk ⟨k.val % 64, by omega⟩) (y : S128x1024.Idx) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 y = H (k0_pay27 (BitVec.ofNat 32 (i 1).val)) (k0_pay12 (F := Ideal) x1 x3 x4 x5 x6) x1 (KG cs sn gk x2 xs0) (VG x2 xs1) x0 y := by
  frame_open
  frame_out
  refine Eq.trans ?_ (congrArg₂ (fun K V => H _ _ x1 K V x0 y) (keys_read ht hg (v := arg13.view) _ xs0 (harg13.read_unread xs0))
    (vals_read (v := arg14.view) _ xs1 (harg14.read_unread xs1)))
  exact heads ..

/-- The results of a sequence's last point. -/
theorem outC (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : ¬cond0_0 i) (hc1 : cond0_1 i)
    (x0 x1 x2 x3 x4 x5 x6 x7 xs0 xs1) (ht : Tab cs sn x3 x4 x5) (hg : ∀ k : Fin 256, x7 (ix2 0 k) = gk ⟨k.val % 64, by omega⟩) (y : S128x1024.Idx) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 y = H (k0_pay27 (BitVec.ofNat 32 (i 1).val)) (k0_pay12 (F := Ideal) x1 x3 x4 x5 x6) x1 (KG cs sn gk x2 xs0) (VG x2 xs1) x0 y := by
  frame_open
  frame_out
  refine Eq.trans ?_ (congrArg₂ (fun K V => H _ _ x1 K V x0 y) (keys_read ht hg (v := arg13.view) _ xs0 (harg13.read_unread xs0))
    (vals_read (v := arg14.view) _ xs1 (harg14.read_unread xs1)))
  exact heads ..

/-- The keys a sequence's first point leaves for the next. -/
theorem keysA (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : cond0_0 i) (hc1 : ¬cond0_1 i)
    (x0 x1 x2 x3 x4 x5 x6 x7) (ht : Tab cs sn x3 x4 x5) (hg : ∀ k : Fin 256, x7 (ix2 0 k) = gk ⟨k.val % 64, by omega⟩) (r : Fin 128) (k : Fin 256) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 ⟨r.val, by omega⟩ k) = kn cs sn gk x2 (k.val / 64 * 64) (by omega) r ⟨k.val % 64, by omega⟩ := by
  frame_open
  frame_out
  refine (canon_first _ _ r k).trans ?_
  pointwise [k0_pay3]
  exact keys_own ht hg arg13.view [⟨Rect.unit (s := S256x256) ![0, 0] ![128, 256] inb_S256x256_S128x256_0_0, k0_pay5 (F := Ideal)⟩] r k

/-- The keys a point within a sequence leaves for the next. -/
theorem keysB (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : ¬cond0_0 i) (hc1 : ¬cond0_1 i)
    (x0 x1 x2 x3 x4 x5 x6 x7 xs0 xs1) (ht : Tab cs sn x3 x4 x5) (hg : ∀ k : Fin 256, x7 (ix2 0 k) = gk ⟨k.val % 64, by omega⟩) (r : Fin 128) (k : Fin 256) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 ⟨r.val, by omega⟩ k) = kn cs sn gk x2 (k.val / 64 * 64) (by omega) r ⟨k.val % 64, by omega⟩ := by
  frame_open
  frame_out
  refine (canon_first _ _ r k).trans ?_
  pointwise [k0_pay3]
  exact keys_own ht hg arg13.view [] r k

/-- The values a sequence's first point leaves for the next. -/
theorem valsA (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : cond0_0 i) (hc1 : ¬cond0_1 i)
    (x0 x1 x2 x3 x4 x5 x6 x7) (ht : Tab cs sn x3 x4 x5) (hg : ∀ k : Fin 256, x7 (ix2 0 k) = gk ⟨k.val % 64, by omega⟩) (r : Fin 128) (k : Fin 256) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 ⟨r.val, by omega⟩ k) = x2 (ix2 r ⟨256 + k.val, by omega⟩) := by
  frame_open
  frame_out
  refine (canon_first _ _ r k).trans ?_
  pointwise [k0_pay4]
  exact vals_own arg14.view [⟨Rect.unit (s := S256x256) ![0, 0] ![128, 256] inb_S256x256_S128x256_0_0, k0_pay6 (F := Ideal)⟩] r k

/-- The values a point within a sequence leaves for the next. -/
theorem valsB (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : ¬cond0_0 i) (hc1 : ¬cond0_1 i)
    (x0 x1 x2 x3 x4 x5 x6 x7 xs0 xs1) (ht : Tab cs sn x3 x4 x5) (hg : ∀ k : Fin 256, x7 (ix2 0 k) = gk ⟨k.val % 64, by omega⟩) (r : Fin 128) (k : Fin 256) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 ⟨r.val, by omega⟩ k) = x2 (ix2 r ⟨256 + k.val, by omega⟩) := by
  frame_open
  frame_out
  refine (canon_first _ _ r k).trans ?_
  pointwise [k0_pay4]
  exact vals_own arg14.view [] r k

/-- The cache of keys a sequence's last point writes. -/
theorem cacheK (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : ¬cond0_0 i) (hc1 : cond0_1 i)
    (x0 x1 x2 x3 x4 x5 x6 x7 xs0 xs1) (ht : Tab cs sn x3 x4 x5) (hg : ∀ k : Fin 256, x7 (ix2 0 k) = gk ⟨k.val % 64, by omega⟩) (r : Fin 128) (k : Fin 256) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix3 0 r k) = kn cs sn gk x2 (k.val / 64 * 64) (by omega) r ⟨k.val % 64, by omega⟩ := by
  frame_open
  frame_out
  pointwise [k0_pay1]
  exact keys_own ht hg arg13.view [] r k

/-- The cache of values a sequence's last point writes. -/
theorem cacheV (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S128x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole) (hc0 : ¬cond0_0 i) (hc1 : cond0_1 i)
    (x0 x1 x2 x3 x4 x5 x6 x7 xs0 xs1) (ht : Tab cs sn x3 x4 x5) (hg : ∀ k : Fin 256, x7 (ix2 0 k) = gk ⟨k.val % 64, by omega⟩) (r : Fin 128) (k : Fin 256) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix3 0 r k) = x2 (ix2 r ⟨256 + k.val, by omega⟩) := by
  frame_open
  frame_out
  pointwise [k0_pay2]
  exact vals_own arg14.view [] r k

end Cert.AttnPromptIdeal.Body

end
-- ==== Proof.AttnHost.lean ====
/-
  What the attention's host lines hand to the call, the gains repeated over the heads and the tables of cosines and sines
  of the positions, and where each point's blocks lie in the arrays.
-/
module

public import proofs.«01_k».proof.Proof.AttnPoint
public import proofs.«01_k».proof.Proof.AttnRef
public import Idealize.ShloMosaic.Lib.Pointwise
public import Idealize.ShloMosaic.Lib.StableHlo.ReadAt

@[expose] public section

set_option maxRecDepth 16384

noncomputable section

namespace Cert.AttnPromptIdeal.Body

open Cert.AttnPromptIdeal Cert.AttnPromptIdeal.Gen Cert.Shared Cert.Attn Idealize.ShloMosaic Idealize.ShloMosaic.TcCoe Idealize.SL.Sem
open Idealize.ShloMosaic.Pipeline (Dat)
open scoped BigOperators

open Cert.AttnPromptRefIdeal.Places (ang cs sn pos)

variable (m : (b : Loc nD τ sig) → Buf (Elt Ideal) b) (c : Dev nD)

/-- The call's arrays. -/
abbrev aA : Mat 8320 1536 := m ((c : Thread nD τ).loc main_arg0)
abbrev aQ : S64.Idx → EReal := m ((c : Thread nD τ).loc main_arg1)
abbrev aK : S64.Idx → EReal := m ((c : Thread nD τ).loc main_arg2)
abbrev aS : S16.Idx → EReal := m ((c : Thread nD τ).loc main_arg3)

/-- The queries' gain, repeated over the sixteen heads. -/
theorem gain_q (k : Fin 1024) : (V m c main_v3 : Mat 1 1024) (ix2 0 k) = aQ m c (ix1 ⟨k.val % 64, by omega⟩) := by
  show (StableHlo.after hostOps0 (fun b => m (c, b)) main_v3 : Mat 1 1024) (ix2 0 k) = _
  after_reads_at

/-- The keys' gain, repeated over the four heads. -/
theorem gain_k (k : Fin 256) : (V m c main_v7 : Mat 1 256) (ix2 0 k) = aK m c (ix1 ⟨k.val % 64, by omega⟩) := by
  show (StableHlo.after hostOps0 (fun b => m (c, b)) main_v7 : Mat 1 256) (ix2 0 k) = _
  after_reads_at

theorem c_one : Ideal.ofBits FTy.f32 1065353216#32 = 1 := by
  refine (?_ : _ = ((1 : ℝ) : EReal)).trans EReal.coe_one
  simp [Ideal.ofBits, Ideal.ieee, -EReal.coe_mul, -EReal.coe_one]; norm_num

/-- The table of cosines. -/
theorem tab_c (t : Fin 2048) (k : Fin 128) : (V m c main_v34 : Mat 2048 128) (ix2 t k) = tc (cs t) (k.val % 64) := by
  show (StableHlo.after hostOps0 (fun b => m (c, b)) main_v34 : Mat 2048 128) (ix2 t k) = _
  after_reads_at
  unfold tc
  by_cases h : k.val % 64 < 8
  · rw [dif_pos h, dif_pos h]
    unfold cs ang
    after_reads_at
  · by_cases h' : k.val % 64 < 16
    · have e : k.val % 64 - 8 < 8 := by omega
      rw [dif_neg h, dif_pos e, dif_neg h, dif_pos h']
      unfold cs ang
      after_reads_at
    · have e : ¬k.val % 64 - 8 < 8 := by omega
      rw [dif_neg h, dif_neg e, dif_neg h, dif_neg h']
      refine Eq.trans ?_ c_one
      after_reads_at
      done

/-- The first table of sines. -/
theorem tab_a (t : Fin 2048) (k : Fin 128) : (V m c main_v37 : Mat 2048 128) (ix2 t k) = ta (sn t) (k.val % 64) := by
  show (StableHlo.after hostOps0 (fun b => m (c, b)) main_v37 : Mat 2048 128) (ix2 t k) = _
  after_reads_at
  unfold ta
  by_cases h : k.val % 64 < 8
  · rw [dif_pos h, dif_pos h]
    unfold sn ang
    after_reads_at
  · rw [dif_neg h, dif_neg h]
    by_cases h' : k.val % 64 < 16
    · have e : k.val % 64 - 8 < 8 := by omega
      rw [dif_pos e]
      after_reads_at
      done
    · have e : ¬k.val % 64 - 8 < 8 := by omega
      rw [dif_neg e]
      after_reads_at
      done

/-- The second table of sines. -/
theorem tab_b (t : Fin 2048) (k : Fin 128) : (V m c main_v40 : Mat 2048 128) (ix2 t k) = tb (sn t) (k.val % 64) := by
  show (StableHlo.after hostOps0 (fun b => m (c, b)) main_v40 : Mat 2048 128) (ix2 t k) = _
  after_reads_at
  unfold tb
  by_cases h : k.val % 64 < 8
  · have f : ¬(8 ≤ k.val % 64 ∧ k.val % 64 < 16) := by omega
    rw [dif_pos h, dif_neg f]
    after_reads_at
    done
  · by_cases h' : k.val % 64 < 16
    · have e : k.val % 64 - 8 < 8 := by omega
      have f : 8 ≤ k.val % 64 ∧ k.val % 64 < 16 := by omega
      rw [dif_neg h, dif_pos e, dif_pos f]
      unfold sn ang
      after_reads_at
    · have e : ¬k.val % 64 - 8 < 8 := by omega
      have f : ¬(8 ≤ k.val % 64 ∧ k.val % 64 < 16) := by omega
      rw [dif_neg h, dif_neg e, dif_neg f]
      after_reads_at
      done

/-! ### The blocks -/

/-- Where each window's block lies at each point. -/
theorem idx : ∀ t : Fin cfg0.N, (win0_0.index t 0 = 0 ∧ win0_1.index t 0 = t.val ∧ win0_1.index t 1 = 0)
    ∧ (win0_2.index t 0 = t.val ∧ win0_2.index t 1 = 2)
    ∧ (win0_3.index t 0 = t.val % 16 ∧ win0_3.index t 1 = 0)
    ∧ (win0_4.index t 0 = t.val % 16 ∧ win0_4.index t 1 = 0)
    ∧ (win0_5.index t 0 = t.val % 16 ∧ win0_5.index t 1 = 0)
    ∧ win0_6.index t 0 = 0 ∧ win0_6.index t 1 = 0 ∧ win0_7.index t 0 = 0 ∧ win0_7.index t 1 = 0
    ∧ ((grid0.coords t) 1).val = t.val % 16 :=
  (by decide +kernel : ∀ t : Fin grid0.N, (win0_0.index t 0 = 0 ∧ win0_1.index t 0 = t.val ∧ win0_1.index t 1 = 0)
    ∧ (win0_2.index t 0 = t.val ∧ win0_2.index t 1 = 2)
    ∧ (win0_3.index t 0 = t.val % 16 ∧ win0_3.index t 1 = 0)
    ∧ (win0_4.index t 0 = t.val % 16 ∧ win0_4.index t 1 = 0)
    ∧ (win0_5.index t 0 = t.val % 16 ∧ win0_5.index t 1 = 0)
    ∧ win0_6.index t 0 = 0 ∧ win0_6.index t 1 = 0 ∧ win0_7.index t 0 = 0 ∧ win0_7.index t 1 = 0
    ∧ ((grid0.coords t) 1).val = t.val % 16)

/-- The sequence of a point and its place in it. -/
abbrev bt (t : Fin cfg0.N) : Fin 4 := ⟨t.val / 16, by have : t.val < 64 := t.isLt; omega⟩
abbrev nt (t : Fin cfg0.N) : Fin 16 := ⟨t.val % 16, by omega⟩
/-- The row of the array that row `p` of point `t`'s block is. -/
abbrev row (t : Fin cfg0.N) (p : Fin 128) : Fin 8320 := ⟨t.val * 128 + p.val, by have : t.val < 64 := t.isLt; omega⟩

theorem block0 (t : Fin cfg0.N) (h : Fin 16) : (iblk m c 0 t : S16.Idx → EReal) (ix1 h) = aS m c (ix1 h) := by
  obtain ⟨⟨h0, _, _⟩, _⟩ := idx t
  show _ = (m ((c : Thread nD τ).loc main_arg3) : S16.Idx → EReal) (ix1 h)
  rw [← V_main_arg3 m c]
  refine congrArg (V m c main_arg3) (funext fun a => Fin.ext ?_)
  match a with
  | ⟨0, _⟩ => show win0_0.index t 0 * 16 + 1 * h.val = h.val; omega

theorem block1 (t : Fin cfg0.N) (p : Fin 128) (j : Fin 1024) : (X0_1 m c t : Mat 128 1024) (ix2 p j)
    = aA m c (ix2 (row t p) ⟨j.val, by omega⟩) := by
  obtain ⟨⟨_, h0, h1⟩, _⟩ := idx t
  show _ = (m ((c : Thread nD τ).loc main_arg0) : Mat 8320 1536) _
  rw [← V_main_arg0 m c]
  unfold X0_1 Pipeline.Window.fill
  rw [dif_pos (moved0_1 t _)]
  refine congrArg (V m c main_arg0) (Shape.idx_ext₂ ?_ ?_)
  · show win0_1.index t 0 * 128 + 1 * p.val = t.val * 128 + p.val; omega
  · show win0_1.index t 1 * 1024 + 1 * j.val = j.val; omega

theorem block2 (t : Fin cfg0.N) (p : Fin 128) (j : Fin 512) : (iblk m c 2 t : Mat 128 512) (ix2 p j)
    = aA m c (ix2 (row t p) ⟨1024 + j.val, by omega⟩) := by
  obtain ⟨_, ⟨h0, h1⟩, _⟩ := idx t
  show _ = (m ((c : Thread nD τ).loc main_arg0) : Mat 8320 1536) _
  rw [← V_main_arg0 m c]
  refine congrArg (V m c main_arg0) (Shape.idx_ext₂ ?_ ?_)
  · show win0_2.index t 0 * 128 + 1 * p.val = t.val * 128 + p.val; omega
  · show win0_2.index t 1 * 512 + 1 * j.val = 1024 + j.val; omega

/-- A point's blocks of the tables are its positions' tables. -/
theorem tabs (t : Fin cfg0.N) : Tab (fun p => cs (pos (nt t) p)) (fun p => sn (pos (nt t) p))
    (iblk m c 3 t : Mat 128 128) (iblk m c 4 t : Mat 128 128) (iblk m c 5 t : Mat 128 128) := by
  obtain ⟨_, _, ⟨c0, c1⟩, ⟨a0, a1⟩, ⟨b0, b1⟩, _⟩ := idx t
  refine ⟨fun p k => ?_, fun p k => ?_, fun p k => ?_⟩
  · refine Eq.trans ?_ (tab_c m c (pos (nt t) p) k)
    refine congrArg (V m c main_v34) (Shape.idx_ext₂ ?_ ?_)
    · show win0_3.index t 0 * 128 + 1 * p.val = t.val % 16 * 128 + p.val; omega
    · show win0_3.index t 1 * 128 + 1 * k.val = k.val; omega
  · refine Eq.trans ?_ (tab_a m c (pos (nt t) p) k)
    refine congrArg (V m c main_v37) (Shape.idx_ext₂ ?_ ?_)
    · show win0_4.index t 0 * 128 + 1 * p.val = t.val % 16 * 128 + p.val; omega
    · show win0_4.index t 1 * 128 + 1 * k.val = k.val; omega
  · refine Eq.trans ?_ (tab_b m c (pos (nt t) p) k)
    refine congrArg (V m c main_v40) (Shape.idx_ext₂ ?_ ?_)
    · show win0_5.index t 0 * 128 + 1 * p.val = t.val % 16 * 128 + p.val; omega
    · show win0_5.index t 1 * 128 + 1 * k.val = k.val; omega

theorem block6 (t : Fin cfg0.N) (k : Fin 1024) : (iblk m c 6 t : Mat 1 1024) (ix2 0 k)
    = Cert.AttnPromptRefIdeal.Places.gn (aQ m c) ⟨k.val % 64, by omega⟩ := by
  obtain ⟨_, _, _, _, _, h0, h1, _⟩ := idx t
  refine Eq.trans ?_ (gain_q m c k)
  refine congrArg (V m c main_v3) (Shape.idx_ext₂ ?_ ?_)
  · show win0_6.index t 0 * 1 + 1 * 0 = 0; omega
  · show win0_6.index t 1 * 1024 + 1 * k.val = k.val; omega

theorem block7 (t : Fin cfg0.N) (k : Fin 256) : (iblk m c 7 t : Mat 1 256) (ix2 0 k)
    = Cert.AttnPromptRefIdeal.Places.gn (aK m c) ⟨k.val % 64, by omega⟩ := by
  obtain ⟨_, _, _, _, _, _, _, h0, h1, _⟩ := idx t
  refine Eq.trans ?_ (gain_k m c k)
  refine congrArg (V m c main_v7) (Shape.idx_ext₂ ?_ ?_)
  · show win0_7.index t 0 * 1 + 1 * 0 = 0; omega
  · show win0_7.index t 1 * 256 + 1 * k.val = k.val; omega

end Cert.AttnPromptIdeal.Body

end
-- ==== Proof.AttnRefOut.lean ====
/-
  The prompt attention's reference, read at a place: the weights, the values, the caches.
-/
module

public import proofs.«01_k».proof.Proof.AttnRef

@[expose] public section

set_option maxRecDepth 16384

noncomputable section

namespace Cert.AttnPromptRefIdeal.Places

open Cert.AttnPromptRefIdeal Cert.AttnPromptRefIdeal.Read Cert.Shared Cert.Attn Idealize.ShloMosaic Idealize.ShloMosaic.TcCoe
open scoped BigOperators

variable (a : Mat 8320 1536) (gq gk : S64.Idx → EReal) (sk : S16.Idx → EReal)

theorem max_apply (b : Fin 4) (n : Fin 16) (h g : Fin 4) (p : Fin 128) :
    val_main_v147 (F := Ideal) a gq gk (ix5 b n h g p) = Finset.univ.fold max ⊥ (scores a gq gk b n h g p) := by
  have hs : ∀ j, val_main_v145 (F := Ideal) a gq gk (ix6 b n h g p j) = scores a gq gk b n h g p j := s_apply a gq gk b n h g p
  unfold val_main_v147
  generalize val_main_v145 (F := Ideal) a gq gk = y at hs ⊢
  rw [Ideal.maximumf_eq_max, Host.reduce_eq_fold_single _ _ _ _ (by decide), show val_main_cst_20 (F := Ideal) (Shape.Idx.first Gen.h_S_) = ⊥ from c_bot]
  refine Finset.fold_congr fun j _ => Eq.trans (congrArg y ?_) (hs j)
  exact funext fun q => Fin.ext (by match q with | ⟨0, _⟩ => rfl | ⟨1, _⟩ => rfl | ⟨2, _⟩ => rfl | ⟨3, _⟩ => rfl | ⟨4, _⟩ => rfl | ⟨5, _⟩ => rfl)

theorem sink_apply (b : Fin 4) (n : Fin 16) (h g : Fin 4) (p : Fin 128) :
    val_main_v149 (F := Ideal) sk (ix6 b n h g p 0) = sk (ix1 (qh h g)) := by
  pointwise [val_main_v149, val_main_v146]
theorem sink_apply' (b : Fin 4) (n : Fin 16) (h g : Fin 4) (p : Fin 128) :
    val_main_v156 (F := Ideal) sk (ix6 b n h g p 0) = sk (ix1 (qh h g)) := by
  pointwise [val_main_v156, val_main_v146]

theorem top_apply (b : Fin 4) (n : Fin 16) (h g : Fin 4) (p : Fin 128) :
    val_main_v150 (F := Ideal) a gq gk sk (ix6 b n h g p 0) = top (scores a gq gk b n h g p) (sk (ix1 (qh h g))) := by
  rw [val_main_v150_apply, val_main_v148_apply, sink_apply, show idx_main_v148 (ix6 b n h g p 0) = ix5 b n h g p from
    funext fun q => Fin.ext (by match q with | ⟨0, _⟩ => rfl | ⟨1, _⟩ => rfl | ⟨2, _⟩ => rfl | ⟨3, _⟩ => rfl | ⟨4, _⟩ => rfl), max_apply]
  rfl

theorem exp_apply (b : Fin 4) (n : Fin 16) (h g : Fin 4) (p : Fin 128) (j : Fin 256) :
    val_main_v153 (F := Ideal) a gq gk sk (ix6 b n h g p j)
      = Ideal.exp (scores a gq gk b n h g p j - top (scores a gq gk b n h g p) (sk (ix1 (qh h g)))) := by
  rw [← top_apply, ← s_apply]
  unfold val_main_v153 val_main_v152 val_main_v151
  generalize val_main_v145 (F := Ideal) a gq gk = y
  generalize val_main_v150 (F := Ideal) a gq gk sk = z
  pointwise

theorem sum_apply (b : Fin 4) (n : Fin 16) (h g : Fin 4) (p : Fin 128) : val_main_v154 (F := Ideal) a gq gk sk (ix5 b n h g p)
    = ∑ j, Ideal.exp (scores a gq gk b n h g p j - top (scores a gq gk b n h g p) (sk (ix1 (qh h g)))) := by
  have hs := exp_apply a gq gk sk b n h g p
  rw [val_main_v154_apply]
  generalize val_main_v153 (F := Ideal) a gq gk sk = y at hs ⊢
  rw [show val_main_cst_21 (F := Ideal) (Shape.Idx.first Gen.h_S_) = 0 by pointwise [val_main_cst_21], zero_add]
  refine Finset.sum_congr rfl fun j _ => Eq.trans (congrArg y ?_) (hs j)
  exact funext fun q => Fin.ext (by match q with | ⟨0, _⟩ => rfl | ⟨1, _⟩ => rfl | ⟨2, _⟩ => rfl | ⟨3, _⟩ => rfl | ⟨4, _⟩ => rfl | ⟨5, _⟩ => rfl)

theorem den_apply (b : Fin 4) (n : Fin 16) (h g : Fin 4) (p : Fin 128) :
    val_main_v159 (F := Ideal) a gq gk sk (ix6 b n h g p 0) = den (scores a gq gk b n h g p) (sk (ix1 (qh h g))) := by
  rw [val_main_v159_apply, val_main_v158_apply, val_main_v157_apply, val_main_v155_apply, sink_apply', top_apply,
    show idx_main_v155 (ix6 b n h g p 0) = ix5 b n h g p from
    funext fun q => Fin.ext (by match q with | ⟨0, _⟩ => rfl | ⟨1, _⟩ => rfl | ⟨2, _⟩ => rfl | ⟨3, _⟩ => rfl | ⟨4, _⟩ => rfl), sum_apply]
  rfl

/-- One place of the attention's value. -/
def O (b : Fin 4) (n : Fin 16) (h g : Fin 4) (p : Fin 128) (d : Fin 64) : EReal :=
  att (scores a gq gk b n h g p) (fun j => band (fun t => vrow a b t h d) n j) (sk (ix1 (qh h g)))

theorem o_apply (b : Fin 4) (n : Fin 16) (h g : Fin 4) (p : Fin 128) (d : Fin 64) :
    val_main_v162 (F := Ideal) a gq gk sk (ix6 b n h d g p) = O a gq gk sk b n h g p d := by
  unfold O att
  pointwise [val_main_v162, val_main_v161, val_main_v160, val_main_v153, val_main_v152, val_main_v151]
  simp only [s_apply, top_apply, den_apply, vband]
  exact Finset.sum_congr rfl fun x _ => mul_comm _ _

theorem out_apply (R : Fin 8192) (c : Fin 1024) : val_main_v170 (F := Ideal) a gq gk sk (ix2 R c)
    = O a gq gk sk ⟨R.val / 2048, by omega⟩ ⟨R.val % 2048 / 128, by omega⟩ ⟨c.val / 256, by omega⟩ ⟨c.val % 256 / 64, by omega⟩
        ⟨R.val % 128, by omega⟩ ⟨c.val % 64, by omega⟩ := by
  rw [← o_apply]
  pointwise [val_main_v170, val_main_v165, val_main_v164, val_main_v163]
  refine congrArg₂ (fun g p => val_main_v162 (F := Ideal) a gq gk sk (ix6 _ _ _ _ g p)) (Fin.ext ?_) (Fin.ext ?_)
  · show c.val / 64 % 4 = c.val % 256 / 64
    omega
  · show R.val % 2048 % 128 = R.val % 128
    omega

theorem kc_apply (b : Fin 4) (r : Fin 128) (c : Fin 256) : val_main_v167 (F := Ideal) a gk (ix3 b r c)
    = krow a gk b ⟨1920 + r.val, by omega⟩ ⟨c.val / 64, by omega⟩ ⟨c.val % 64, by omega⟩ := by
  pointwise [val_main_v167, val_main_v166, val_main_v100]
  rw [dif_neg (by omega), k_apply]
  exact congrArg (fun t => krow a gk b t _ _) (Fin.ext (by show 2048 + r.val - 128 = 1920 + r.val; omega))

theorem vc_apply (b : Fin 4) (r : Fin 128) (c : Fin 256) : val_main_v169 (F := Ideal) a (ix3 b r c)
    = vrow a b ⟨1920 + r.val, by omega⟩ ⟨c.val / 64, by omega⟩ ⟨c.val % 64, by omega⟩ := by
  pointwise [val_main_v169, val_main_v168, val_main_v102]
  rw [dif_neg (by omega), v_apply]
  exact congrArg (fun t => vrow a b t _ _) (Fin.ext (by show 2048 + r.val - 128 = 1920 + r.val; omega))

end Cert.AttnPromptRefIdeal.Places

end
-- ==== Proof.AttnStep.lean ====
/-
  What each point of the attention leaves, in the reference's words: its rows of the result, its keys and values for the next
  point, and, at a sequence's last point, the two caches.
-/
module

public import proofs.«01_k».proof.Proof.AttnHost
public import proofs.«01_k».proof.Proof.AttnRefOut

@[expose] public section

set_option maxRecDepth 16384

noncomputable section

namespace Cert.AttnPromptIdeal.Body

open Cert.AttnPromptIdeal Cert.AttnPromptIdeal.Gen Cert.Shared Cert.Attn Idealize.ShloMosaic Idealize.ShloMosaic.TcCoe Idealize.SL.Sem
open scoped BigOperators

open Cert.AttnPromptRefIdeal.Places (ang cs sn pos gn hd at_ qrow krow vrow band mk scores O qh ang_fin window_word)

variable (m : (b : Loc nD τ sig) → Buf (Elt Ideal) b) (c : Dev nD)

/-! ### The mask -/

theorem first_word : ∀ (n : Fin 16) (j : Fin 256), IntOp.ori (IntOp.cmpi CmpIPredicate.sge (BitVec.ofNat 32 j.val) 128#32)
    (IntOp.cmpi CmpIPredicate.sgt (BitVec.ofNat 32 n.val) 0#32) = BitVec.ofBool (decide (128 ≤ j.val ∨ 0 < n.val)) := by
  decide +kernel

theorem mask (n : Fin 16) (p : Fin 128) (j : Fin 256) : k0_pay27 (BitVec.ofNat 32 n.val) (ix2 p j) = mk n p j := by
  unfold mk
  rw [← Cert.AttnPromptRefIdeal.Places.and_word, ← window_word, ← first_word]
  pointwise [k0_pay27]
  rfl

/-! ### A point's own keys and values -/

theorem at_row (t : Fin cfg0.N) (r : Fin 128) : row t r = at_ (bt t) (pos (nt t) r) :=
  Fin.ext (by show t.val * 128 + r.val = t.val / 16 * 2048 + (t.val % 16 * 128 + r.val); omega)

theorem kn_own (t : Fin cfg0.N) (r : Fin 128) (h : Fin 4) {o : ℕ} (ho : o + 64 ≤ 256) (e : o = h.val * 64) :
    kn (fun p => cs (pos (nt t) p)) (fun p => sn (pos (nt t) p)) (gn (aK m c)) (iblk m c 2 t : Mat 128 512) o ho r
      = krow (aA m c) (aK m c) (bt t) (pos (nt t) r) h := by
  subst e
  unfold kn krow
  refine congrArg (nrm _ _ _) (funext fun d => ?_)
  rw [block2, at_row]
  exact congrArg (fun k => aA m c (ix2 _ k)) (Fin.ext (by show 1024 + (h.val * 64 + d.val) = 1024 + h.val * 64 + d.val; omega))

theorem v_own (t : Fin cfg0.N) (r : Fin 128) (k : Fin 256) : (iblk m c 2 t : Mat 128 512) (ix2 r ⟨256 + k.val, by omega⟩)
    = vrow (aA m c) (bt t) (pos (nt t) r) ⟨k.val / 64, by omega⟩ ⟨k.val % 64, by omega⟩ := by
  unfold vrow hd
  rw [block2, at_row]
  exact congrArg (fun k => aA m c (ix2 _ k)) (Fin.ext (by show 1024 + (256 + k.val) = 1280 + k.val / 64 * 64 + k.val % 64; omega))

/-- The keys a point leaves for the next. -/
theorem left_keys (t : Fin cfg0.N) (h1 : ¬t.val % 16 = 15) (r : Fin 128) (k : Fin 256) :
    (outsAt0 m c t.val t.isLt).2.2.2.1 (ix2 ⟨r.val, by omega⟩ k)
      = krow (aA m c) (aK m c) (bt t) (pos (nt t) r) ⟨k.val / 64, by omega⟩ ⟨k.val % 64, by omega⟩ := by
  rw [← kn_own m c t r ⟨k.val / 64, by omega⟩ (o := k.val / 64 * 64) (by omega) rfl]
  by_cases h0 : t.val % 16 = 0
  · rw [outsAt0_A m c t h0 h1]
    dsimp only
    exact keysA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      ((hcond0_0 t).mpr h0) (fun h => h1 ((hcond0_1 t).mp h))
      (iblk m c 0 t) (X0_1 m c t) (iblk m c 2 t) (iblk m c 3 t) (iblk m c 4 t) (iblk m c 5 t) (iblk m c 6 t) (iblk m c 7 t) (tabs m c t) (block7 m c t) r k
  · rw [outsAt0_B m c t h0 h1]
    dsimp only
    exact keysB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (fun h => h0 ((hcond0_0 t).mp h)) (fun h => h1 ((hcond0_1 t).mp h))
      (iblk m c 0 t) (X0_1 m c t) (iblk m c 2 t) (iblk m c 3 t) (iblk m c 4 t) (iblk m c 5 t) (iblk m c 6 t) (iblk m c 7 t) _ _ (tabs m c t) (block7 m c t) r k

/-- The values a point leaves for the next. -/
theorem left_vals (t : Fin cfg0.N) (h1 : ¬t.val % 16 = 15) (r : Fin 128) (k : Fin 256) :
    (outsAt0 m c t.val t.isLt).2.2.2.2 (ix2 ⟨r.val, by omega⟩ k)
      = vrow (aA m c) (bt t) (pos (nt t) r) ⟨k.val / 64, by omega⟩ ⟨k.val % 64, by omega⟩ := by
  rw [← v_own m c t r k]
  by_cases h0 : t.val % 16 = 0
  · rw [outsAt0_A m c t h0 h1]
    dsimp only
    exact valsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      ((hcond0_0 t).mpr h0) (fun h => h1 ((hcond0_1 t).mp h))
      (iblk m c 0 t) (X0_1 m c t) (iblk m c 2 t) (iblk m c 3 t) (iblk m c 4 t) (iblk m c 5 t) (iblk m c 6 t) (iblk m c 7 t) (tabs m c t) (block7 m c t) r k
  · rw [outsAt0_B m c t h0 h1]
    dsimp only
    exact valsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (fun h => h0 ((hcond0_0 t).mp h)) (fun h => h1 ((hcond0_1 t).mp h))
      (iblk m c 0 t) (X0_1 m c t) (iblk m c 2 t) (iblk m c 3 t) (iblk m c 4 t) (iblk m c 5 t) (iblk m c 6 t) (iblk m c 7 t) _ _ (tabs m c t) (block7 m c t) r k

/-! ### The band of keys and values a point reads -/

theorem band_first {n : Fin 16} (hn : n.val = 0) (f : Fin 2048 → EReal) (r : Fin 128) : band f n ⟨r.val, by omega⟩ = 0 :=
  dif_pos (by show n.val * 128 + r.val < 128; omega)

theorem keys_band (t : Fin cfg0.N) {old : Mat 256 256} (hold : ∀ (r : Fin 128) (k : Fin 256), old (ix2 ⟨r.val, by omega⟩ k)
      = band (fun s => krow (aA m c) (aK m c) (bt t) s ⟨k.val / 64, by omega⟩ ⟨k.val % 64, by omega⟩) (nt t) ⟨r.val, by omega⟩)
    (j k : Fin 256) : KG (fun p => cs (pos (nt t) p)) (fun p => sn (pos (nt t) p)) (gn (aK m c)) (iblk m c 2 t : Mat 128 512) old (ix2 j k)
      = band (fun s => krow (aA m c) (aK m c) (bt t) s ⟨k.val / 64, by omega⟩ ⟨k.val % 64, by omega⟩) (nt t) j := by
  unfold KG
  by_cases hj : j.val < 128
  · refine (dif_pos hj).trans ?_
    exact hold ⟨j.val, hj⟩ k
  · refine (dif_neg hj).trans ?_
    have e : ¬(nt t).val * 128 + j.val < 128 := by omega
    unfold band
    rw [dif_neg e]
    refine (congrFun (kn_own m c t ⟨j.val - 128, by omega⟩ ⟨k.val / 64, by omega⟩ _ rfl) _).trans ?_
    exact congrArg (fun s => krow (aA m c) (aK m c) (bt t) s _ _)
      (Fin.ext (by show (nt t).val * 128 + (j.val - 128) = (nt t).val * 128 + j.val - 128; omega))

theorem vals_band (t : Fin cfg0.N) {old : Mat 256 256} (hold : ∀ (r : Fin 128) (k : Fin 256), old (ix2 ⟨r.val, by omega⟩ k)
      = band (fun s => vrow (aA m c) (bt t) s ⟨k.val / 64, by omega⟩ ⟨k.val % 64, by omega⟩) (nt t) ⟨r.val, by omega⟩)
    (j k : Fin 256) : VG (iblk m c 2 t : Mat 128 512) old (ix2 j k)
      = band (fun s => vrow (aA m c) (bt t) s ⟨k.val / 64, by omega⟩ ⟨k.val % 64, by omega⟩) (nt t) j := by
  unfold VG
  by_cases hj : j.val < 128
  · refine (dif_pos hj).trans ?_
    exact hold ⟨j.val, hj⟩ k
  · refine (dif_neg hj).trans ?_
    have e : ¬(nt t).val * 128 + j.val < 128 := by omega
    unfold band
    rw [dif_neg e]
    refine (v_own m c t ⟨j.val - 128, by omega⟩ k).trans ?_
    exact congrArg (fun s => vrow (aA m c) (bt t) s _ _)
      (Fin.ext (by show (nt t).val * 128 + (j.val - 128) = (nt t).val * 128 + j.val - 128; omega))

/-- The point before, within a sequence. -/
abbrev before (t : Fin cfg0.N) : Fin cfg0.N := ⟨t.val - 1, lt_of_le_of_lt (Nat.sub_le ..) t.isLt⟩

theorem band_before (t : Fin cfg0.N) (h0 : ¬t.val % 16 = 0) (f : Fin 4 → Fin 2048 → EReal) (r : Fin 128) :
    f (bt (before t)) (pos (nt (before t)) r) = band (f (bt t)) (nt t) ⟨r.val, by omega⟩ := by
  have e : ¬(nt t).val * 128 + r.val < 128 := by show ¬t.val % 16 * 128 + r.val < 128; omega
  unfold band
  refine Eq.trans ?_ (dif_neg e).symm
  exact congrArg₂ f (Fin.ext (by show (t.val - 1) / 16 = t.val / 16; omega))
    (Fin.ext (by show (t.val - 1) % 16 * 128 + r.val = t.val % 16 * 128 + r.val - 128; omega))

theorem kept_keys (t : Fin cfg0.N) (h0 : ¬t.val % 16 = 0) (r : Fin 128) (k : Fin 256) :
    (outsAt0 m c (t.val - 1) (before t).isLt).2.2.2.1 (ix2 ⟨r.val, by omega⟩ k)
      = band (fun s => krow (aA m c) (aK m c) (bt t) s ⟨k.val / 64, by omega⟩ ⟨k.val % 64, by omega⟩) (nt t) ⟨r.val, by omega⟩ :=
  (left_keys m c (before t) (by show ¬(t.val - 1) % 16 = 15; omega) r k).trans
    (band_before t h0 (fun b s => krow (aA m c) (aK m c) b s ⟨k.val / 64, by omega⟩ ⟨k.val % 64, by omega⟩) r)

theorem kept_vals (t : Fin cfg0.N) (h0 : ¬t.val % 16 = 0) (r : Fin 128) (k : Fin 256) :
    (outsAt0 m c (t.val - 1) (before t).isLt).2.2.2.2 (ix2 ⟨r.val, by omega⟩ k)
      = band (fun s => vrow (aA m c) (bt t) s ⟨k.val / 64, by omega⟩ ⟨k.val % 64, by omega⟩) (nt t) ⟨r.val, by omega⟩ :=
  (left_vals m c (before t) (by show ¬(t.val - 1) % 16 = 15; omega) r k).trans
    (band_before t h0 (fun b s => vrow (aA m c) b s ⟨k.val / 64, by omega⟩ ⟨k.val % 64, by omega⟩) r)

/-! ### The rows of the result -/

/-- No entry of the gains is infinite, and no sink is infinity. -/
structure Finite : Prop where
  hQ : ∀ i, Fin' (aQ m c i)
  hK : ∀ i, Fin' (aK m c i)
  hS : ∀ i, aS m c i ≠ ⊤

variable {m c}

theorem q_fin (hf : Finite m c) (b : Fin 4) (s : Fin 2048) (h : Fin 16) (d : Fin 64) : Fin' (qrow (aA m c) (aQ m c) b s h d) :=
  Fin'.nrm (fun k => (ang_fin s k).cos) (fun k => (ang_fin s k).sin) (fun _ => hf.hQ _) d

theorem k_fin (hf : Finite m c) (b : Fin 4) (s : Fin 2048) (h : Fin 4) (d : Fin 64) : Fin' (krow (aA m c) (aK m c) b s h d) :=
  Fin'.nrm (fun k => (ang_fin s k).cos) (fun k => (ang_fin s k).sin) (fun _ => hf.hK _) d

theorem band_fin {f : Fin 2048 → EReal} (hf : ∀ s, Fin' (f s)) (n : Fin 16) (j : Fin 256) : Fin' (band f n j) := by
  unfold band
  split
  · exact Fin'.zero
  · exact hf _

theorem score_ne_top (hf : Finite m c) (b : Fin 4) (n : Fin 16) (h g : Fin 4) (p : Fin 128) (j : Fin 256) :
    scores (aA m c) (aQ m c) (aK m c) b n h g p j ≠ ⊤ :=
  sc_ne_top (fun _ => q_fin hf ..) (fun _ _ => band_fin (fun _ => k_fin hf ..) ..) j

/-- The newest key of a row's window is never masked. -/
theorem score_fin (hf : Finite m c) (b : Fin 4) (n : Fin 16) (h g : Fin 4) (p : Fin 128) :
    Fin' (scores (aA m c) (aQ m c) (aK m c) b n h g p ⟨p.val + 128, by omega⟩) := by
  refine sc_fin (fun _ => q_fin hf ..) (fun _ _ => band_fin (fun _ => k_fin hf ..) ..) ?_
  unfold mk
  rw [decide_eq_true ⟨⟨by show p.val < p.val + 128; omega, by show p.val + 128 ≤ p.val + 128; omega⟩,
    Or.inl (by show 128 ≤ p.val + 128; omega)⟩]
  rfl

/-- One entry of a point's rows, from the band of keys and values. -/
theorem point_value (hf : Finite m c) (t : Fin cfg0.N) (KB VB : Mat 256 256)
    (hK : ∀ j k : Fin 256, KB (ix2 j k)
      = band (fun s => krow (aA m c) (aK m c) (bt t) s ⟨k.val / 64, by omega⟩ ⟨k.val % 64, by omega⟩) (nt t) j)
    (hV : ∀ j k : Fin 256, VB (ix2 j k)
      = band (fun s => vrow (aA m c) (bt t) s ⟨k.val / 64, by omega⟩ ⟨k.val % 64, by omega⟩) (nt t) j)
    (p : Fin 128) (k : Fin 1024) :
    H (k0_pay27 (BitVec.ofNat 32 ((grid0.coords t) 1).val)) (k0_pay12 (F := Ideal) (X0_1 m c t : Mat 128 1024) (iblk m c 3 t) (iblk m c 4 t) (iblk m c 5 t)
        (iblk m c 6 t)) (X0_1 m c t : Mat 128 1024) KB VB (iblk m c 0 t : S16.Idx → EReal) (ix2 p k)
      = O (aA m c) (aQ m c) (aK m c) (aS m c) (bt t) (nt t) ⟨k.val / 256, by omega⟩ ⟨k.val % 256 / 64, by omega⟩ p ⟨k.val % 64, by omega⟩ := by
  have ew : BitVec.ofNat 32 ((grid0.coords t) 1).val = BitVec.ofNat 32 (nt t).val :=
    congrArg (BitVec.ofNat 32) (idx t).2.2.2.2.2.2.2.2.2
  rw [ew]
  refine (H_at _ _ _ _ _ _ (y := ix2 p k) (x := ix2 p ⟨k.val % 64, by omega⟩) (o := k.val / 64 * 64) rfl
    (by show k.val = k.val / 64 * 64 + k.val % 64; omega) (by omega) (by omega)).trans ?_
  have hx : (fun e : Fin 64 => (X0_1 m c t : Mat 128 1024) (ix2 p ⟨k.val / 64 * 64 + e.val, by omega⟩))
      = hd (aA m c) (at_ (bt t) (pos (nt t) p)) ((qh ⟨k.val / 256, by omega⟩ ⟨k.val % 256 / 64, by omega⟩).val * 64) (by omega) := by
    funext e
    rw [block1, at_row]
    exact congrArg (fun k => aA m c (ix2 _ k))
      (Fin.ext (by show k.val / 64 * 64 + e.val = (k.val / 256 * 4 + k.val % 256 / 64) * 64 + e.val; omega))
  have hs : (fun j => Scalar.select (k0_pay27 (BitVec.ofNat 32 (nt t).val) (ix2 p j))
        (∑ e : Fin 64, k0_pay12 (F := Ideal) (X0_1 m c t : Mat 128 1024) (iblk m c 3 t) (iblk m c 4 t) (iblk m c 5 t) (iblk m c 6 t)
            (ix2 p ⟨k.val / 64 * 64 + e.val, by omega⟩)
          * (rsd (fun e : Fin 64 => (X0_1 m c t : Mat 128 1024) (ix2 p ⟨k.val / 64 * 64 + e.val, by omega⟩)) * Ideal.ofBits FTy.f32 1040187392#32)
          * lane KB (k.val / 64 * 64 / 256 * 64) (by omega) (ix2 j e)) ⊥)
      = scores (aA m c) (aQ m c) (aK m c) (bt t) (nt t) ⟨k.val / 256, by omega⟩ ⟨k.val % 256 / 64, by omega⟩ p := by
    funext j
    rw [mask]
    refine Eq.trans ?_ (sc_scaled _ _ _ _ _ _ j)
    refine congrArg (fun s => Scalar.select _ s ⊥) (Finset.sum_congr rfl fun e _ => ?_)
    rw [q_rot (tabs m c t) _ _ _ (block6 m c t) p (k.val / 64 * 64) (by omega) (by omega) e, hx]
    refine congrArg₂ (· * ·) (congrArg (· * _) (congrArg (fun y => rot _ _ y e) (funext fun d => ?_))) ?_
    · exact congrArg (· * _) (congrFun hx d)
    · refine (hK ..).trans ?_
      refine congrArg (fun f => band f (nt t) j) (funext fun s => congrArg₂ (krow _ _ _ s) (Fin.ext ?_) (Fin.ext ?_))
      · show (k.val / 64 * 64 / 256 * 64 + e.val) / 64 = k.val / 256
        omega
      · show (k.val / 64 * 64 / 256 * 64 + e.val) % 64 = e.val
        omega
  have hv' : (fun j => lane VB (k.val / 64 * 64 / 256 * 64) (by omega) (ix2 j ⟨k.val % 64, by omega⟩))
      = fun j => band (fun s => vrow (aA m c) (bt t) s ⟨k.val / 256, by omega⟩ ⟨k.val % 64, by omega⟩) (nt t) j := by
    funext j
    refine (hV ..).trans ?_
    refine congrArg (fun f => band f (nt t) j) (funext fun s => congrArg₂ (vrow _ _ s) (Fin.ext ?_) (Fin.ext ?_))
    · show (k.val / 64 * 64 / 256 * 64 + k.val % 64) / 64 = k.val / 256
      omega
    · show (k.val / 64 * 64 / 256 * 64 + k.val % 64) % 64 = k.val % 64
      omega
  have hk : (iblk m c 0 t : S16.Idx → EReal) (ix1 ⟨k.val / 64 * 64 / 64, by omega⟩)
      = aS m c (ix1 (qh ⟨k.val / 256, by omega⟩ ⟨k.val % 256 / 64, by omega⟩)) := by
    rw [block0]
    exact congrArg (fun h => aS m c (ix1 h)) (Fin.ext (by show k.val / 64 * 64 / 64 = k.val / 256 * 4 + k.val % 256 / 64; omega))
  unfold O
  refine Eq.trans ?_ (attK_eq (den_ne_zero (fun j => score_ne_top hf _ _ _ _ _ j) (hf.hS _) (score_fin hf ..)))
  rw [← hs, ← hv', ← hk]
  rfl

/-- The rows of the result a point leaves. -/
theorem point_rows (hf : Finite m c) (t : Fin cfg0.N) (p : Fin 128) (k : Fin 1024) : (outsAt0 m c t.val t.isLt).1 (ix2 p k)
    = O (aA m c) (aQ m c) (aK m c) (aS m c) (bt t) (nt t) ⟨k.val / 256, by omega⟩ ⟨k.val % 256 / 64, by omega⟩ p ⟨k.val % 64, by omega⟩ := by
  by_cases h0 : t.val % 16 = 0
  · have h1 : ¬t.val % 16 = 15 := by omega
    rw [outsAt0_A m c t h0 h1]
    dsimp only
    refine (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      ((hcond0_0 t).mpr h0) (fun h => h1 ((hcond0_1 t).mp h))
      (iblk m c 0 t) (X0_1 m c t) (iblk m c 2 t) (iblk m c 3 t) (iblk m c 4 t) (iblk m c 5 t) (iblk m c 6 t) (iblk m c 7 t) (tabs m c t) (block7 m c t) (ix2 p k)).trans ?_
    exact point_value hf t _ _ (keys_band m c t fun r k => (band_first h0 _ r).symm) (vals_band m c t fun r k => (band_first h0 _ r).symm) p k
  · by_cases h1 : t.val % 16 = 15
    · rw [outsAt0_C m c t h0 h1]
      dsimp only
      refine (outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (fun h => h0 ((hcond0_0 t).mp h)) ((hcond0_1 t).mpr h1)
      (iblk m c 0 t) (X0_1 m c t) (iblk m c 2 t) (iblk m c 3 t) (iblk m c 4 t) (iblk m c 5 t) (iblk m c 6 t) (iblk m c 7 t) _ _ (tabs m c t) (block7 m c t) (ix2 p k)).trans ?_
      exact point_value hf t _ _ (keys_band m c t (kept_keys m c t h0)) (vals_band m c t (kept_vals m c t h0)) p k
    · rw [outsAt0_B m c t h0 h1]
      dsimp only
      refine (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (fun h => h0 ((hcond0_0 t).mp h)) (fun h => h1 ((hcond0_1 t).mp h))
      (iblk m c 0 t) (X0_1 m c t) (iblk m c 2 t) (iblk m c 3 t) (iblk m c 4 t) (iblk m c 5 t) (iblk m c 6 t) (iblk m c 7 t) _ _ (tabs m c t) (block7 m c t) (ix2 p k)).trans ?_
      exact point_value hf t _ _ (keys_band m c t (kept_keys m c t h0)) (vals_band m c t (kept_vals m c t h0)) p k

/-! ### The caches -/

variable (m c)

theorem point_cache_k (t : Fin cfg0.N) (h1 : t.val % 16 = 15) (r : Fin 128) (k : Fin 256) :
    (outsAt0 m c t.val t.isLt).2.1 (ix3 0 r k)
      = krow (aA m c) (aK m c) (bt t) (pos (nt t) r) ⟨k.val / 64, by omega⟩ ⟨k.val % 64, by omega⟩ := by
  rw [← kn_own m c t r ⟨k.val / 64, by omega⟩ (o := k.val / 64 * 64) (by omega) rfl]
  have h0 : ¬t.val % 16 = 0 := by omega
  rw [outsAt0_C m c t h0 h1]
  dsimp only
  exact cacheK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (fun h => h0 ((hcond0_0 t).mp h)) ((hcond0_1 t).mpr h1)
      (iblk m c 0 t) (X0_1 m c t) (iblk m c 2 t) (iblk m c 3 t) (iblk m c 4 t) (iblk m c 5 t) (iblk m c 6 t) (iblk m c 7 t) _ _ (tabs m c t) (block7 m c t) r k

theorem point_cache_v (t : Fin cfg0.N) (h1 : t.val % 16 = 15) (r : Fin 128) (k : Fin 256) :
    (outsAt0 m c t.val t.isLt).2.2.1 (ix3 0 r k)
      = vrow (aA m c) (bt t) (pos (nt t) r) ⟨k.val / 64, by omega⟩ ⟨k.val % 64, by omega⟩ := by
  rw [← v_own m c t r k]
  have h0 : ¬t.val % 16 = 0 := by omega
  rw [outsAt0_C m c t h0 h1]
  dsimp only
  exact cacheV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (fun h => h0 ((hcond0_0 t).mp h)) ((hcond0_1 t).mpr h1)
      (iblk m c 0 t) (X0_1 m c t) (iblk m c 2 t) (iblk m c 3 t) (iblk m c 4 t) (iblk m c 5 t) (iblk m c 6 t) (iblk m c 7 t) _ _ (tabs m c t) (block7 m c t) r k

end Cert.AttnPromptIdeal.Body

end
-- ==== Proof.AttnPromptValue.lean ====
/-
  The prompt's window attention computes the reference's three results: the rows of the result, and the caches of keys and
  values of the last window.
-/
module

public import proofs.«01_k».proof.Proof.Gen.AttnPromptIdeal.Value
public import proofs.«01_k».proof.Proof.Gen.AttnPromptRefIdeal.Read
public import proofs.«01_k».proof.Proof.Gen.AttnPromptRefIdeal.Run
public import proofs.«01_k».proof.Proof.Gen.Pre_prompt_finite
public import proofs.«01_k».proof.Proof.AttnStep
public import proofs.«01_k».proof.Proof.Shared
public import proofs.«01_k».proof.Defs

@[expose] public section

set_option maxRecDepth 16384

noncomputable section

namespace Cert.AttnPromptIdeal.RefValue

open Cert.AttnPromptIdeal Cert.AttnPromptIdeal.Gen Cert.Shared Cert.Attn Cert.AttnPromptIdeal.Body Idealize.ShloMosaic Idealize.ShloMosaic.TcCoe Idealize.SL.Sem
open Cert.AttnPromptRefIdeal.Read (val_main_v167 val_main_v169 val_main_v170)
open Cert.AttnPromptRefIdeal.Places (out_apply kc_apply vc_apply pos krow vrow O)
open scoped BigOperators

variable (m : (b : Loc nD τ sig) → Buf (Elt Ideal) b)

/-! ### No entry is infinite -/

/-- A number whose size is less than infinity is a real. -/
theorem real_of_lt {x : EReal} (h : FloatOps.cmpf (F := Ideal) (φ := .f32) CmpFPredicate.olt (max x (-x))
    (Ideal.ofBits FTy.f32 2139095040#32) = 1#1) : Fin' x := by
  rw [c_top] at h
  have h' : max x (-x) < ⊤ := by
    by_contra hn
    have e : FloatOps.cmpf (F := Ideal) (φ := .f32) CmpFPredicate.olt (max x (-x)) ⊤ = BitVec.ofBool (decide (max x (-x) < ⊤)) := rfl
    rw [e, decide_eq_false hn] at h
    exact absurd h (by decide)
  induction x with
  | bot => exact absurd h' (by simp)
  | coe r => exact ⟨r, rfl⟩
  | top => exact absurd h' (by simp)

/-- A number less than infinity is not infinity. -/
theorem ne_top_of_lt {x : EReal} (h : FloatOps.cmpf (F := Ideal) (φ := .f32) CmpFPredicate.olt x
    (Ideal.ofBits FTy.f32 2139095040#32) = 1#1) : x ≠ ⊤ := by
  rintro rfl
  rw [c_top] at h
  have e : FloatOps.cmpf (F := Ideal) (φ := .f32) CmpFPredicate.olt ⊤ ⊤ = BitVec.ofBool (decide ((⊤ : EReal) < ⊤)) := rfl
  rw [e, decide_eq_false (lt_irrefl _)] at h
  exact absurd h (by decide)

theorem finite (h : Pre_AttnPromptIdeal_prompt_finite m) (c : Dev nD) : Finite m c := by
  obtain ⟨h1, h2, h3⟩ := h c
  exact ⟨fun i => real_of_lt (congrFun h1 i), fun i => real_of_lt (congrFun h2 i), fun i => ne_top_of_lt (congrFun h3 i)⟩

/-! ### The three results -/

/-- The reference's three results, of the call's arrays. -/
abbrev R0 (c : Dev nD) : Buf (Elt Ideal) ((c : Thread nD τ).loc main_v41_0) :=
  val_main_v170 (F := Ideal) (aA m c) (aQ m c) (aK m c) (aS m c)
abbrev R1 (c : Dev nD) : Buf (Elt Ideal) ((c : Thread nD τ).loc main_v41_1) := val_main_v167 (F := Ideal) (aA m c) (aK m c)
abbrev R2 (c : Dev nD) : Buf (Elt Ideal) ((c : Thread nD τ).loc main_v41_2) := val_main_v169 (F := Ideal) (aA m c)

theorem rows_eq (c : Dev nD) (hf : Finite m c) : Value.G8 m c = R0 m c := by
  funext (i : S8192x1024.Idx)
  idx_vars i
  have hN : cfg0.N = 64 := N_0
  have hp : Value.pt8Of (ix2 i0 i1) = i0.val / 128 := by
    show 1 * (i0.val / 128 - 0) + 1 * (i1.val / 1024 - 0) = _; omega
  have h : Value.pt8Of (ix2 i0 i1) < cfg0.N := by rw [hp]; omega
  unfold Value.G8
  refine (dif_pos h).trans ?_
  rw [← Value.outsAt0_sweep m c _ h]
  refine (congrArg (outsAt0 m c _ h).1 (Shape.idx_ext₂ (x := Value.loc8Of (ix2 i0 i1)) (y := ix2 ⟨i0.val % 128, by omega⟩ i1) rfl ?_)).trans
    ((point_rows hf ⟨_, h⟩ ⟨i0.val % 128, by omega⟩ i1).trans ?_)
  · show i1.val % 1024 = i1.val
    omega
  · refine Eq.trans ?_ (out_apply (aA m c) (aQ m c) (aK m c) (aS m c) i0 i1).symm
    refine congrArg₂ (fun b n => O (aA m c) (aQ m c) (aK m c) (aS m c) b n _ _ _ _) (Fin.ext ?_) (Fin.ext ?_)
    · show Value.pt8Of (ix2 i0 i1) / 16 = i0.val / 2048
      rw [hp]; omega
    · show Value.pt8Of (ix2 i0 i1) % 16 = i0.val % 2048 / 128
      rw [hp]; omega

theorem keys_eq (c : Dev nD) : Value.G9 m c = R1 m c := by
  funext (i : S4x128x256.Idx)
  idx_vars i
  have hN : cfg0.N = 64 := N_0
  have hp : Value.pt9Of (ix3 i0 i1 i2) = 16 * i0.val + 15 := by
    show 16 * (1 * (i0.val / 1 - 0) + 1 * (i1.val / 128 - 0) + 1 * (i2.val / 256 - 0)) + 15 = _; omega
  have h : Value.pt9Of (ix3 i0 i1 i2) < cfg0.N := by rw [hp]; omega
  unfold Value.G9
  refine (dif_pos h).trans ?_
  rw [← Value.outsAt0_sweep m c _ h]
  refine (congrArg (outsAt0 m c _ h).2.1 (funext fun a => Fin.ext ?_ : _ = ix3 0 i1 i2)).trans
    ((point_cache_k m c ⟨_, h⟩ (by show Value.pt9Of (ix3 i0 i1 i2) % 16 = 15; rw [hp]; omega) i1 i2).trans ?_)
  · match a with
    | ⟨0, _⟩ => show i0.val % 1 = 0; omega
    | ⟨1, _⟩ => show i1.val % 128 = i1.val; omega
    | ⟨2, _⟩ => show i2.val % 256 = i2.val; omega
  · refine Eq.trans ?_ (kc_apply (aA m c) (aK m c) i0 i1 i2).symm
    refine congrArg₂ (fun b t => krow (aA m c) (aK m c) b t _ _) (Fin.ext ?_) (Fin.ext ?_)
    · show Value.pt9Of (ix3 i0 i1 i2) / 16 = i0.val
      rw [hp]; omega
    · show Value.pt9Of (ix3 i0 i1 i2) % 16 * 128 + i1.val = 1920 + i1.val
      rw [hp]; omega

theorem vals_eq (c : Dev nD) : Value.G10 m c = R2 m c := by
  funext (i : S4x128x256.Idx)
  idx_vars i
  have hN : cfg0.N = 64 := N_0
  have hp : Value.pt10Of (ix3 i0 i1 i2) = 16 * i0.val + 15 := by
    show 16 * (1 * (i0.val / 1 - 0) + 1 * (i1.val / 128 - 0) + 1 * (i2.val / 256 - 0)) + 15 = _; omega
  have h : Value.pt10Of (ix3 i0 i1 i2) < cfg0.N := by rw [hp]; omega
  unfold Value.G10
  refine (dif_pos h).trans ?_
  rw [← Value.outsAt0_sweep m c _ h]
  refine (congrArg (outsAt0 m c _ h).2.2.1 (funext fun a => Fin.ext ?_ : _ = ix3 0 i1 i2)).trans
    ((point_cache_v m c ⟨_, h⟩ (by show Value.pt10Of (ix3 i0 i1 i2) % 16 = 15; rw [hp]; omega) i1 i2).trans ?_)
  · match a with
    | ⟨0, _⟩ => show i0.val % 1 = 0; omega
    | ⟨1, _⟩ => show i1.val % 128 = i1.val; omega
    | ⟨2, _⟩ => show i2.val % 256 = i2.val; omega
  · refine Eq.trans ?_ (vc_apply (aA m c) i0 i1 i2).symm
    refine congrArg₂ (fun b t => vrow (aA m c) b t _ _) (Fin.ext ?_) (Fin.ext ?_)
    · show Value.pt10Of (ix3 i0 i1 i2) / 16 = i0.val
      rw [hp]; omega
    · show Value.pt10Of (ix3 i0 i1 i2) % 16 * 128 + i1.val = 1920 + i1.val
      rw [hp]; omega

/-- The prompt's window attention computes the reference's three results, where no gain is infinite and no sink is
    infinity. -/
theorem algebraic : algebraic_AttnPromptIdeal_AttnPromptRefIdeal_pre_prompt_finite :=
  fun m ρ m' ρ' hpre hag => ⟨R0 m, R1 m, R2 m,
    (θ_run _ _ _).mono (fun _ h c => ⟨(h c).1.trans (rows_eq m c (finite m hpre c)), (h c).2.1.trans (keys_eq m c),
      (h c).2.2.1.trans (vals_eq m c), (h c).2.2.2⟩) (Value.run m ρ),
    (θ_run _ _ _).mono (fun _ h c => ⟨(h c).1.trans ((show _ = val_main_v170 (F := Ideal) _ _ _ _ from rfl).trans
        (congr (congr (congrArg₂ (val_main_v170 (F := Ideal)) (hag c).1 (hag c).2.1) (hag c).2.2.1) (hag c).2.2.2)),
      (h c).2.1.trans ((show _ = val_main_v167 (F := Ideal) _ _ from rfl).trans
        (congrArg₂ (val_main_v167 (F := Ideal)) (hag c).1 (hag c).2.2.1)),
      (h c).2.2.1.trans ((show _ = val_main_v169 (F := Ideal) _ from rfl).trans (congrArg (val_main_v169 (F := Ideal)) (hag c).1)),
      (h c).2.2.2⟩) (Cert.AttnPromptRefIdeal.Value.run m' ρ')⟩

end Cert.AttnPromptIdeal.RefValue

end
-- ==== Proof.SampleBody.lean ====
/-
  What one point of the samples' attention leaves in its two caches: the two buffers of keys and values hold the older cache
  in their first 128 rows, the sample's own rows after it, zeros after those; the caches are the buffers' rows from the
  fourth on.
-/
module

public import proofs.«01_k».proof.Proof.Gen.AttnSampleIdeal.Value
public import proofs.«01_k».proof.Proof.AttnScr
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AttnSampleIdeal.Body

open Cert.AttnSampleIdeal Cert.AttnSampleIdeal.Gen Cert.Shared Cert.Attn Idealize.ShloMosaic Idealize.ShloMosaic.TcCoe
open Cert.AttnPromptIdeal.Body (tc ta tb twice)
open scoped BigOperators

/-- Three blocks that hold the tables of the sixteen rows, two heads wide. -/
structure Tab (cs sn : Fin 16 → Fin 8 → EReal) (C A B : Mat 16 128) : Prop where
  hc : ∀ p c, C (ix2 p c) = tc (cs p) (c.val % 64)
  ha : ∀ p c, A (ix2 p c) = ta (sn p) (c.val % 64)
  hb : ∀ p c, B (ix2 p c) = tb (sn p) (c.val % 64)

variable {cs sn : Fin 16 → Fin 8 → EReal} {C A B : Mat 16 128} {X : S1x16x1536.Idx → EReal} {g : Mat 1 256} {gk : Row}
  {W : S1x128x256.Idx → EReal}

/-- A rotated key head, before it is normalised. -/
theorem k_rot (ht : Tab cs sn C A B) (hg : ∀ c : Fin 256, g (ix2 0 c) = gk ⟨c.val % 64, by omega⟩) (p : Fin 16) (o : ℕ)
    (hm : o % 64 = 0) (ho : o + 64 ≤ 256) (e : Fin 64) :
    k0_pay11 (F := Ideal) X C A B g (ix2 p ⟨o + e.val, by omega⟩)
      = rot (cs p) (sn p) (fun d => X (ix3 0 p ⟨1024 + (o + d.val), by omega⟩) * gk d) e := by
  pointwise [k0_pay11, k0_pay5, k0_pay3, k0_pay7, k0_pay8, k0_pay9]
  simp only [ht.hc, ht.ha, ht.hb, dite_eq_ite]
  rw [twice (tc (cs p)), twice (ta (sn p)), twice (tb (sn p))]
  have hd : (o + e.val) % 64 = e.val := by omega
  rw [hd]
  have hr : ∀ {c : Fin 256} {d : Fin 64} (hc : 1024 + c.val < 1536), c.val = o + d.val →
      X (ix3 0 p ⟨1024 + c.val, hc⟩) * g (ix2 0 c) = X (ix3 0 p ⟨1024 + (o + d.val), by omega⟩) * gk d := by
    intro c d hc h
    have : (⟨1024 + c.val, hc⟩ : Fin 1536) = ⟨1024 + (o + d.val), by omega⟩ := Fin.ext (congrArg (1024 + ·) h)
    rw [hg, this]
    exact congrArg (fun z => _ * gk z) (Fin.ext (by show c.val % 64 = d.val; omega))
  rw [hr (c := ⟨o + e.val, by omega⟩) (d := e) (by show 1024 + (o + e.val) < 1536; omega) rfl]
  exact rot_tables (cs p) (sn p) (fun d => X (ix3 0 p ⟨1024 + (o + d.val), by omega⟩) * gk d) e
    (fun h => hr (c := ⟨(o + e.val + 256 - 248) % 256, by omega⟩) (d := ⟨e.val + 8, by omega⟩)
      (by show 1024 + (o + e.val + 256 - 248) % 256 < 1536; omega) (by show (o + e.val + 256 - 248) % 256 = o + (e.val + 8); omega))
    (fun h => hr (c := ⟨(o + e.val + 256 - 8) % 256, by omega⟩) (d := ⟨e.val - 8, by omega⟩)
      (by show 1024 + (o + e.val + 256 - 8) % 256 < 1536; omega) (by show (o + e.val + 256 - 8) % 256 = o + (e.val - 8); omega)) rfl rfl rfl

/-- A key head of the sample's own rows, the one whose columns begin at `o`. -/
def kn (cs sn : Fin 16 → Fin 8 → EReal) (gk : Row) (X : S1x16x1536.Idx → EReal) (o : ℕ) (ho : o + 64 ≤ 256) (p : Fin 16) : Row :=
  nrm (cs p) (sn p) gk fun d => X (ix3 0 p ⟨1024 + (o + d.val), by omega⟩)

/-- The buffer of keys after a point's stores. -/
def KG (cs sn : Fin 16 → Fin 8 → EReal) (gk : Row) (X : S1x16x1536.Idx → EReal) (W : S1x128x256.Idx → EReal) (y : S256x256.Idx) : EReal :=
  if h : (y 0).val < 128 then W (ix3 0 ⟨(y 0).val, h⟩ (y 1))
  else if h' : (y 0).val < 144 then kn cs sn gk X ((y 1).val / 64 * 64) (by have : (y 1).val < 256 := (y 1).isLt; omega)
    ⟨(y 0).val - 128, by omega⟩ ⟨(y 1).val % 64, by omega⟩
  else 0

/-- The buffer of values after a point's stores. -/
def VG (X : S1x16x1536.Idx → EReal) (W : S1x128x256.Idx → EReal) (y : S256x256.Idx) : EReal :=
  if h : (y 0).val < 128 then W (ix3 0 ⟨(y 0).val, h⟩ (y 1))
  else if h' : (y 0).val < 144 then X (ix3 0 ⟨(y 0).val - 128, by omega⟩ ⟨1280 + (y 1).val, by have : (y 1).val < 256 := (y 1).isLt; omega⟩)
  else 0

theorem KG_at {y : S256x256.Idx} {x : S16x64.Idx} {o : ℕ} (h0 : (y 0).val = 128 + (x 0).val)
    (h1 : (y 1).val = o + (x 1).val) (hm : o % 64 = 0) (ho : o + 64 ≤ 256) :
    KG cs sn gk X W y = kn cs sn gk X o ho (x 0) (x 1) := by
  have hx : (x 1).val < 64 := (x 1).isLt
  have hx0 : (x 0).val < 16 := (x 0).isLt
  have e : (y 1).val / 64 * 64 = o := by omega
  have d : (⟨(y 1).val % 64, by omega⟩ : Fin 64) = x 1 := Fin.ext (by show (y 1).val % 64 = (x 1).val; omega)
  have r : (⟨(y 0).val - 128, by omega⟩ : Fin 16) = x 0 :=
    Fin.ext (by show (y 0).val - 128 = (x 0).val; omega)
  unfold KG
  rw [dif_neg (by omega), dif_pos (by omega), d, r]
  congr 1

/-- The stores of keys, the last one first. -/
abbrev ks (C A B : Mat 16 128) (X : S1x16x1536.Idx → EReal) (g : Mat 1 256) (W : S1x128x256.Idx → EReal) :
    List (View.Piece (Elt Ideal) S256x256 .f32) :=
  [⟨Rect.unit (s := S256x256) ![144, 0] ![112, 256] inb_S256x256_S112x256_144_0, k0_pay19 (F := Ideal)⟩,
    ⟨Rect.unit (s := S256x256) ![128, 192] ![16, 64] inb_S256x256_S16x64_128_192, k0_pay17 (F := Ideal) (k0_pay5 X) (k0_pay11 X C A B g)⟩,
    ⟨Rect.unit (s := S256x256) ![128, 128] ![16, 64] inb_S256x256_S16x64_128_128, k0_pay16 (F := Ideal) (k0_pay5 X) (k0_pay11 X C A B g)⟩,
    ⟨Rect.unit (s := S256x256) ![128, 64] ![16, 64] inb_S256x256_S16x64_128_64, k0_pay15 (F := Ideal) (k0_pay5 X) (k0_pay11 X C A B g)⟩,
    ⟨Rect.unit (s := S256x256) ![128, 0] ![16, 64] inb_S256x256_S16x64_128_0, k0_pay14 (F := Ideal) (k0_pay5 X) (k0_pay11 X C A B g)⟩,
    ⟨Rect.unit (s := S256x256) ![0, 0] ![128, 256] inb_S256x256_S128x256_0_0, k0_pay12 (F := Ideal) W⟩]

/-- The stores of values, the last one first. -/
abbrev vs (X : S1x16x1536.Idx → EReal) (W : S1x128x256.Idx → EReal) : List (View.Piece (Elt Ideal) S256x256 .f32) :=
  [⟨Rect.unit (s := S256x256) ![144, 0] ![112, 256] inb_S256x256_S112x256_144_0, k0_pay21 (F := Ideal) k0_pay20⟩,
    ⟨Rect.unit (s := S256x256) ![128, 0] ![16, 256] inb_S256x256_S16x256_128_0, k0_pay18 (F := Ideal) (k0_pay6 X)⟩,
    ⟨Rect.unit (s := S256x256) ![0, 0] ![128, 256] inb_S256x256_S128x256_0_0, k0_pay13 (F := Ideal) W⟩]

/-- What a store of keys has to be for its rectangle to hold the rotated, normalised head. -/
theorem lane_eq (ht : Tab cs sn C A B) (hg : ∀ c : Fin 256, g (ix2 0 c) = gk ⟨c.val % 64, by omega⟩)
    (o : ℕ) (hm : o % 64 = 0) (ho : o + 64 ≤ 256) (w : S16x64.Idx → EReal)
    (hw : ∀ (p : Fin 16) (e : Fin 64), w (ix2 p e) = k0_pay11 (F := Ideal) X C A B g (ix2 p ⟨o + e.val, by omega⟩)
      * rsd (fun d => X (ix3 0 p ⟨1024 + (o + d.val), by omega⟩)))
    (x : S16x64.Idx) (y : S256x256.Idx) (h0 : (y 0).val = 128 + 1 * (x 0).val) (h1 : (y 1).val = o + 1 * (x 1).val) :
    w x = KG cs sn gk X W y := by
  refine Eq.trans ?_ (KG_at (x := x) (o := o) (by omega) (by omega) hm ho).symm
  idx_vars x
  rw [hw, k_rot ht hg x0 o hm ho x1]
  exact rot_mul ..

theorem zero_word : Ideal.ofBits FTy.f32 0#32 = 0 := by
  simp [Ideal.ofBits, Ideal.ieee]

theorem ks_pieces (ht : Tab cs sn C A B) (hg : ∀ c : Fin 256, g (ix2 0 c) = gk ⟨c.val % 64, by omega⟩) :
    View.PiecesOf (Val := Elt Ideal) (e := .f32) (KG cs sn gk X W) (ks C A B X g W) :=
  ⟨fun (x : S112x256.Idx) => by
      unfold KG
      rw [dif_neg (by show ¬ 144 + 1 * (x 0).val < 128; omega), dif_neg (by show ¬ 144 + 1 * (x 0).val < 144; omega)]
      idx_vars x
      pointwise [k0_pay19],
    fun x => lane_eq ht hg 192 (by decide) (by decide) _ (fun p e => by unfold rsd; pointwise [k0_pay17, k0_pay5, k0_pay3]) x _ rfl rfl,
    fun x => lane_eq ht hg 128 (by decide) (by decide) _ (fun p e => by unfold rsd; pointwise [k0_pay16, k0_pay5, k0_pay3]) x _ rfl rfl,
    fun x => lane_eq ht hg 64 (by decide) (by decide) _ (fun p e => by unfold rsd; pointwise [k0_pay15, k0_pay5, k0_pay3]) x _ rfl rfl,
    fun x => lane_eq ht hg 0 (by decide) (by decide) _ (fun p e => by unfold rsd; pointwise [k0_pay14, k0_pay5, k0_pay3]) x _ rfl rfl,
    fun (x : S128x256.Idx) => by
      have hx : (x 0).val < 128 := (x 0).isLt
      unfold KG
      rw [dif_pos (by show 0 + 1 * (x 0).val < 128; omega)]
      have e : ∀ (z : Fin 128) (w : Fin 256), z.val = (x 0).val → w.val = (x 1).val → W (ix3 0 z w) = W (ix3 0 (x 0) (x 1)) :=
        fun z w hz hw => by rw [show z = x 0 from Fin.ext hz, show w = x 1 from Fin.ext hw]
      refine Eq.trans ?_ (e _ _ (by show 0 + 1 * (x 0).val = (x 0).val; omega) (by show 0 + 1 * (x 1).val = (x 1).val; omega)).symm
      idx_vars x
      pointwise [k0_pay12], trivial⟩

theorem vs_pieces : View.PiecesOf (Val := Elt Ideal) (e := .f32) (VG X W) (vs X W) :=
  ⟨fun (x : S112x256.Idx) => by
      unfold VG
      rw [dif_neg (by show ¬ 144 + 1 * (x 0).val < 128; omega), dif_neg (by show ¬ 144 + 1 * (x 0).val < 144; omega)]
      idx_vars x
      pointwise [k0_pay21, k0_pay20],
    fun (x : S16x256.Idx) => by
      have hx : (x 0).val < 16 := (x 0).isLt
      have hx1 : (x 1).val < 256 := (x 1).isLt
      unfold VG
      rw [dif_neg (by show ¬ 128 + 1 * (x 0).val < 128; omega), dif_pos (by show 128 + 1 * (x 0).val < 144; omega)]
      have e : ∀ (z : Fin 16) (w : Fin 1536), z.val = (x 0).val → w.val = 1280 + (x 1).val →
          X (ix3 0 z w) = X (ix3 0 (x 0) ⟨1280 + (x 1).val, by omega⟩) :=
        fun z w hz hw => by rw [show z = x 0 from Fin.ext hz, show w = ⟨1280 + (x 1).val, by omega⟩ from Fin.ext hw]
      refine Eq.trans ?_ (e _ _ (by show 128 + 1 * (x 0).val - 128 = (x 0).val; omega)
        (by show 1280 + (0 + 1 * (x 1).val) = 1280 + (x 1).val; omega)).symm
      idx_vars x
      pointwise [k0_pay18, k0_pay6, k0_pay3],
    fun (x : S128x256.Idx) => by
      have hx : (x 0).val < 128 := (x 0).isLt
      unfold VG
      rw [dif_pos (by show 0 + 1 * (x 0).val < 128; omega)]
      have e : ∀ (z : Fin 128) (w : Fin 256), z.val = (x 0).val → w.val = (x 1).val → W (ix3 0 z w) = W (ix3 0 (x 0) (x 1)) :=
        fun z w hz hw => by rw [show z = x 0 from Fin.ext hz, show w = x 1 from Fin.ext hw]
      refine Eq.trans ?_ (e _ _ (by show 0 + 1 * (x 0).val = (x 0).val; omega) (by show 0 + 1 * (x 1).val = (x 1).val; omega)).symm
      idx_vars x
      pointwise [k0_pay13], trivial⟩

theorem in_rect {y : S256x256.Idx} {o p h w : ℕ} (inb) (h0 : o ≤ (y 0).val ∧ (y 0).val < o + h) (h1 : p ≤ (y 1).val ∧ (y 1).val < p + w) :
    y ∈ (Rect.unit (s := S256x256) ![o, p] ![h, w] inb).set :=
  Rect.mem_set_unit.2 fun a => match a with
    | ⟨0, _⟩ => h0
    | ⟨1, _⟩ => h1

theorem ks_cover (y : S256x256.Idx) : ∃ p ∈ ks C A B X g W, y ∈ p.1.set := by
  have hy : (y 0).val < 256 := (y 0).isLt
  have hz : (y 1).val < 256 := (y 1).isLt
  rcases (by omega : (y 0).val < 128 ∨ 144 ≤ (y 0).val ∨ (128 ≤ (y 0).val ∧ (y 0).val < 144)) with h0 | h0 | h0
  · exact ⟨_, .tail _ (.tail _ (.tail _ (.tail _ (.tail _ (.head _))))), in_rect inb_S256x256_S128x256_0_0 (by omega) (by omega)⟩
  · exact ⟨_, .head _, in_rect inb_S256x256_S112x256_144_0 (by omega) (by omega)⟩
  · rcases (by omega : 192 ≤ (y 1).val ∨ (128 ≤ (y 1).val ∧ (y 1).val < 192) ∨ (64 ≤ (y 1).val ∧ (y 1).val < 128) ∨ (y 1).val < 64)
      with h1 | h1 | h1 | h1
    · exact ⟨_, .tail _ (.head _), in_rect inb_S256x256_S16x64_128_192 (by omega) (by omega)⟩
    · exact ⟨_, .tail _ (.tail _ (.head _)), in_rect inb_S256x256_S16x64_128_128 (by omega) (by omega)⟩
    · exact ⟨_, .tail _ (.tail _ (.tail _ (.head _))), in_rect inb_S256x256_S16x64_128_64 (by omega) (by omega)⟩
    · exact ⟨_, .tail _ (.tail _ (.tail _ (.tail _ (.head _)))), in_rect inb_S256x256_S16x64_128_0 (by omega) (by omega)⟩

theorem vs_cover (y : S256x256.Idx) : ∃ p ∈ vs X W, y ∈ p.1.set := by
  have hy : (y 0).val < 256 := (y 0).isLt
  have hz : (y 1).val < 256 := (y 1).isLt
  rcases (by omega : (y 0).val < 128 ∨ 144 ≤ (y 0).val ∨ (128 ≤ (y 0).val ∧ (y 0).val < 144)) with h0 | h0 | h0
  · exact ⟨_, .tail _ (.tail _ (.head _)), in_rect inb_S256x256_S128x256_0_0 (by omega) (by omega)⟩
  · exact ⟨_, .head _, in_rect inb_S256x256_S112x256_144_0 (by omega) (by omega)⟩
  · exact ⟨_, .tail _ (.head _), in_rect inb_S256x256_S16x256_128_0 (by omega) (by omega)⟩

/-- The buffers' rows from the fourth on, loaded after the stores. -/
theorem keys_load (ht : Tab cs sn C A B) (hg : ∀ c : Fin 256, g (ix2 0 c) = gk ⟨c.val % 64, by omega⟩) {κ : Kind} {sp : Space}
    (v : View sig κ sp S256x256 .f32) (r : Fin 128) (c : Fin 256) :
    v.readCov (ks C A B X g W) (Rect.unit (s := S256x256) ![4, 0] ![128, 256] inb_S256x256_S128x256_4_0).toLoadRect (ix2 r c)
      = KG cs sn gk X W (ix2 ⟨4 + r.val, by omega⟩ c) := by
  rw [View.readCov_eq_canon']
  refine ((congrArg (View.canon · _) (List.append_nil (ks C A B X g W)).symm).trans
    (View.canon_append_of_piecesOf _ _ _ (ks_pieces ht hg) _ (ks_cover _))).trans ?_
  refine congrArg (KG cs sn gk X W) (Shape.idx_ext₂ ?_ ?_)
  · show 4 + 1 * r.val = 4 + r.val; omega
  · show 0 + 1 * c.val = c.val; omega

theorem vals_load {κ : Kind} {sp : Space} (v : View sig κ sp S256x256 .f32) (r : Fin 128) (c : Fin 256) :
    v.readCov (vs X W) (Rect.unit (s := S256x256) ![4, 0] ![128, 256] inb_S256x256_S128x256_4_0).toLoadRect (ix2 r c)
      = VG X W (ix2 ⟨4 + r.val, by omega⟩ c) := by
  rw [View.readCov_eq_canon']
  refine ((congrArg (View.canon · _) (List.append_nil (vs X W)).symm).trans
    (View.canon_append_of_piecesOf _ _ _ vs_pieces _ (vs_cover _))).trans ?_
  refine congrArg (VG X W) (Shape.idx_ext₂ ?_ ?_)
  · show 4 + 1 * r.val = 4 + r.val; omega
  · show 0 + 1 * c.val = c.val; omega

end Cert.AttnSampleIdeal.Body

end
-- ==== Proof.SamplePoint.lean ====
/-
  The two caches one point of the samples' attention writes.
-/
module

public import proofs.«01_k».proof.Proof.Gen.AttnSampleIdeal.Value
public import proofs.«01_k».proof.Proof.SampleBody
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AttnSampleIdeal.Body

open Cert.AttnSampleIdeal Cert.AttnSampleIdeal.Gen Cert.Shared Cert.Attn Idealize.ShloMosaic Idealize.ShloMosaic.TcCoe
open scoped BigOperators

variable {cs sn : Fin 16 → Fin 8 → EReal} {gk : Row}

/-- The cache of keys a point writes. -/
theorem cacheK (c : Dev nD) (i : grid0.Coords) (arg1 : Memref sig .tc .smem S16 .f32) (harg1 : arg1.IsWhole) (arg2 : Memref sig .tc .vmem S1x16x1536 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x16x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole)
    (x0 x1 x2 x3 x4 x5 x6 x7 x8) (ht : Tab cs sn x4 x5 x6) (hg : ∀ k : Fin 256, x8 (ix2 0 k) = gk ⟨k.val % 64, by omega⟩) (r : Fin 128) (k : Fin 256) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 r k) = KG cs sn gk x1 x2 (ix2 ⟨4 + r.val, by omega⟩ k) := by
  frame_open
  frame_out
  pointwise [k0_pay1]
  exact keys_load ht hg arg13.view r k

/-- The cache of values a point writes. -/
theorem cacheV (c : Dev nD) (i : grid0.Coords) (arg1 : Memref sig .tc .smem S16 .f32) (harg1 : arg1.IsWhole) (arg2 : Memref sig .tc .vmem S1x16x1536 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x16x1024 .bf16) (harg10 : arg10.IsWhole) (arg11 : Memref sig .tc .vmem S1x128x256 .f32) (harg11 : arg11.IsWhole) (arg12 : Memref sig .tc .vmem S1x128x256 .f32) (harg12 : arg12.IsWhole) (arg13 : Memref sig .tc .vmem S256x256 .f32) (harg13 : arg13.IsWhole) (arg14 : Memref sig .tc .vmem S256x256 .f32) (harg14 : arg14.IsWhole)
    (x0 x1 x2 x3 x4 x5 x6 x7 x8) (r : Fin 128) (k : Fin 256) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 r k) = VG x1 x3 (ix2 ⟨4 + r.val, by omega⟩ k) := by
  frame_open
  frame_out
  pointwise [k0_pay2]
  exact vals_load arg14.view r k

end Cert.AttnSampleIdeal.Body

end
-- ==== Proof.SampleRef.lean ====
/-
  The reference of the samples' caches, read at a place: the key heads normalised and rotated, and the caches' rows, the
  older ones moved up by four and the sample's own four after them.
-/
module

public import proofs.«01_k».proof.Proof.Gen.AttnSampleRefIdeal.Read
public import proofs.«01_k».proof.Proof.AttnMath
public import Idealize.ShloMosaic.Lib.Pointwise

@[expose] public section

set_option maxRecDepth 16384

noncomputable section

namespace Cert.AttnSampleRefIdeal.Places

open Cert.AttnSampleRefIdeal Cert.AttnSampleRefIdeal.Read Cert.Shared Cert.Attn Idealize.ShloMosaic Idealize.ShloMosaic.TcCoe
open scoped BigOperators

variable (a : Mat 128 1536) (gk : S64.Idx → EReal) (ck cv : S32x128x4x64.Idx → EReal)

/-- The angle of a sample's row and a frequency. -/
def ang (t : ℕ) (k : Fin 8) : EReal :=
  FloatOps.sitofp (F := Ideal) FTy.f32 (IntOp.addi (16384#32) (BitVec.ofNat 32 t))
    * Ideal.pow (Ideal.ofBits FTy.f32 1223959552#32)
        (Ideal.div (-FloatOps.sitofp (F := Ideal) FTy.f32 (BitVec.ofNat 32 k.val)) (Ideal.ofBits FTy.f32 1090519040#32))
/-- The cosines of a row. -/
def cs (t : ℕ) (k : Fin 8) : EReal := Ideal.cos (ang t k)
/-- The sines of a row. -/
def sn (t : ℕ) (k : Fin 8) : EReal := Ideal.sin (ang t k)

theorem ang_k (t : Fin 4) (k : Fin 8) : val_main_v33 (F := Ideal) (ix2 t k) = ang t.val k := by
  unfold ang
  pointwise [val_main_v33, val_main_v32, val_main_v31, val_main_v30, val_main_v29, val_main_v28, val_main_v27, val_main_cst_3,
    val_main_v26, val_main_v25, val_main_cst_2, val_main_v24, val_main_v23, val_main_v22, val_main_v21, val_main_v20, val_main_c, val_main_v19]

/-- A row's columns from `o` on, of one head. -/
def hd (R : Fin 128) (o : ℕ) (ho : o + 64 ≤ 1536) : Row := fun d => a (ix2 R ⟨o + d.val, by omega⟩)
/-- The gain. -/
def gn (g : S64.Idx → EReal) : Row := fun d => g (ix1 d)
/-- A sample's row in the array. -/
abbrev at_ (b : Fin 32) (t : Fin 4) : Fin 128 := ⟨b.val * 4 + t.val, by omega⟩
/-- A key head. -/
def krow (b : Fin 32) (t : Fin 4) (h : Fin 4) : Row := nrm (cs t.val) (sn t.val) (gn gk) (hd a (at_ b t) (1024 + h.val * 64) (by omega))
/-- A value head. -/
def vrow (b : Fin 32) (t : Fin 4) (h : Fin 4) : Row := hd a (at_ b t) (1280 + h.val * 64) (by omega)

theorem kn_apply (b : Fin 32) (t : Fin 4) (h : Fin 4) (d : Fin 64) : val_main_v18 (F := Ideal) a gk (ix4 b t h d)
    = hd a (at_ b t) (1024 + h.val * 64) (by omega) d * rsd (hd a (at_ b t) (1024 + h.val * 64) (by omega)) * gn gk d := by
  unfold hd gn rsd
  pointwise [val_main_v18, val_main_v17, val_main_v16, val_main_v15, val_main_v14, val_main_v13, val_main_v12, val_main_v11,
    val_main_v10, val_main_v9, val_main_v8, val_main_v7, val_main_v6, val_main_v4, val_main_v2, val_main_v0,
    val_main_cst, val_main_cst_0, val_main_cst_1, Nat.add_assoc]

theorem k_apply (b : Fin 32) (t : Fin 4) (h : Fin 4) (d : Fin 64) :
    val_main_v51 (F := Ideal) a gk (ix4 b t h d) = krow a gk b t h d := by
  unfold krow nrm rot cs sn
  pointwise [val_main_v51, val_main_v50, val_main_v49, val_main_v48, val_main_v47, val_main_v46, val_main_v45, val_main_v44,
    val_main_v43, val_main_v42, val_main_v41, val_main_v40, val_main_v39, val_main_v38, val_main_v37, val_main_v36, val_main_v35,
    val_main_v34]
  simp only [ang_k, kn_apply]
  split
  · rw [show (⟨8 + d.val, by omega⟩ : Fin 64) = ⟨d.val + 8, by omega⟩ from Fin.ext (by show 8 + d.val = d.val + 8; omega)]
  · by_cases h' : d.val < 16
    · rw [dif_pos (by omega), dif_pos h', show (⟨8 + (d.val - 8), by omega⟩ : Fin 64) = d from Fin.ext (by show 8 + (d.val - 8) = d.val; omega)]
    · rw [dif_neg (by omega), dif_neg h', show (⟨16 + (d.val - 8 - 8), by omega⟩ : Fin 64) = d from Fin.ext (by show 16 + (d.val - 8 - 8) = d.val; omega)]

theorem v_apply (b : Fin 32) (t : Fin 4) (h : Fin 4) (d : Fin 64) :
    val_main_v5 (F := Ideal) a (ix4 b t h d) = vrow a b t h d := by
  unfold vrow hd
  pointwise [val_main_v5, val_main_v3, val_main_v0, Nat.add_assoc]

/-- The caches' rows: the older ones moved up by four, then the sample's own. -/
def rows (ck : S32x128x4x64.Idx → EReal) (f : Fin 4 → Row) (b : Fin 32) (r : Fin 128) (h : Fin 4) (d : Fin 64) : EReal :=
  if hr : 4 + r.val < 128 then ck (ix4 b ⟨4 + r.val, hr⟩ h d) else f ⟨4 + r.val - 128, by omega⟩ d

theorem kc_apply (b : Fin 32) (r : Fin 128) (c : Fin 256) : val_main_v55 (F := Ideal) a ck gk (ix3 b r c)
    = rows ck (fun t => krow a gk b t ⟨c.val / 64, by omega⟩) b r ⟨c.val / 64, by omega⟩ ⟨c.val % 64, by omega⟩ := by
  unfold rows
  pointwise [val_main_v55, val_main_v54, val_main_v52]
  simp only [k_apply]

theorem vc_apply (b : Fin 32) (r : Fin 128) (c : Fin 256) : val_main_v57 (F := Ideal) a cv (ix3 b r c)
    = rows cv (fun t => vrow a b t ⟨c.val / 64, by omega⟩) b r ⟨c.val / 64, by omega⟩ ⟨c.val % 64, by omega⟩ := by
  unfold rows
  pointwise [val_main_v57, val_main_v56, val_main_v53]
  simp only [v_apply]

end Cert.AttnSampleRefIdeal.Places

end
-- ==== Proof.SampleHost.lean ====
/-
  What the host lines hand to the samples' attention: the samples' rows, four of sixteen filled, the caches with their heads
  side by side, the gain repeated over the heads, the tables of the positions; and where each point's blocks lie.
-/
module

public import proofs.«01_k».proof.Proof.SampleBody
public import proofs.«01_k».proof.Proof.SampleRef
public import Idealize.ShloMosaic.Lib.Pointwise
public import Idealize.ShloMosaic.Lib.StableHlo.ReadAt

@[expose] public section

set_option maxRecDepth 16384

noncomputable section

namespace Cert.AttnSampleIdeal.Body

open Cert.AttnSampleIdeal Cert.AttnSampleIdeal.Gen Cert.Shared Cert.Attn Idealize.ShloMosaic Idealize.ShloMosaic.TcCoe Idealize.SL.Sem
open Idealize.ShloMosaic.Pipeline (Dat)
open Cert.AttnPromptIdeal.Body (tc ta tb)
open Cert.AttnSampleRefIdeal.Places (ang cs sn gn at_)
open scoped BigOperators

variable (m : (b : Loc nD τ sig) → Buf (Elt Ideal) b) (c : Dev nD)

/-- The call's arrays. -/
abbrev aA : Mat 128 1536 := m ((c : Thread nD τ).loc main_arg0)
abbrev aCK : S32x128x4x64.Idx → EReal := m ((c : Thread nD τ).loc main_arg1)
abbrev aCV : S32x128x4x64.Idx → EReal := m ((c : Thread nD τ).loc main_arg2)
abbrev aK : S64.Idx → EReal := m ((c : Thread nD τ).loc main_arg4)

/-- The samples' rows: the first four of a sample's sixteen. -/
theorem rows_in (b : Fin 32) (p : Fin 4) (j : Fin 1536) :
    (V m c main_v42 : S32x16x1536.Idx → EReal) (ix3 b ⟨p.val, by omega⟩ j) = aA m c (ix2 (at_ b p) j) := by
  show (StableHlo.after (List.flatten [hostOps0, hostOps0_1, hostOps0_2]) (fun b => m (c, b)) main_v42 : S32x16x1536.Idx → EReal) (ix3 b ⟨p.val, by omega⟩ j) = _
  simp only [List.flatten_cons, List.flatten_nil, List.append_nil, List.cons_append, List.nil_append]
  after_reads_at

/-- The cache of keys, heads side by side. -/
theorem cache_k (b : Fin 32) (r : Fin 128) (k : Fin 256) : (V m c main_v43 : S32x128x256.Idx → EReal) (ix3 b r k)
    = aCK m c (ix4 b r ⟨k.val / 64, by omega⟩ ⟨k.val % 64, by omega⟩) := by
  show (StableHlo.after (List.flatten [hostOps0, hostOps0_1, hostOps0_2]) (fun b => m (c, b)) main_v43 : S32x128x256.Idx → EReal) (ix3 b r k) = _
  simp only [List.flatten_cons, List.flatten_nil, List.append_nil, List.cons_append, List.nil_append]
  after_reads_at

/-- The cache of values, heads side by side. -/
theorem cache_v (b : Fin 32) (r : Fin 128) (k : Fin 256) : (V m c main_v44 : S32x128x256.Idx → EReal) (ix3 b r k)
    = aCV m c (ix4 b r ⟨k.val / 64, by omega⟩ ⟨k.val % 64, by omega⟩) := by
  show (StableHlo.after (List.flatten [hostOps0, hostOps0_1, hostOps0_2]) (fun b => m (c, b)) main_v44 : S32x128x256.Idx → EReal) (ix3 b r k) = _
  simp only [List.flatten_cons, List.flatten_nil, List.append_nil, List.cons_append, List.nil_append]
  after_reads_at

/-- The keys' gain, repeated over the four heads. -/
theorem gain_k (k : Fin 256) : (V m c main_v7 : Mat 1 256) (ix2 0 k) = aK m c (ix1 ⟨k.val % 64, by omega⟩) := by
  show (StableHlo.after hostOps0 (fun b => m (c, b)) main_v7 : Mat 1 256) (ix2 0 k) = _
  after_reads_at

theorem c_one : Ideal.ofBits FTy.f32 1065353216#32 = 1 := by
  refine (?_ : _ = ((1 : ℝ) : EReal)).trans EReal.coe_one
  simp [Ideal.ofBits, Ideal.ieee, -EReal.coe_mul, -EReal.coe_one]; norm_num

theorem tc_low {f : Fin 8 → EReal} {d : ℕ} (h : d < 8) : tc f d = f ⟨d, h⟩ := dif_pos h
theorem tc_mid {f : Fin 8 → EReal} {d : ℕ} (h : ¬d < 8) (h' : d < 16) : tc f d = f ⟨d - 8, by omega⟩ :=
  (dif_neg h).trans (dif_pos h')
theorem tc_high {f : Fin 8 → EReal} {d : ℕ} (h : ¬d < 8) (h' : ¬d < 16) : tc f d = 1 := (dif_neg h).trans (dif_neg h')

/-- The table of cosines. -/
theorem tab_c (t : Fin 16) (k : Fin 128) : (V m c main_v34 : Mat 16 128) (ix2 t k) = tc (cs t.val) (k.val % 64) := by
  show (StableHlo.after hostOps0 (fun b => m (c, b)) main_v34 : Mat 16 128) (ix2 t k) = _
  after_reads_at
  by_cases h : k.val % 64 < 8
  · refine Eq.trans ?_ (tc_low h).symm
    rw [dif_pos h]
    unfold cs ang
    after_reads_at
  · by_cases h' : k.val % 64 < 16
    · have e : k.val % 64 - 8 < 8 := by omega
      refine Eq.trans ?_ (tc_mid h h').symm
      rw [dif_neg h, dif_pos e]
      unfold cs ang
      after_reads_at
    · have e : ¬k.val % 64 - 8 < 8 := by omega
      refine Eq.trans ?_ (tc_high h h').symm
      rw [dif_neg h, dif_neg e]
      refine Eq.trans ?_ c_one
      after_reads_at
      done

/-- The first table of sines. -/
theorem tab_a (t : Fin 16) (k : Fin 128) : (V m c main_v37 : Mat 16 128) (ix2 t k) = ta (sn t.val) (k.val % 64) := by
  show (StableHlo.after hostOps0 (fun b => m (c, b)) main_v37 : Mat 16 128) (ix2 t k) = _
  after_reads_at
  unfold ta
  by_cases h : k.val % 64 < 8
  · rw [dif_pos h, dif_pos h]
    unfold sn ang
    after_reads_at
  · rw [dif_neg h, dif_neg h]
    by_cases h' : k.val % 64 < 16
    · have e : k.val % 64 - 8 < 8 := by omega
      rw [dif_pos e]
      after_reads_at
      done
    · have e : ¬k.val % 64 - 8 < 8 := by omega
      rw [dif_neg e]
      after_reads_at
      done

/-- The second table of sines. -/
theorem tab_b (t : Fin 16) (k : Fin 128) : (V m c main_v40 : Mat 16 128) (ix2 t k) = tb (sn t.val) (k.val % 64) := by
  show (StableHlo.after hostOps0 (fun b => m (c, b)) main_v40 : Mat 16 128) (ix2 t k) = _
  after_reads_at
  unfold tb
  by_cases h : k.val % 64 < 8
  · have f : ¬(8 ≤ k.val % 64 ∧ k.val % 64 < 16) := by omega
    rw [dif_pos h, dif_neg f]
    after_reads_at
    done
  · by_cases h' : k.val % 64 < 16
    · have e : k.val % 64 - 8 < 8 := by omega
      have f : 8 ≤ k.val % 64 ∧ k.val % 64 < 16 := by omega
      rw [dif_neg h, dif_pos e, dif_pos f]
      unfold sn ang
      after_reads_at
    · have e : ¬k.val % 64 - 8 < 8 := by omega
      have f : ¬(8 ≤ k.val % 64 ∧ k.val % 64 < 16) := by omega
      rw [dif_neg h, dif_neg e, dif_neg f]
      after_reads_at
      done

/-! ### The blocks -/

/-- Where each window's block lies at each point: a point is a sample. -/
theorem idx : ∀ t : Fin cfg0.N, (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_8.index t 0 = 0 ∧ win0_8.index t 1 = 0)
    ∧ (win0_10.index t 0 = t.val ∧ win0_10.index t 1 = 0 ∧ win0_10.index t 2 = 0)
    ∧ (win0_11.index t 0 = t.val ∧ win0_11.index t 1 = 0 ∧ win0_11.index t 2 = 0) :=
  (by decide +kernel : ∀ t : Fin grid0.N, (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_8.index t 0 = 0 ∧ win0_8.index t 1 = 0)
    ∧ (win0_10.index t 0 = t.val ∧ win0_10.index t 1 = 0 ∧ win0_10.index t 2 = 0)
    ∧ (win0_11.index t 0 = t.val ∧ win0_11.index t 1 = 0 ∧ win0_11.index t 2 = 0))

/-- The sample of a point. -/
abbrev bt (t : Fin cfg0.N) : Fin 32 := ⟨t.val, t.isLt⟩

theorem block1 (t : Fin cfg0.N) (p : Fin 4) (j : Fin 1536) :
    (iblk m c 1 t : S1x16x1536.Idx → EReal) (ix3 0 ⟨p.val, by omega⟩ j) = aA m c (ix2 (at_ (bt t) p) j) := by
  obtain ⟨⟨h0, h1, h2⟩, _⟩ := idx t
  refine Eq.trans ?_ (rows_in m c (bt t) p j)
  refine congrArg (V m c main_v42) (funext fun a => Fin.ext ?_)
  match a with
  | ⟨0, _⟩ => show win0_1.index t 0 * 1 + 1 * 0 = t.val; omega
  | ⟨1, _⟩ => show win0_1.index t 1 * 16 + 1 * p.val = p.val; omega
  | ⟨2, _⟩ => show win0_1.index t 2 * 1536 + 1 * j.val = j.val; omega

theorem block2 (t : Fin cfg0.N) (r : Fin 128) (k : Fin 256) : (iblk m c 2 t : S1x128x256.Idx → EReal) (ix3 0 r k)
    = aCK m c (ix4 (bt t) r ⟨k.val / 64, by omega⟩ ⟨k.val % 64, by omega⟩) := by
  obtain ⟨_, ⟨h0, h1, h2⟩, _⟩ := idx t
  refine Eq.trans ?_ (cache_k m c (bt t) r k)
  refine congrArg (V m c main_v43) (funext fun a => Fin.ext ?_)
  match a with
  | ⟨0, _⟩ => show win0_2.index t 0 * 1 + 1 * 0 = t.val; omega
  | ⟨1, _⟩ => show win0_2.index t 1 * 128 + 1 * r.val = r.val; omega
  | ⟨2, _⟩ => show win0_2.index t 2 * 256 + 1 * k.val = k.val; omega

theorem block3 (t : Fin cfg0.N) (r : Fin 128) (k : Fin 256) : (iblk m c 3 t : S1x128x256.Idx → EReal) (ix3 0 r k)
    = aCV m c (ix4 (bt t) r ⟨k.val / 64, by omega⟩ ⟨k.val % 64, by omega⟩) := by
  obtain ⟨_, _, ⟨h0, h1, h2⟩, _⟩ := idx t
  refine Eq.trans ?_ (cache_v m c (bt t) r k)
  refine congrArg (V m c main_v44) (funext fun a => Fin.ext ?_)
  match a with
  | ⟨0, _⟩ => show win0_3.index t 0 * 1 + 1 * 0 = t.val; omega
  | ⟨1, _⟩ => show win0_3.index t 1 * 128 + 1 * r.val = r.val; omega
  | ⟨2, _⟩ => show win0_3.index t 2 * 256 + 1 * k.val = k.val; omega

/-- A point's blocks of the tables are the positions' tables. -/
theorem tabs (t : Fin cfg0.N) : Tab (fun p => cs p.val) (fun p => sn p.val)
    (iblk m c 4 t : Mat 16 128) (iblk m c 5 t : Mat 16 128) (iblk m c 6 t : Mat 16 128) := by
  obtain ⟨_, _, _, ⟨c0, c1⟩, ⟨a0, a1⟩, ⟨b0, b1⟩, _⟩ := idx t
  refine ⟨fun p k => ?_, fun p k => ?_, fun p k => ?_⟩
  · refine Eq.trans ?_ (tab_c m c p k)
    refine congrArg (V m c main_v34) (Shape.idx_ext₂ ?_ ?_)
    · show win0_4.index t 0 * 16 + 1 * p.val = p.val; omega
    · show win0_4.index t 1 * 128 + 1 * k.val = k.val; omega
  · refine Eq.trans ?_ (tab_a m c p k)
    refine congrArg (V m c main_v37) (Shape.idx_ext₂ ?_ ?_)
    · show win0_5.index t 0 * 16 + 1 * p.val = p.val; omega
    · show win0_5.index t 1 * 128 + 1 * k.val = k.val; omega
  · refine Eq.trans ?_ (tab_b m c p k)
    refine congrArg (V m c main_v40) (Shape.idx_ext₂ ?_ ?_)
    · show win0_6.index t 0 * 16 + 1 * p.val = p.val; omega
    · show win0_6.index t 1 * 128 + 1 * k.val = k.val; omega

theorem block8 (t : Fin cfg0.N) (k : Fin 256) : (iblk m c 8 t : Mat 1 256) (ix2 0 k) = gn (aK m c) ⟨k.val % 64, by omega⟩ := by
  obtain ⟨_, _, _, _, _, _, ⟨h0, h1⟩, _⟩ := idx t
  refine Eq.trans ?_ (gain_k m c k)
  refine congrArg (V m c main_v7) (Shape.idx_ext₂ ?_ ?_)
  · show win0_8.index t 0 * 1 + 1 * 0 = 0; omega
  · show win0_8.index t 1 * 256 + 1 * k.val = k.val; omega

end Cert.AttnSampleIdeal.Body

end
-- ==== Proof.AttnSampleValue.lean ====
/-
  The samples' attention leaves the reference's two caches: the older keys and values moved up by four rows, the sample's
  own four after them.
-/
module

public import proofs.«01_k».proof.Proof.Gen.AttnSampleIdeal.Value
public import proofs.«01_k».proof.Proof.Gen.AttnSampleRefIdeal.Read
public import proofs.«01_k».proof.Proof.Gen.AttnSampleRefIdeal.Run
public import proofs.«01_k».proof.Proof.SamplePoint
public import proofs.«01_k».proof.Proof.SampleHost
public import proofs.«01_k».proof.Proof.Shared
public import proofs.«01_k».proof.Defs

@[expose] public section

set_option maxRecDepth 16384

noncomputable section

namespace Cert.AttnSampleIdeal.RefValue

open Cert.AttnSampleIdeal Cert.AttnSampleIdeal.Gen Cert.Shared Cert.Attn Cert.AttnSampleIdeal.Body Idealize.ShloMosaic Idealize.ShloMosaic.TcCoe Idealize.SL.Sem
open Cert.AttnSampleRefIdeal.Read (val_main_v55 val_main_v57)
open Cert.AttnSampleRefIdeal.Places (cs sn gn hd at_ krow vrow rows kc_apply vc_apply)
open scoped BigOperators

variable (m : (b : Loc nD τ sig) → Buf (Elt Ideal) b)

/-- The reference's two results, of the call's arrays. -/
abbrev R1 (c : Dev nD) : Buf (Elt Ideal) ((c : Thread nD τ).loc main_v45_1) :=
  val_main_v55 (F := Ideal) (aA m c) (aCK m c) (aK m c)
abbrev R2 (c : Dev nD) : Buf (Elt Ideal) ((c : Thread nD τ).loc main_v45_2) := val_main_v57 (F := Ideal) (aA m c) (aCV m c)

/-- A point's keys, from the fourth row of its buffer on, are its sample's rows of the reference. -/
theorem keys_at (c : Dev nD) (t : Fin cfg0.N) (r : Fin 128) (k : Fin 256) :
    KG (fun p => cs p.val) (fun p => sn p.val) (gn (aK m c)) (iblk m c 1 t : S1x16x1536.Idx → EReal) (iblk m c 2 t : S1x128x256.Idx → EReal)
      (ix2 ⟨4 + r.val, by omega⟩ k) = (R1 m c : S32x128x256.Idx → EReal) (ix3 (bt t) r k) := by
  refine Eq.trans ?_ (kc_apply (aA m c) (aK m c) (aCK m c) (bt t) r k).symm
  unfold KG rows
  by_cases h : 4 + r.val < 128
  · refine (dif_pos h).trans (Eq.trans ?_ (dif_pos h).symm)
    exact block2 m c t ⟨4 + r.val, h⟩ k
  · refine (dif_neg h).trans ((dif_pos (show 4 + r.val < 144 by omega)).trans (Eq.trans ?_ (dif_neg h).symm))
    unfold kn krow
    refine congrArg (fun x => nrm (cs (4 + r.val - 128)) (sn (4 + r.val - 128)) (gn (aK m c)) x _) (funext fun d => ?_)
    refine (block1 m c t ⟨4 + r.val - 128, by omega⟩ ⟨1024 + (k.val / 64 * 64 + d.val), by omega⟩).trans ?_
    unfold hd
    exact congrArg (fun z => aA m c (ix2 _ z)) (Fin.ext (by show 1024 + (k.val / 64 * 64 + d.val) = 1024 + k.val / 64 * 64 + d.val; omega))

/-- A point's values, likewise. -/
theorem vals_at (c : Dev nD) (t : Fin cfg0.N) (r : Fin 128) (k : Fin 256) :
    VG (iblk m c 1 t : S1x16x1536.Idx → EReal) (iblk m c 3 t : S1x128x256.Idx → EReal) (ix2 ⟨4 + r.val, by omega⟩ k)
      = (R2 m c : S32x128x256.Idx → EReal) (ix3 (bt t) r k) := by
  refine Eq.trans ?_ (vc_apply (aA m c) (aCV m c) (bt t) r k).symm
  unfold VG rows
  by_cases h : 4 + r.val < 128
  · refine (dif_pos h).trans (Eq.trans ?_ (dif_pos h).symm)
    exact block3 m c t ⟨4 + r.val, h⟩ k
  · refine (dif_neg h).trans ((dif_pos (show 4 + r.val < 144 by omega)).trans (Eq.trans ?_ (dif_neg h).symm))
    refine (block1 m c t ⟨4 + r.val - 128, by omega⟩ ⟨1280 + k.val, by omega⟩).trans ?_
    unfold vrow hd
    exact congrArg (fun z => aA m c (ix2 _ z)) (Fin.ext (by show 1280 + k.val = 1280 + k.val / 64 * 64 + k.val % 64; omega))

/-- What point `t` writes back to the cache of keys is its block of the reference's result. -/
theorem flushed_keys (c : Dev nD) (t : Fin cfg0.N) :
    (dats m 0 c).flushed 10 t = ((cfg0.win 10).blk t).view.read (Elt Ideal) (R1 m c) := by
  rw [Value.flushed10_A]
  obtain ⟨_, _, _, _, _, _, _, ⟨h0, h1, h2⟩, _⟩ := idx t
  funext (j : S1x128x256.Idx)
  have ej : j = ix3 0 (j 1) (j 2) := funext fun a => match a with
    | ⟨0, _⟩ => Fin.ext (by have : (j 0).val < 1 := (j 0).isLt; show (j 0).val = 0; omega)
    | ⟨1, _⟩ => rfl
    | ⟨2, _⟩ => rfl
  refine (congrArg (out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)) ej).trans ?_
  refine (cacheK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (tabs m c t) (block8 m c t) (j 1) (j 2)).trans ?_
  refine (keys_at m c t (j 1) (j 2)).trans ?_
  refine congrArg (R1 m c) (funext fun a => Fin.ext ?_)
  match a with
  | ⟨0, _⟩ => show t.val = win0_10.index t 0 * 1 + 1 * (j 0).val; have : (j 0).val < 1 := (j 0).isLt; omega
  | ⟨1, _⟩ => show (j 1).val = win0_10.index t 1 * 128 + 1 * (j 1).val; omega
  | ⟨2, _⟩ => show (j 2).val = win0_10.index t 2 * 256 + 1 * (j 2).val; omega

/-- What point `t` writes back to the cache of values is its block of the reference's result. -/
theorem flushed_vals (c : Dev nD) (t : Fin cfg0.N) :
    (dats m 0 c).flushed 11 t = ((cfg0.win 11).blk t).view.read (Elt Ideal) (R2 m c) := by
  rw [Value.flushed11_A]
  obtain ⟨_, _, _, _, _, _, _, _, ⟨h0, h1, h2⟩⟩ := idx t
  funext (j : S1x128x256.Idx)
  have ej : j = ix3 0 (j 1) (j 2) := funext fun a => match a with
    | ⟨0, _⟩ => Fin.ext (by have : (j 0).val < 1 := (j 0).isLt; show (j 0).val = 0; omega)
    | ⟨1, _⟩ => rfl
    | ⟨2, _⟩ => rfl
  refine (congrArg (out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)) ej).trans ?_
  refine (cacheV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (j 1) (j 2)).trans ?_
  refine (vals_at m c t (j 1) (j 2)).trans ?_
  refine congrArg (R2 m c) (funext fun a => Fin.ext ?_)
  match a with
  | ⟨0, _⟩ => show t.val = win0_11.index t 0 * 1 + 1 * (j 0).val; have : (j 0).val < 1 := (j 0).isLt; omega
  | ⟨1, _⟩ => show (j 1).val = win0_11.index t 1 * 128 + 1 * (j 1).val; omega
  | ⟨2, _⟩ => show (j 2).val = win0_11.index t 2 * 256 + 1 * (j 2).val; omega

/-- Every place of the cache of keys lies in the block of its sample's point. -/
theorem cover_keys (i : S32x128x256.Idx) : ∃ t : Fin cfg0.N, (cfg0.win 10).flush t = true ∧ i ∈ ((cfg0.win 10).blk t).view.set := by
  have b0 : (i 0 : Nat) < 32 := (i 0).isLt
  have b1 : (i 1 : Nat) < 128 := (i 1).isLt
  have b2 : (i 2 : Nat) < 256 := (i 2).isLt
  have hN : cfg0.N = 32 := N_0
  obtain ⟨t, ht⟩ : ∃ t : Fin cfg0.N, t.val = (i 0).val := ⟨⟨(i 0).val, by omega⟩, rfl⟩
  refine ⟨t, flush0_10 t, ?_⟩
  obtain ⟨_, _, _, _, _, _, _, ⟨h0, h1, h2⟩, _⟩ := idx t
  show i ∈ ((View.whole main_v45_1).slice (win0_10.rect t)).set
  rw [View.set_slice_whole, Rect.mem_set_unit]
  intro a
  match a with
  | ⟨0, _⟩ => show win0_10.index t 0 * 1 ≤ (i 0).val ∧ (i 0).val < win0_10.index t 0 * 1 + 1; omega
  | ⟨1, _⟩ => show win0_10.index t 1 * 128 ≤ (i 1).val ∧ (i 1).val < win0_10.index t 1 * 128 + 128; omega
  | ⟨2, _⟩ => show win0_10.index t 2 * 256 ≤ (i 2).val ∧ (i 2).val < win0_10.index t 2 * 256 + 256; omega

/-- Every place of the cache of values lies in the block of its sample's point. -/
theorem cover_vals (i : S32x128x256.Idx) : ∃ t : Fin cfg0.N, (cfg0.win 11).flush t = true ∧ i ∈ ((cfg0.win 11).blk t).view.set := by
  have b0 : (i 0 : Nat) < 32 := (i 0).isLt
  have b1 : (i 1 : Nat) < 128 := (i 1).isLt
  have b2 : (i 2 : Nat) < 256 := (i 2).isLt
  have hN : cfg0.N = 32 := N_0
  obtain ⟨t, ht⟩ : ∃ t : Fin cfg0.N, t.val = (i 0).val := ⟨⟨(i 0).val, by omega⟩, rfl⟩
  refine ⟨t, flush0_11 t, ?_⟩
  obtain ⟨_, _, _, _, _, _, _, _, ⟨h0, h1, h2⟩⟩ := idx t
  show i ∈ ((View.whole main_v45_2).slice (win0_11.rect t)).set
  rw [View.set_slice_whole, Rect.mem_set_unit]
  intro a
  match a with
  | ⟨0, _⟩ => show win0_11.index t 0 * 1 ≤ (i 0).val ∧ (i 0).val < win0_11.index t 0 * 1 + 1; omega
  | ⟨1, _⟩ => show win0_11.index t 1 * 128 ≤ (i 1).val ∧ (i 1).val < win0_11.index t 1 * 128 + 128; omega
  | ⟨2, _⟩ => show win0_11.index t 2 * 256 ≤ (i 2).val ∧ (i 2).val < win0_11.index t 2 * 256 + 256; omega

/-- The samples' attention leaves the reference's two caches. -/
theorem algebraic : algebraic_AttnSampleIdeal_AttnSampleRefIdeal :=
  fun m ρ m' ρ' _ hag => ⟨R1 m, R2 m,
    (θ_run _ _ _).mono (fun _ h c => ⟨(h c).2.1.trans
        ((dats m 0 c).arrAt_eq_of_cover 10 (R1 m c) (fun t _ => flushed_keys m c t) cover_keys),
      (h c).2.2.1.trans ((dats m 0 c).arrAt_eq_of_cover 11 (R2 m c) (fun t _ => flushed_vals m c t) cover_vals),
      (h c).2.2.2⟩) (Value.run_blocks m ρ),
    (θ_run _ _ _).mono (fun _ h c => ⟨(h c).1.trans ((show _ = val_main_v55 (F := Ideal) _ _ _ from rfl).trans
        (congr (congrArg₂ (val_main_v55 (F := Ideal)) (hag c).1 (hag c).2.1) (hag c).2.2.2.2.1)),
      (h c).2.1.trans ((show _ = val_main_v57 (F := Ideal) _ _ from rfl).trans
        (congrArg₂ (val_main_v57 (F := Ideal)) (hag c).1 (hag c).2.2.1)),
      (h c).2.2⟩) (Cert.AttnSampleRefIdeal.Value.run m' ρ')⟩

end Cert.AttnSampleIdeal.RefValue

end
-- ==== Proof.LowerValue.lean ====
/-
  The bounds of the forget gate: what their call computes is what their reference computes.
-/
module

public import proofs.«01_k».proof.Proof.Gen.LowerIdeal.Value
public import proofs.«01_k».proof.Proof.Gen.LowerRefIdeal.Read
public import proofs.«01_k».proof.Proof.Gen.LowerRefIdeal.Run
public import proofs.«01_k».proof.Proof.Shared
public import proofs.«01_k».proof.Defs
public import Idealize.ShloMosaic.Lib.Pipeline.ValueKit

@[expose] public section

set_option maxRecDepth 16384

noncomputable section

namespace Cert.LowerIdeal.RefValue

open Cert.LowerIdeal Cert.LowerIdeal.Gen Cert.Shared Idealize.ShloMosaic Idealize.ShloMosaic.TcCoe Idealize.SL.Sem
open scoped BigOperators

/-- The start of a largest-of is below everything. -/
theorem c_bot : Ideal.ofBits FTy.f32 0xFF800000#32 = ⊥ := by
  simp [Ideal.ofBits, Ideal.ieee]

/-- A layer's exponential, over the largest of the layers. -/
def ex (x : Mat 4 1024) (l : Fin 4) (d : Fin 1024) : EReal :=
  Ideal.exp (x (ix2 l d) - Finset.univ.fold max ⊥ fun k : Fin 4 => x (ix2 k d))

/-- The softmax over the layers. -/
def sm (x : Mat 4 1024) (l : Fin 4) (d : Fin 1024) : EReal := Ideal.div (ex x l d) (∑ k, ex x k d)

/-- The running sum over the layers. -/
def run (f : Fin 4 → EReal) : Fin 4 → EReal
  | ⟨0, _⟩ => f 0
  | ⟨1, _⟩ => f 0 + f 1
  | ⟨2, _⟩ => f 0 + f 1 + f 2
  | ⟨3, _⟩ => f 0 + f 1 + f 2 + f 3

/-- The lower bound of a layer: the running sum less its first. -/
def low (x : Mat 4 1024) (l : Fin 4) (d : Fin 1024) : EReal :=
  run (fun k => sm x k d) l - run (fun k => sm x k d) 0

section Kernel

/-- The body's softmax at an index. -/
theorem soft_apply (x : Mat 4 1024) (l : Fin 4) (d : Fin 1024) : k0_pay4 (F := Ideal) x (ix2 l d) = sm x l d := by
  unfold sm ex
  pointwise [k0_pay4]
  rw [c_bot]

/-- The body's running sums, a layer each. -/
theorem sum0 (x : Mat 4 1024) (d : Fin 1024) : k0_pay5 (F := Ideal) x (ix2 0 d) = run (fun k => sm x k d) 0 := by
  refine Eq.trans ?_ (soft_apply x 0 d)
  pointwise [k0_pay5]
theorem sum1 (x : Mat 4 1024) (d : Fin 1024) : k0_pay6 (F := Ideal) x (ix2 0 d) = run (fun k => sm x k d) 1 := by
  refine Eq.trans ?_ (congrArg₂ (· + ·) (sum0 x d) (soft_apply x 1 d))
  pointwise [k0_pay6]
theorem sum2 (x : Mat 4 1024) (d : Fin 1024) : k0_pay7 (F := Ideal) x (ix2 0 d) = run (fun k => sm x k d) 2 := by
  refine Eq.trans ?_ (congrArg₂ (· + ·) (sum1 x d) (soft_apply x 2 d))
  pointwise [k0_pay7]
theorem sum3 (x : Mat 4 1024) (d : Fin 1024) : k0_pay8 (F := Ideal) x (ix2 0 d) = run (fun k => sm x k d) 3 := by
  refine Eq.trans ?_ (congrArg₂ (· + ·) (sum2 x d) (soft_apply x 3 d))
  pointwise [k0_pay8]

/-- The body's lower bounds, a layer each. -/
theorem low0 (x : Mat 4 1024) (d : Fin 1024) : k0_pay9 (F := Ideal) x (ix2 0 d) = low x 0 d := by
  refine Eq.trans ?_ (congrArg₂ (· - ·) (sum0 x d) (sum0 x d))
  pointwise [k0_pay9]
theorem low1 (x : Mat 4 1024) (d : Fin 1024) : k0_pay12 (F := Ideal) x (ix2 0 d) = low x 1 d := by
  refine Eq.trans ?_ (congrArg₂ (· - ·) (sum1 x d) (sum0 x d))
  pointwise [k0_pay12]
theorem low2 (x : Mat 4 1024) (d : Fin 1024) : k0_pay15 (F := Ideal) x (ix2 0 d) = low x 2 d := by
  refine Eq.trans ?_ (congrArg₂ (· - ·) (sum2 x d) (sum0 x d))
  pointwise [k0_pay15]
theorem low3 (x : Mat 4 1024) (d : Fin 1024) : k0_pay1 (F := Ideal) (k0_pay18 x) (k0_pay19 x) (ix2 0 d) = low x 3 d := by
  refine Eq.trans ?_ (congrArg₂ (· - ·) (sum3 x d) (sum0 x d))
  have e : k0_pay18 (F := Ideal) x = k0_pay5 x := by unfold k0_pay18; rw [View.ld_unit_zero hz]
  have e' : k0_pay19 (F := Ideal) x = k0_pay8 x := by unfold k0_pay19; rw [View.ld_unit_zero hz]
  rw [e, e']
  pointwise [k0_pay1]

/-- The two results at an index. -/
def lg (x : Mat 4 1024) (l : Fin 4) (d : Fin 1024) : EReal := Ideal.log (low x l d)
def lg1 (x : Mat 4 1024) (l : Fin 4) (d : Fin 1024) : EReal := Ideal.log1p (-low x l d)

theorem lg1_of {b : Mat 1 1024} {x : Mat 4 1024} {l : Fin 4} {d : Fin 1024} (h : b (ix2 0 d) = low x l d) :
    log1p (F := Ideal) (φ := .f32) (s := S1x1024) (subf (broadcast S1x1024 (Scalar.ofBits .f32 0x00000000#32)) b) (ix2 0 d) = lg1 x l d := by
  unfold lg1
  rw [← h]
  pointwise
  rw [zero_sub]

/-- The call's first result at an index. -/
theorem first_apply (x : Mat 4 1024) (l : Fin 4) (d : Fin 1024) : Value.G1 (F := Ideal) x (ix2 l d) = lg x l d := by
  unfold Value.G1
  canon_tiles y h
  all_goals have hl : l.val = ((ix2 l d : S4x1024.Idx) 0).val := rfl
  · obtain rfl : l = 3 := Fin.ext (by show l.val = 3; omega)
    obtain rfl : y = ix2 0 d := Shape.idx_ext₂ (by show (y 0).val = 0; omega) h1.symm
    exact congrArg Ideal.log (low3 x d)
  · obtain rfl : l = 2 := Fin.ext (by show l.val = 2; omega)
    obtain rfl : y = ix2 0 d := Shape.idx_ext₂ (by show (y 0).val = 0; omega) h1.symm
    exact congrArg Ideal.log (low2 x d)
  · obtain rfl : l = 1 := Fin.ext (by show l.val = 1; omega)
    obtain rfl : y = ix2 0 d := Shape.idx_ext₂ (by show (y 0).val = 0; omega) h1.symm
    exact congrArg Ideal.log (low1 x d)
  · obtain rfl : l = 0 := Fin.ext (by show l.val = 0; omega)
    obtain rfl : y = ix2 0 d := Shape.idx_ext₂ (by show (y 0).val = 0; omega) h1.symm
    exact congrArg Ideal.log (low0 x d)

/-- The call's second result at an index. -/
theorem second_apply (x : Mat 4 1024) (l : Fin 4) (d : Fin 1024) : Value.G2 (F := Ideal) x (ix2 l d) = lg1 x l d := by
  unfold Value.G2
  canon_tiles y h
  all_goals have hl : l.val = ((ix2 l d : S4x1024.Idx) 0).val := rfl
  · obtain rfl : l = 3 := Fin.ext (by show l.val = 3; omega)
    obtain rfl : y = ix2 0 d := Shape.idx_ext₂ (by show (y 0).val = 0; omega) h1.symm
    exact lg1_of (low3 x d)
  · obtain rfl : l = 2 := Fin.ext (by show l.val = 2; omega)
    obtain rfl : y = ix2 0 d := Shape.idx_ext₂ (by show (y 0).val = 0; omega) h1.symm
    exact lg1_of (low2 x d)
  · obtain rfl : l = 1 := Fin.ext (by show l.val = 1; omega)
    obtain rfl : y = ix2 0 d := Shape.idx_ext₂ (by show (y 0).val = 0; omega) h1.symm
    exact lg1_of (low1 x d)
  · obtain rfl : l = 0 := Fin.ext (by show l.val = 0; omega)
    obtain rfl : y = ix2 0 d := Shape.idx_ext₂ (by show (y 0).val = 0; omega) h1.symm
    exact lg1_of (low0 x d)

end Kernel

section Reference
open Cert.LowerRefIdeal.Read

/-- The reference's softmax at an index. -/
theorem ref_soft (x : Mat 4 1024) (l : Fin 4) (d : Fin 1024) : val_main_v10 (F := Ideal) x (ix2 l d) = sm x l d := by
  unfold sm ex
  pointwise [val_main_v10, val_main_v9, val_main_v8, val_main_v7, val_main_v6, val_main_v5, val_main_v4, val_main_v3, val_main_v2,
    val_main_v1, val_main_v0, val_main_cst, val_main_cst_0, val_main_cst_1]
  simp only [c_bot, bot_le, max_eq_right]

/-- Where a place of a window of four rows and one column lies. -/
theorem place : ∀ n : Fin 4, (((⟨2, ![4, 1]⟩ : Shape).rowMajor.symm n) 0).val = n.val
    ∧ (((⟨2, ![4, 1]⟩ : Shape).rowMajor.symm n) 1).val = 0 := by decide

/-- What a window holds at a position of the padded array: the array's place, or nothing in the padding. -/
def cell (x : Mat 4 1024) (p : Fin 2 → Nat) : EReal :=
  if hin : ∀ a, (![3, 0] : Fin 2 → Nat) a ≤ p a ∧ p a - (![3, 0] : Fin 2 → Nat) a < (⟨2, ![4, 1024]⟩ : Shape).size a then
    x (fun a => ⟨p a - (![3, 0] : Fin 2 → Nat) a, (hin a).2⟩) else 0

theorem cell_in (x : Mat 4 1024) (p : Fin 2 → Nat) (k : Fin 4) (d : Fin 1024) (h0 : p 0 = k.val + 3) (h1 : p 1 = d.val) :
    cell x p = x (ix2 k d) := by
  have hin : ∀ a, (![3, 0] : Fin 2 → Nat) a ≤ p a ∧ p a - (![3, 0] : Fin 2 → Nat) a < (⟨2, ![4, 1024]⟩ : Shape).size a :=
    Fin.forall_fin_two.2 ⟨by show 3 ≤ p 0 ∧ p 0 - 3 < 4; omega, by show 0 ≤ p 1 ∧ p 1 - 0 < 1024; omega⟩
  refine (dif_pos hin).trans (congrArg x (Shape.idx_ext₂ ?_ ?_))
  · show p 0 - 3 = k.val; omega
  · show p 1 - 0 = d.val; omega

theorem cell_out (x : Mat 4 1024) (p : Fin 2 → Nat) (h0 : p 0 < 3) : cell x p = 0 :=
  dif_neg fun hin => by have : 3 ≤ p 0 := (hin 0).1; omega

/-- The position in the padded array of place `n` of the window that ends at row `l`. -/
def pos (l : Fin 4) (d : Fin 1024) (n : Fin 4) : Fin 2 → Nat :=
  fun a => ((ix2 l d : S4x1024.Idx) a).val * (![1, 1] : Fin 2 → Nat) a + (((⟨2, ![4, 1]⟩ : Shape).rowMajor.symm n) a).val

theorem pos0 (l : Fin 4) (d : Fin 1024) (n : Fin 4) : pos l d n 0 = l.val + n.val := by
  show l.val * 1 + _ = _; rw [(place n).1]; omega
theorem pos1 (l : Fin 4) (d : Fin 1024) (n : Fin 4) : pos l d n 1 = d.val := by
  show d.val * 1 + _ = _; rw [(place n).2]; omega

/-- The sum over the window that ends at a row is the running sum there. -/
theorem cells (x : Mat 4 1024) (l : Fin 4) (d : Fin 1024) :
    0 + cell x (pos l d 0) + cell x (pos l d 1) + cell x (pos l d 2) + cell x (pos l d 3) = run (fun k => x (ix2 k d)) l := by
  have o : ∀ n : Fin 4, l.val + n.val < 3 → cell x (pos l d n) = 0 := fun n h => cell_out x _ (by rw [pos0]; exact h)
  have i : ∀ n k : Fin 4, l.val + n.val = k.val + 3 → cell x (pos l d n) = x (ix2 k d) := fun n k h =>
    cell_in x _ k d (by rw [pos0]; exact h) (pos1 l d n)
  match l, o, i with
  | 0, o, i =>
    rw [o 0 (by decide), o 1 (by decide), o 2 (by decide), i 3 0 (by decide)]
    simp only [zero_add]
    rfl
  | 1, o, i =>
    rw [o 0 (by decide), o 1 (by decide), i 2 0 (by decide), i 3 1 (by decide)]
    simp only [zero_add]
    rfl
  | 2, o, i =>
    rw [o 0 (by decide), i 1 0 (by decide), i 2 1 (by decide), i 3 2 (by decide)]
    simp only [zero_add]
    rfl
  | 3, o, i =>
    rw [i 0 0 (by decide), i 1 1 (by decide), i 2 2 (by decide), i 3 3 (by decide)]
    simp only [zero_add]
    rfl

/-- The reference's running sum at an index. -/
theorem ref_run (x : Mat 4 1024) (l : Fin 4) (d : Fin 1024) :
    val_main_v11 (F := Ideal) x (ix2 l d) = run (fun k => sm x k d) l := by
  have hz : (val_main_call0_call0_v0 (F := Ideal)) (Shape.Idx.first (Cert.LowerRefIdeal.Gen.facts.toFacts₀.h_S_)) = (0 : EReal) := by
    pointwise [val_main_call0_call0_v0, val_main_call0_call0_cst]
  unfold val_main_v11
  generalize hy : val_main_v10 (F := Ideal) x = y
  have hs : ∀ k, y (ix2 k d) = sm x k d := fun k => by rw [← hy]; exact ref_soft x k d
  refine Eq.trans ?_ ((cells y l d).trans (congrArg (fun f => run f l) (funext hs)))
  refine (show _ = Ideal.hostReduceWindowAdd ![4, 1] ![1, 1] ![3, 0] ![0, 0] Cert.LowerRefIdeal.Gen.facts.toFacts₀.reduceWindows_S4x1024_S4x1024_w4s1p3_0_w1s1p0_0 y
    ((val_main_call0_call0_v0 (F := Ideal)) (Shape.Idx.first (Cert.LowerRefIdeal.Gen.facts.toFacts₀.h_S_))) (ix2 l d) from rfl).trans ?_
  rw [hz]
  unfold Ideal.hostReduceWindowAdd Host.reduceWindow
  show List.foldl _ _ ([0, 1, 2, 3] : List (Fin 4)) = _
  simp only [List.foldl]
  refine congrArg₂ (· + ·) (congrArg₂ (· + ·) (congrArg₂ (· + ·) (congrArg₂ (· + ·) rfl ?_) ?_) ?_) ?_
  all_goals exact dite_congr rfl (fun _ => rfl) (fun _ => rfl)

/-- The reference's two results at an index. -/
theorem ref_first (x : Mat 4 1024) (l : Fin 4) (d : Fin 1024) : val_main_v15 (F := Ideal) x (ix2 l d) = lg x l d := by
  refine Eq.trans ?_ (congrArg Ideal.log (congrArg₂ (· - ·) (ref_run x l d) (ref_run x 0 d)))
  pointwise [val_main_v15, val_main_v14, val_main_v13, val_main_v12]
theorem ref_second (x : Mat 4 1024) (l : Fin 4) (d : Fin 1024) : val_main_v17 (F := Ideal) x (ix2 l d) = lg1 x l d := by
  refine Eq.trans ?_ (congrArg (fun z : EReal => Ideal.log1p (-z)) (congrArg₂ (· - ·) (ref_run x l d) (ref_run x 0 d)))
  pointwise [val_main_v17, val_main_v16, val_main_v14, val_main_v13, val_main_v12]

end Reference

variable (m : (b : Loc nD τ sig) → Buf (Elt Ideal) b)

/-- What the call is given. -/
abbrev aX (c : Dev nD) : Mat 4 1024 := m ((c : Thread nD τ).loc main_arg0)

theorem first_eq (x : Mat 4 1024) : Value.G1 (F := Ideal) x = Cert.LowerRefIdeal.Read.val_main_v15 (F := Ideal) x := by
  funext (i : S4x1024.Idx)
  idx_vars i
  exact (first_apply x _ _).trans (ref_first x _ _).symm
theorem second_eq (x : Mat 4 1024) : Value.G2 (F := Ideal) x = Cert.LowerRefIdeal.Read.val_main_v17 (F := Ideal) x := by
  funext (i : S4x1024.Idx)
  idx_vars i
  exact (second_apply x _ _).trans (ref_second x _ _).symm

/-- The bounds' call computes the reference's two results. -/
theorem algebraic : algebraic_LowerIdeal_LowerRefIdeal :=
  fun m ρ m' ρ' _ hag => ⟨fun c => Cert.LowerRefIdeal.Read.val_main_v15 (F := Ideal) (aX m c),
    fun c => Cert.LowerRefIdeal.Read.val_main_v17 (F := Ideal) (aX m c),
    (θ_run _ _ _).mono (fun _ h c => ⟨(h c).1.trans (first_eq (aX m c)), (h c).2.1.trans (second_eq (aX m c)), (h c).2.2⟩) (Value.run m ρ),
    (θ_run _ _ _).mono (fun _ h c => ⟨(h c).1.trans ((show _ = Cert.LowerRefIdeal.Read.val_main_v15 (F := Ideal) _ from rfl).trans
        (congrArg (Cert.LowerRefIdeal.Read.val_main_v15 (F := Ideal)) (hag c))),
      (h c).2.1.trans ((show _ = Cert.LowerRefIdeal.Read.val_main_v17 (F := Ideal) _ from rfl).trans
        (congrArg (Cert.LowerRefIdeal.Read.val_main_v17 (F := Ideal)) (hag c))), (h c).2.2⟩) (Cert.LowerRefIdeal.Value.run m' ρ')⟩

end Cert.LowerIdeal.RefValue

end
-- ==== Proof.lean ====
module

public import proofs.«01_k».proof.Defs
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InARefIdeal
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBRefIdeal
public import proofs.«01_k».proof.Proof.Gen.InC
public import proofs.«01_k».proof.Proof.Gen.InC.Skeleton
public import proofs.«01_k».proof.Proof.Gen.InC.Launch
public import proofs.«01_k».proof.Proof.Gen.InC.Points
public import proofs.«01_k».proof.Proof.Gen.InC.Frame
public import proofs.«01_k».proof.Proof.Gen.InCIdeal
public import proofs.«01_k».proof.Proof.Gen.InCIdeal.Skeleton
public import proofs.«01_k».proof.Proof.Gen.InCIdeal.Launch
public import proofs.«01_k».proof.Proof.Gen.InCIdeal.Points
public import proofs.«01_k».proof.Proof.Gen.InCIdeal.Frame
public import proofs.«01_k».proof.Proof.Gen.InCRefIdeal
public import proofs.«01_k».proof.Proof.Gen.InG
public import proofs.«01_k».proof.Proof.Gen.InG.Skeleton
public import proofs.«01_k».proof.Proof.Gen.InG.Launch
public import proofs.«01_k».proof.Proof.Gen.InG.Points
public import proofs.«01_k».proof.Proof.Gen.InG.Frame
public import proofs.«01_k».proof.Proof.Gen.InGIdeal
public import proofs.«01_k».proof.Proof.Gen.InGIdeal.Skeleton
public import proofs.«01_k».proof.Proof.Gen.InGIdeal.Launch
public import proofs.«01_k».proof.Proof.Gen.InGIdeal.Points
public import proofs.«01_k».proof.Proof.Gen.InGIdeal.Frame
public import proofs.«01_k».proof.Proof.Gen.InGRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Lower
public import proofs.«01_k».proof.Proof.Gen.Lower.Skeleton
public import proofs.«01_k».proof.Proof.Gen.Lower.Launch
public import proofs.«01_k».proof.Proof.Gen.Lower.Points
public import proofs.«01_k».proof.Proof.Gen.Lower.Frame
public import proofs.«01_k».proof.Proof.Gen.LowerIdeal
public import proofs.«01_k».proof.Proof.Gen.LowerIdeal.Skeleton
public import proofs.«01_k».proof.Proof.Gen.LowerIdeal.Launch
public import proofs.«01_k».proof.Proof.Gen.LowerIdeal.Points
public import proofs.«01_k».proof.Proof.Gen.LowerIdeal.Frame
public import proofs.«01_k».proof.Proof.Gen.LowerRefIdeal
public import proofs.«01_k».proof.Proof.Gen.AttnSample
public import proofs.«01_k».proof.Proof.Gen.AttnSample.Skeleton
public import proofs.«01_k».proof.Proof.Gen.AttnSample.Launch
public import proofs.«01_k».proof.Proof.Gen.AttnSample.Points
public import proofs.«01_k».proof.Proof.Gen.AttnSample.Frame
public import proofs.«01_k».proof.Proof.Gen.AttnSampleIdeal
public import proofs.«01_k».proof.Proof.Gen.AttnSampleIdeal.Skeleton
public import proofs.«01_k».proof.Proof.Gen.AttnSampleIdeal.Launch
public import proofs.«01_k».proof.Proof.Gen.AttnSampleIdeal.Points
public import proofs.«01_k».proof.Proof.Gen.AttnSampleIdeal.Frame
public import proofs.«01_k».proof.Proof.Gen.AttnSampleRefIdeal
public import proofs.«01_k».proof.Proof.Gen.AttnPrompt
public import proofs.«01_k».proof.Proof.Gen.AttnPrompt.Skeleton
public import proofs.«01_k».proof.Proof.Gen.AttnPrompt.Launch
public import proofs.«01_k».proof.Proof.Gen.AttnPrompt.Points
public import proofs.«01_k».proof.Proof.Gen.AttnPrompt.Frame
public import proofs.«01_k».proof.Proof.Gen.AttnPromptIdeal
public import proofs.«01_k».proof.Proof.Gen.AttnPromptIdeal.Skeleton
public import proofs.«01_k».proof.Proof.Gen.AttnPromptIdeal.Launch
public import proofs.«01_k».proof.Proof.Gen.AttnPromptIdeal.Points
public import proofs.«01_k».proof.Proof.Gen.AttnPromptIdeal.Frame
public import proofs.«01_k».proof.Proof.Gen.AttnPromptRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.SguIdeal.Value
public import proofs.«01_k».proof.Proof.Gen.SguRefIdeal.Run
public import proofs.«01_k».proof.Proof.Gen.SguRefIdeal.Read
public import proofs.«01_k».proof.Proof.Gen.InAIdeal.Value
public import proofs.«01_k».proof.Proof.Gen.InARefIdeal.Run
public import proofs.«01_k».proof.Proof.Gen.InARefIdeal.Read
public import proofs.«01_k».proof.Proof.Gen.InBIdeal.Value
public import proofs.«01_k».proof.Proof.Gen.InBRefIdeal.Run
public import proofs.«01_k».proof.Proof.Gen.InBRefIdeal.Read
public import proofs.«01_k».proof.Proof.Gen.InCIdeal.Value
public import proofs.«01_k».proof.Proof.Gen.InCRefIdeal.Run
public import proofs.«01_k».proof.Proof.Gen.InCRefIdeal.Read
public import proofs.«01_k».proof.Proof.Gen.InGIdeal.Value
public import proofs.«01_k».proof.Proof.Gen.InGRefIdeal.Run
public import proofs.«01_k».proof.Proof.Gen.InGRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.Pre_prompt_finite
public import proofs.«01_k».proof.Proof.SguValue
public import proofs.«01_k».proof.Proof.InAValue
public import proofs.«01_k».proof.Proof.InBValue
public import proofs.«01_k».proof.Proof.InCValue
public import proofs.«01_k».proof.Proof.InGValue
public import proofs.«01_k».proof.Proof.MergeValue
public import proofs.«01_k».proof.Proof.OutValue
public import proofs.«01_k».proof.Proof.DownValue
public import proofs.«01_k».proof.Proof.UpValue
public import proofs.«01_k».proof.Proof.NormValue
public import proofs.«01_k».proof.Proof.AttnPromptValue
public import proofs.«01_k».proof.Proof.AttnSampleValue
public import proofs.«01_k».proof.Proof.LowerValue
public import Idealize.ShloMosaic.Lib.Quiescent
public import Idealize.ShloMosaic.Adequacy
public import Idealize.ShloMosaic.Init

@[expose] public section

noncomputable section

namespace Cert.Proof

open Idealize.ShloMosaic Idealize.SL.Sem

/-! ### The references keep their arguments

A reference runs on the host alone: its run keeps the arguments and declares no semaphore. -/

theorem keepsSgu : Cert.quiescent_SguRefIdeal := fun m ρ _ =>
  (θ_run _ _ _).mono (fun r h => ⟨fun c => (h c).2.2, sem_eq_zero_of_no_sems (by decide) r.2⟩) (Cert.SguRefIdeal.Value.run (F := Ideal) m ρ)
theorem keepsInA : Cert.quiescent_InARefIdeal := fun m ρ _ =>
  (θ_run _ _ _).mono (fun r h => ⟨fun c => (h c).2, sem_eq_zero_of_no_sems (by decide) r.2⟩) (Cert.InARefIdeal.Value.run (F := Ideal) m ρ)
theorem keepsInB : Cert.quiescent_InBRefIdeal := fun m ρ _ =>
  (θ_run _ _ _).mono (fun r h => ⟨fun c => (h c).2, sem_eq_zero_of_no_sems (by decide) r.2⟩) (Cert.InBRefIdeal.Value.run (F := Ideal) m ρ)
theorem keepsInC : Cert.quiescent_InCRefIdeal := fun m ρ _ =>
  (θ_run _ _ _).mono (fun r h => ⟨fun c => (h c).2, sem_eq_zero_of_no_sems (by decide) r.2⟩) (Cert.InCRefIdeal.Value.run (F := Ideal) m ρ)
theorem keepsInG : Cert.quiescent_InGRefIdeal := fun m ρ _ =>
  (θ_run _ _ _).mono (fun r h => ⟨fun c => (h c).2, sem_eq_zero_of_no_sems (by decide) r.2⟩) (Cert.InGRefIdeal.Value.run (F := Ideal) m ρ)
theorem keepsMerge : Cert.quiescent_MergeRefIdeal := fun m ρ _ =>
  (θ_run _ _ _).mono (fun r h => ⟨fun c => (h c).2, sem_eq_zero_of_no_sems (by decide) r.2⟩) (Cert.MergeRefIdeal.Value.run (F := Ideal) m ρ)
theorem keepsOut : Cert.quiescent_OutRefIdeal := fun m ρ _ =>
  (θ_run _ _ _).mono (fun r h => ⟨fun c => (h c).2, sem_eq_zero_of_no_sems (by decide) r.2⟩) (Cert.OutRefIdeal.Value.run (F := Ideal) m ρ)
theorem keepsDown : Cert.quiescent_DownRefIdeal := fun m ρ _ =>
  (θ_run _ _ _).mono (fun r h => ⟨fun c => (h c).2, sem_eq_zero_of_no_sems (by decide) r.2⟩) (Cert.DownRefIdeal.Value.run (F := Ideal) m ρ)
theorem keepsUp : Cert.quiescent_UpRefIdeal := fun m ρ _ =>
  (θ_run _ _ _).mono (fun r h => ⟨fun c => (h c).2, sem_eq_zero_of_no_sems (by decide) r.2⟩) (Cert.UpRefIdeal.Value.run (F := Ideal) m ρ)
theorem keepsNorm : Cert.quiescent_NormRefIdeal := fun m ρ _ =>
  (θ_run _ _ _).mono (fun r h => ⟨fun c => (h c).2, sem_eq_zero_of_no_sems (by decide) r.2⟩) (Cert.NormRefIdeal.Value.run (F := Ideal) m ρ)
theorem keepsAttnPrompt : Cert.quiescent_AttnPromptRefIdeal := fun m ρ _ =>
  (θ_run _ _ _).mono (fun r h => ⟨fun c => (h c).2.2.2, sem_eq_zero_of_no_sems (by decide) r.2⟩) (Cert.AttnPromptRefIdeal.Value.run (F := Ideal) m ρ)
theorem keepsAttnSample : Cert.quiescent_AttnSampleRefIdeal := fun m ρ _ =>
  (θ_run _ _ _).mono (fun r h => ⟨fun c => (h c).2.2, sem_eq_zero_of_no_sems (by decide) r.2⟩) (Cert.AttnSampleRefIdeal.Value.run (F := Ideal) m ρ)
theorem keepsLower : Cert.quiescent_LowerRefIdeal := fun m ρ _ =>
  (θ_run _ _ _).mono (fun r h => ⟨fun c => (h c).2.2, sem_eq_zero_of_no_sems (by decide) r.2⟩) (Cert.LowerRefIdeal.Value.run (F := Ideal) m ρ)

/-- All the claims. -/
theorem claim : Cert.Claim := ⟨Cert.Sgu.Gen.facts, Cert.SguIdeal.Gen.facts, Cert.SguRefIdeal.Gen.facts,
  Cert.InA.Gen.facts, Cert.InAIdeal.Gen.facts, Cert.InARefIdeal.Gen.facts,
  Cert.InB.Gen.facts, Cert.InBIdeal.Gen.facts, Cert.InBRefIdeal.Gen.facts,
  Cert.InC.Gen.facts, Cert.InCIdeal.Gen.facts, Cert.InCRefIdeal.Gen.facts,
  Cert.InG.Gen.facts, Cert.InGIdeal.Gen.facts, Cert.InGRefIdeal.Gen.facts,
  Cert.Merge.Gen.facts, Cert.MergeIdeal.Gen.facts, Cert.MergeRefIdeal.Gen.facts,
  Cert.Out.Gen.facts, Cert.OutIdeal.Gen.facts, Cert.OutRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Norm.Gen.facts, Cert.NormIdeal.Gen.facts, Cert.NormRefIdeal.Gen.facts,
  Cert.AttnPrompt.Gen.facts, Cert.AttnPromptIdeal.Gen.facts, Cert.AttnPromptRefIdeal.Gen.facts,
  Cert.AttnSample.Gen.facts, Cert.AttnSampleIdeal.Gen.facts, Cert.AttnSampleRefIdeal.Gen.facts,
  Cert.Lower.Gen.facts, Cert.LowerIdeal.Gen.facts, Cert.LowerRefIdeal.Gen.facts,
  Cert.Pre_prompt_finite.Gen.facts,
  fun m ρ _ => Cert.Sgu.Gen.frame m ρ, fun m ρ _ => Cert.SguIdeal.Gen.frame m ρ, keepsSgu,
  fun m ρ _ => Cert.InA.Gen.frame m ρ, fun m ρ _ => Cert.InAIdeal.Gen.frame m ρ, keepsInA,
  fun m ρ _ => Cert.InB.Gen.frame m ρ, fun m ρ _ => Cert.InBIdeal.Gen.frame m ρ, keepsInB,
  fun m ρ _ => Cert.InC.Gen.frame m ρ, fun m ρ _ => Cert.InCIdeal.Gen.frame m ρ, keepsInC,
  fun m ρ _ => Cert.InG.Gen.frame m ρ, fun m ρ _ => Cert.InGIdeal.Gen.frame m ρ, keepsInG,
  fun m ρ _ => Cert.Merge.Gen.frame m ρ, fun m ρ _ => Cert.MergeIdeal.Gen.frame m ρ, keepsMerge,
  fun m ρ _ => Cert.Out.Gen.frame m ρ, fun m ρ _ => Cert.OutIdeal.Gen.frame m ρ, keepsOut,
  fun m ρ _ => Cert.Down.Gen.frame m ρ, fun m ρ _ => Cert.DownIdeal.Gen.frame m ρ, keepsDown,
  fun m ρ _ => Cert.Up.Gen.frame m ρ, fun m ρ _ => Cert.UpIdeal.Gen.frame m ρ, keepsUp,
  fun m ρ _ => Cert.Norm.Gen.frame m ρ, fun m ρ _ => Cert.NormIdeal.Gen.frame m ρ, keepsNorm,
  fun m ρ _ => Cert.AttnPrompt.Gen.frame m ρ, fun m ρ _ => Cert.AttnPromptIdeal.Gen.frame m ρ, fun m ρ _ => Cert.AttnPromptIdeal.Gen.frame m ρ, keepsAttnPrompt, fun m ρ _ => keepsAttnPrompt m ρ trivial,
  fun m ρ _ => Cert.AttnSample.Gen.frame m ρ, fun m ρ _ => Cert.AttnSampleIdeal.Gen.frame m ρ, keepsAttnSample,
  fun m ρ _ => Cert.Lower.Gen.frame m ρ, fun m ρ _ => Cert.LowerIdeal.Gen.frame m ρ, keepsLower,
  trivial, Cert.SguIdeal.RefValue.algebraic,
  trivial, Cert.InAIdeal.RefValue.algebraic,
  trivial, Cert.InBIdeal.RefValue.algebraic,
  trivial, Cert.InCIdeal.RefValue.algebraic,
  trivial, Cert.InGIdeal.RefValue.algebraic,
  trivial, Cert.MergeIdeal.RefValue.algebraic,
  trivial, Cert.OutIdeal.RefValue.algebraic,
  trivial, Cert.DownIdeal.RefValue.algebraic,
  trivial, Cert.UpIdeal.RefValue.algebraic,
  trivial, Cert.NormIdeal.RefValue.algebraic,
  trivial, Cert.AttnPromptIdeal.RefValue.algebraic,
  trivial, Cert.AttnSampleIdeal.RefValue.algebraic,
  trivial, Cert.LowerIdeal.RefValue.algebraic⟩

end Cert.Proof

end
